-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.1 = (fun _ => 1#1)
    ∧ (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2 = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2 = (fun _ => 1#1)

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v257) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_experts_exist : Cert.Pre_experts_exist.Facts) (hPre_routed : Cert.Pre_routed.Facts) (hPre_finite_scores : Cert.Pre_finite_scores.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Kernel2Ideal_pre_routed (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_routed (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_experts_exist.lean ====
abbrev S39424x1024 : Shape := ⟨2, ![39424, 1024]⟩
abbrev S39424x2 : Shape := ⟨2, ![39424, 2]⟩
abbrev S154 : Shape := ⟨1, ![154]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S154 : S_.BroadcastsInDim S154 (![] : Fin 0 → Fin S154.rank)

variable [Facts]

def fn {F : FTy → Type} [FloatOps F] (main_arg0 : FVec F S39424x1024 .f32) (main_arg1 : FVec F S39424x2 .f32) (main_arg2 : IVec S154 32) (main_arg3 : IVec S154 32) (main_arg4 : IVec S154 32) (main_arg5 : FVec F S4x16x1024x512 .f32) (main_arg6 : FVec F S4x16x1024x512 .f32) (main_arg7 : FVec F S4x16x512x1024 .f32) : IVec S154 1 × IVec S154 1 × IVec S154 1 × IVec S154 1 :=
  let main_c : IVec S_ 32 := constantI S_ 32 0#32
  let main_v0 : IVec S154 32 := broadcastInDim S154 ![] bcast_S_S154 main_c
  let main_v1 : IVec S154 1 := cmpi .sge main_arg2 main_v0
  let main_c_0 : IVec S_ 32 := constantI S_ 32 16#32
  let main_v2 : IVec S154 32 := broadcastInDim S154 ![] bcast_S_S154 main_c_0
  let main_v3 : IVec S154 1 := cmpi .slt main_arg2 main_v2
  let main_c_1 : IVec S_ 32 := constantI S_ 32 0#32
  let main_v4 : IVec S154 32 := broadcastInDim S154 ![] bcast_S_S154 main_c_1
  let main_v5 : IVec S154 1 := cmpi .sge main_arg3 main_v4
  let main_c_2 : IVec S_ 32 := constantI S_ 32 16#32
  let main_v6 : IVec S154 32 := broadcastInDim S154 ![] bcast_S_S154 main_c_2
  let main_v7 : IVec S154 1 := cmpi .slt main_arg3 main_v6
  (main_v1, main_v3, main_v5, main_v7)
-- ==== Pre_finite_qk.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S_ : Shape := ⟨0, ![]⟩

class Facts : Prop where
  bcast_S_S2x16384x8x96 : S_.BroadcastsInDim S2x16384x8x96 (![] : Fin 0 → Fin S2x16384x8x96.rank)
  bcast_S_S2x256x8x96 : S_.BroadcastsInDim S2x256x8x96 (![] : Fin 0 → Fin S2x256x8x96.rank)

variable [Facts]

def fn {F : FTy → Type} [FloatOps F] (main_arg0 : FVec F S2x16384x8x96 .f32) (main_arg1 : FVec F S2x16384x8x96 .f32) (main_arg2 : FVec F S2x16384x8x64 .f32) (main_arg3 : FVec F S2x256x8x96 .f32) (main_arg4 : FVec F S2x256x8x64 .f32) : IVec S2x16384x8x96 1 × IVec S2x16384x8x96 1 × IVec S2x256x8x96 1 :=
  let main_v0 : FVec F S2x16384x8x96 .f32 := Host.absf main_arg0
  let main_cst : FVec F S_ .f32 := constant S_ .f32 0x7F800000#32
  let main_v1 : FVec F S2x16384x8x96 .f32 := broadcastInDim S2x16384x8x96 ![] bcast_S_S2x16384x8x96 main_cst
  let main_v2 : IVec S2x16384x8x96 1 := cmpf .olt main_v0 main_v1
  let main_v3 : FVec F S2x16384x8x96 .f32 := Host.absf main_arg1
  let main_cst_0 : FVec F S_ .f32 := constant S_ .f32 0x7F800000#32
  let main_v4 : FVec F S2x16384x8x96 .f32 := broadcastInDim S2x16384x8x96 ![] bcast_S_S2x16384x8x96 main_cst_0
  let main_v5 : IVec S2x16384x8x96 1 := cmpf .olt main_v3 main_v4
  let main_v6 : FVec F S2x256x8x96 .f32 := Host.absf main_arg3
  let main_cst_1 : FVec F S_ .f32 := constant S_ .f32 0x7F800000#32
  let main_v7 : FVec F S2x256x8x96 .f32 := broadcastInDim S2x256x8x96 ![] bcast_S_S2x256x8x96 main_cst_1
  let main_v8 : IVec S2x256x8x96 1 := cmpf .olt main_v6 main_v7
  (main_v2, main_v5, main_v8)
-- ==== Pre_finite_scores.lean ====
abbrev S2x16384x12x64 : Shape := ⟨4, ![2, 16384, 12, 64]⟩
abbrev S2x16384x4x64 : Shape := ⟨4, ![2, 16384, 4, 64]⟩
abbrev S2x256x4x64 : Shape := ⟨4, ![2, 256, 4, 64]⟩
abbrev S12 : Shape := ⟨1, ![12]⟩
abbrev S_ : Shape := ⟨0, ![]⟩

class Facts : Prop where
  bcast_S_S2x16384x12x64 : S_.BroadcastsInDim S2x16384x12x64 (![] : Fin 0 → Fin S2x16384x12x64.rank)
  bcast_S_S2x16384x4x64 : S_.BroadcastsInDim S2x16384x4x64 (![] : Fin 0 → Fin S2x16384x4x64.rank)
  bcast_S_S2x256x4x64 : S_.BroadcastsInDim S2x256x4x64 (![] : Fin 0 → Fin S2x256x4x64.rank)
  bcast_S_S12 : S_.BroadcastsInDim S12 (![] : Fin 0 → Fin S12.rank)

variable [Facts]

def fn {F : FTy → Type} [FloatOps F] (main_arg0 : FVec F S2x16384x12x64 .f32) (main_arg1 : FVec F S2x16384x4x64 .f32) (main_arg2 : FVec F S2x16384x4x64 .f32) (main_arg3 : FVec F S2x256x4x64 .f32) (main_arg4 : FVec F S2x256x4x64 .f32) (main_arg5 : FVec F S12 .f32) : IVec S2x16384x12x64 1 × IVec S2x16384x4x64 1 × IVec S2x256x4x64 1 × IVec S12 1 :=
  let main_v0 : FVec F S2x16384x12x64 .f32 := Host.absf main_arg0
  let main_cst : FVec F S_ .f32 := constant S_ .f32 0x7F800000#32
  let main_v1 : FVec F S2x16384x12x64 .f32 := broadcastInDim S2x16384x12x64 ![] bcast_S_S2x16384x12x64 main_cst
  let main_v2 : IVec S2x16384x12x64 1 := cmpf .olt main_v0 main_v1
  let main_v3 : FVec F S2x16384x4x64 .f32 := Host.absf main_arg1
  let main_cst_0 : FVec F S_ .f32 := constant S_ .f32 0x7F800000#32
  let main_v4 : FVec F S2x16384x4x64 .f32 := broadcastInDim S2x16384x4x64 ![] bcast_S_S2x16384x4x64 main_cst_0
  let main_v5 : IVec S2x16384x4x64 1 := cmpf .olt main_v3 main_v4
  let main_v6 : FVec F S2x256x4x64 .f32 := Host.absf main_arg3
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  let main_cst_2 : FVec F S_ .f32 := constant S_ .f32 0x7F800000#32
  let main_v9 : FVec F S12 .f32 := broadcastInDim S12 ![] bcast_S_S12 main_cst_2
  let main_v10 : IVec S12 1 := cmpf .olt main_arg5 main_v9
  (main_v2, main_v5, main_v8, main_v10)
-- ==== Pre_routed.lean ====
abbrev S39424x1024 : Shape := ⟨2, ![39424, 1024]⟩
abbrev S39424x2 : Shape := ⟨2, ![39424, 2]⟩
abbrev S154 : Shape := ⟨1, ![154]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S154 : S_.BroadcastsInDim S154 (![] : Fin 0 → Fin S154.rank)
  bcast_S_S39424x2 : S_.BroadcastsInDim S39424x2 (![] : Fin 0 → Fin S39424x2.rank)

variable [Facts]

def fn {F : FTy → Type} [FloatOps F] (main_arg0 : FVec F S39424x1024 .f32) (main_arg1 : FVec F S39424x2 .f32) (main_arg2 : IVec S154 32) (main_arg3 : IVec S154 32) (main_arg4 : IVec S154 32) (main_arg5 : FVec F S4x16x1024x512 .f32) (main_arg6 : FVec F S4x16x1024x512 .f32) (main_arg7 : FVec F S4x16x512x1024 .f32) : IVec S154 1 × IVec S154 1 × IVec S154 1 × IVec S154 1 × IVec S39424x2 1 × IVec S39424x2 1 :=
  let main_c : IVec S_ 32 := constantI S_ 32 0#32
  let main_v0 : IVec S154 32 := broadcastInDim S154 ![] bcast_S_S154 main_c
  let main_v1 : IVec S154 1 := cmpi .sge main_arg2 main_v0
  let main_c_0 : IVec S_ 32 := constantI S_ 32 16#32
  let main_v2 : IVec S154 32 := broadcastInDim S154 ![] bcast_S_S154 main_c_0
  let main_v3 : IVec S154 1 := cmpi .slt main_arg2 main_v2
  let main_c_1 : IVec S_ 32 := constantI S_ 32 0#32
  let main_v4 : IVec S154 32 := broadcastInDim S154 ![] bcast_S_S154 main_c_1
  let main_v5 : IVec S154 1 := cmpi .sge main_arg3 main_v4
  let main_c_2 : IVec S_ 32 := constantI S_ 32 16#32
  let main_v6 : IVec S154 32 := broadcastInDim S154 ![] bcast_S_S154 main_c_2
  let main_v7 : IVec S154 1 := cmpi .slt main_arg3 main_v6
  let main_cst : FVec F S_ .f32 := constant S_ .f32 0x00000000#32
  let main_v8 : FVec F S39424x2 .f32 := broadcastInDim S39424x2 ![] bcast_S_S39424x2 main_cst
  let main_v9 : IVec S39424x2 1 := cmpf .oge main_arg1 main_v8
  let main_cst_3 : FVec F S_ .f32 := constant S_ .f32 0x7F800000#32
  let main_v10 : FVec F S39424x2 .f32 := broadcastInDim S39424x2 ![] bcast_S_S39424x2 main_cst_3
  let main_v11 : IVec S39424x2 1 := cmpf .olt main_arg1 main_v10
  (main_v1, main_v3, main_v5, main_v7, main_v9, main_v11)
-- ==== Kernel.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S_ : Shape := ⟨0, ![]⟩
abbrev S2x16640x8x128 : Shape := ⟨4, ![2, 16640, 8, 128]⟩
abbrev S2x16640x8x96 : Shape := ⟨4, ![2, 16640, 8, 96]⟩
abbrev S2x16640x8x64 : Shape := ⟨4, ![2, 16640, 8, 64]⟩
abbrev S2x16640x1024 : Shape := ⟨3, ![2, 16640, 1024]⟩
abbrev S2x16384x1024 : Shape := ⟨3, ![2, 16384, 1024]⟩
abbrev S1x512x128 : Shape := ⟨3, ![1, 512, 128]⟩
abbrev S1x16640x128 : Shape := ⟨3, ![1, 16640, 128]⟩
abbrev S2x512x2048 : Shape := ⟨3, ![2, 512, 2048]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x512x2048 : Shape := ⟨3, ![1, 512, 2048]⟩
abbrev S512x1 : Shape := ⟨2, ![512, 1]⟩
abbrev S512 : Shape := ⟨1, ![512]⟩
abbrev S1x256x128 : Shape := ⟨3, ![1, 256, 128]⟩
abbrev S256x128 : Shape := ⟨2, ![256, 128]⟩
abbrev S512x256 : Shape := ⟨2, ![512, 256]⟩
abbrev S1x128 : Shape := ⟨2, ![1, 128]⟩
abbrev S2x16384x8x128 : Shape := ⟨4, ![2, 16384, 8, 128]⟩
abbrev S2x16384x512 : Shape := ⟨3, ![2, 16384, 512]⟩

abbrev nBuf : Space → Nat
  | .hbm => 32
  | .vmem => 9
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S2x256x8x96, .f32⟩
  | .hbm, ⟨4, _⟩ => ⟨S2x256x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x16384x8x96, .f32⟩
  | .hbm, ⟨10, _⟩ => ⟨S2x16384x8x96, .f32⟩
  | .hbm, ⟨11, _⟩ => ⟨S_, .i32⟩
  | .hbm, ⟨12, _⟩ => ⟨S_, .f32⟩
  | .hbm, ⟨13, _⟩ => ⟨S2x16640x8x128, .f32⟩
  | .hbm, ⟨14, _⟩ => ⟨S2x16640x8x128, .bf16⟩
  | .hbm, ⟨15, _⟩ => ⟨S2x16640x8x96, .f32⟩
  | .hbm, ⟨16, _⟩ => ⟨S_, .i32⟩
  | .hbm, ⟨17, _⟩ => ⟨S_, .f32⟩
  | .hbm, ⟨18, _⟩ => ⟨S2x16640x8x128, .f32⟩
  | .hbm, ⟨19, _⟩ => ⟨S2x16640x8x128, .bf16⟩
  | .hbm, ⟨20, _⟩ => ⟨S2x16640x8x64, .f32⟩
  | .hbm, ⟨21, _⟩ => ⟨S_, .f32⟩
  | .hbm, ⟨22, _⟩ => ⟨S_, .f32⟩
  | .hbm, ⟨23, _⟩ => ⟨S2x16640x8x128, .f32⟩
  | .hbm, ⟨24, _⟩ => ⟨S2x16640x8x128, .bf16⟩
  | .hbm, ⟨25, _⟩ => ⟨S2x16640x1024, .bf16⟩
  | .hbm, ⟨26, _⟩ => ⟨S2x16640x1024, .bf16⟩
  | .hbm, ⟨27, _⟩ => ⟨S2x16640x1024, .bf16⟩
  | .hbm, ⟨28, _⟩ => ⟨S2x16384x1024, .bf16⟩
  | .hbm, ⟨29, _⟩ => ⟨S2x16384x8x128, .bf16⟩
  | .hbm, ⟨30, _⟩ => ⟨S2x16384x8x64, .bf16⟩
  | .hbm, ⟨31, _⟩ => ⟨S2x16384x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x2048, .f32⟩
  | _, _ => ⟨S2x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 : BitVec 32 :=
  let c0_i32 : BitVec 32 := 0#32
  c0_i32
@[reducible] def k0_t1_loop : Scf.Loop 32 :=
  let c0_i32_9 : BitVec 32 := 0#32
  let c4_i32 : BitVec 32 := 4#32
  let v12 : BitVec 32 := Scalar.addi c0_i32_9 c4_i32
  let c1_i32 : BitVec 32 := 1#32
  ⟨c0_i32_9, v12, c1_i32⟩
def k0_mult2 (k0_t1 : Fin k0_t1_loop.trips) : BitVec 32 :=
  let c2_i32 : BitVec 32 := 2#32
  let c0_i32_9 : BitVec 32 := 0#32
  let c1_i32 : BitVec 32 := 1#32
  let arg8 : BitVec 32 := Scf.iv c0_i32_9 c1_i32 k0_t1
  let v47 : BitVec 32 := Scalar.muli c2_i32 arg8
  let c1_i32_25 : BitVec 32 := 1#32
  let v48 : BitVec 32 := Scalar.addi v47 c1_i32_25
  let c7_i32 : BitVec 32 := 7#32
  let v49 : BitVec 32 := Scalar.minsi v48 c7_i32
  let c2048_i32 : BitVec 32 := 2048#32
  let v50 : BitVec 32 := Scalar.muli v49 c2048_i32
  v50
def k0_off1 (k0_t1 : Fin k0_t1_loop.trips) : Fin 3 → Nat :=
  let c0_26 : Index := 0#32
  let c2_i32 : BitVec 32 := 2#32
  let c0_i32_9 : BitVec 32 := 0#32
  let c1_i32 : BitVec 32 := 1#32
  let arg8 : BitVec 32 := Scf.iv c0_i32_9 c1_i32 k0_t1
  let v47 : BitVec 32 := Scalar.muli c2_i32 arg8
  let c1_i32_25 : BitVec 32 := 1#32
  let v48 : BitVec 32 := Scalar.addi v47 c1_i32_25
  let c7_i32 : BitVec 32 := 7#32
  let v49 : BitVec 32 := Scalar.minsi v48 c7_i32
  let c2048_i32 : BitVec 32 := 2048#32
  let v50 : BitVec 32 := Scalar.muli v49 c2048_i32
  let v51 : BitVec 32 := v50
  let v52 : Index := Scalar.indexCast v51
  let c0_27 : Index := 0#32
  ![0, v52.toNat, 0]
def k0_mult3 (k0_t1 : Fin k0_t1_loop.trips) : BitVec 32 :=
  let c2_i32 : BitVec 32 := 2#32
  let c0_i32_9 : BitVec 32 := 0#32
  let c1_i32 : BitVec 32 := 1#32
  let arg8 : BitVec 32 := Scf.iv c0_i32_9 c1_i32 k0_t1
  let v47 : BitVec 32 := Scalar.muli c2_i32 arg8
  let c2048_i32_34 : BitVec 32 := 2048#32
  let v61 : BitVec 32 := Scalar.muli v47 c2048_i32_34
  v61
def k0_off2 (k0_t1 : Fin k0_t1_loop.trips) : Fin 3 → Nat :=
  let c0_36 : Index := 0#32
  let c2_i32 : BitVec 32 := 2#32
  let c0_i32_9 : BitVec 32 := 0#32
  let c1_i32 : BitVec 32 := 1#32
  let arg8 : BitVec 32 := Scf.iv c0_i32_9 c1_i32 k0_t1
  let v47 : BitVec 32 := Scalar.muli c2_i32 arg8
  let c2048_i32_34 : BitVec 32 := 2048#32
  let v61 : BitVec 32 := Scalar.muli v47 c2048_i32_34
  let v62 : BitVec 32 := v61
  let v74 : Index := Scalar.indexCast v62
  let c0_37 : Index := 0#32
  ![0, v74.toNat, 0]
def k0_mult4 (k0_t1 : Fin k0_t1_loop.trips) : BitVec 32 :=
  let c2_i32_39 : BitVec 32 := 2#32
  let c0_i32_9 : BitVec 32 := 0#32
  let c1_i32 : BitVec 32 := 1#32
  let arg8 : BitVec 32 := Scf.iv c0_i32_9 c1_i32 k0_t1
  let v79 : BitVec 32 := Scalar.muli c2_i32_39 arg8
  let c1_i32_40 : BitVec 32 := 1#32
  let v80 : BitVec 32 := Scalar.addi v79 c1_i32_40
  let c1_i32_41 : BitVec 32 := 1#32
  let v81 : BitVec 32 := Scalar.addi v80 c1_i32_41
  let c7_i32_42 : BitVec 32 := 7#32
  let v82 : BitVec 32 := Scalar.minsi v81 c7_i32_42
  let c2048_i32_43 : BitVec 32 := 2048#32
  let v83 : BitVec 32 := Scalar.muli v82 c2048_i32_43
  v83
def k0_off3 (k0_t1 : Fin k0_t1_loop.trips) : Fin 3 → Nat :=
  let c0_44 : Index := 0#32
  let c2_i32_39 : BitVec 32 := 2#32
  let c0_i32_9 : BitVec 32 := 0#32
  let c1_i32 : BitVec 32 := 1#32
  let arg8 : BitVec 32 := Scf.iv c0_i32_9 c1_i32 k0_t1
  let v79 : BitVec 32 := Scalar.muli c2_i32_39 arg8
  let c1_i32_40 : BitVec 32 := 1#32
  let v80 : BitVec 32 := Scalar.addi v79 c1_i32_40
  let c1_i32_41 : BitVec 32 := 1#32
  let v81 : BitVec 32 := Scalar.addi v80 c1_i32_41
  let c7_i32_42 : BitVec 32 := 7#32
  let v82 : BitVec 32 := Scalar.minsi v81 c7_i32_42
  let c2048_i32_43 : BitVec 32 := 2048#32
  let v83 : BitVec 32 := Scalar.muli v82 c2048_i32_43
  let v84 : BitVec 32 := v83
  let v85 : Index := Scalar.indexCast v84
  let c0_45 : Index := 0#32
  ![0, v85.toNat, 0]
def k0_mult5 (k0_t1 : Fin k0_t1_loop.trips) : BitVec 32 :=
  let c2_i32_39 : BitVec 32 := 2#32
  let c0_i32_9 : BitVec 32 := 0#32
  let c1_i32 : BitVec 32 := 1#32
  let arg8 : BitVec 32 := Scf.iv c0_i32_9 c1_i32 k0_t1
  let v79 : BitVec 32 := Scalar.muli c2_i32_39 arg8
  let c1_i32_40 : BitVec 32 := 1#32
  let v80 : BitVec 32 := Scalar.addi v79 c1_i32_40
  let c2048_i32_53 : BitVec 32 := 2048#32
  let v94 : BitVec 32 := Scalar.muli v80 c2048_i32_53
  v94
def k0_off4 (k0_t1 : Fin k0_t1_loop.trips) : Fin 3 → Nat :=
  let c0_55 : Index := 0#32
  let c2_i32_39 : BitVec 32 := 2#32
  let c0_i32_9 : BitVec 32 := 0#32
  let c1_i32 : BitVec 32 := 1#32
  let arg8 : BitVec 32 := Scf.iv c0_i32_9 c1_i32 k0_t1
  let v79 : BitVec 32 := Scalar.muli c2_i32_39 arg8
  let c1_i32_40 : BitVec 32 := 1#32
  let v80 : BitVec 32 := Scalar.addi v79 c1_i32_40
  let c2048_i32_53 : BitVec 32 := 2048#32
  let v94 : BitVec 32 := Scalar.muli v80 c2048_i32_53
  let v95 : BitVec 32 := v94
  let v107 : Index := Scalar.indexCast v95
  let c0_56 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S2x16640x8x96 : Shape := ⟨4, ![2, 16640, 8, 96]⟩
abbrev S2x16640x8x64 : Shape := ⟨4, ![2, 16640, 8, 64]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S2x256x8x96, .f32⟩
  | .hbm, ⟨4, _⟩ => ⟨S2x256x8x64, .f32⟩
  | .hbm, ⟨5, _⟩ => ⟨S2x16640x8x96, .f32⟩
  | .hbm, ⟨6, _⟩ => ⟨S2x16640x8x64, .f32⟩
  | .hbm, ⟨7, _⟩ => ⟨S2x8x16384x16640, .f32⟩
  | .hbm, ⟨8, _⟩ => ⟨S_, .f32⟩
  | .hbm, ⟨9, _⟩ => ⟨S2x8x16384x16640, .f32⟩
  | .hbm, ⟨10, _⟩ => ⟨S2x8x16384x16640, .f32⟩
  | .hbm, ⟨11, _⟩ => ⟨S_, .f32⟩
  | .hbm, ⟨12, _⟩ => ⟨S2x8x16384, .f32⟩
  | .hbm, ⟨13, _⟩ => ⟨S_, .f32⟩
  | .hbm, ⟨14, _⟩ => ⟨S2x8x16384, .f32⟩
  | .hbm, ⟨15, _⟩ => ⟨S2x8x16384, .f32⟩
  | .hbm, ⟨16, _⟩ => ⟨S2x8x16384x1, .f32⟩
  | .hbm, ⟨17, _⟩ => ⟨S2x8x16384x16640, .f32⟩
  | .hbm, ⟨18, _⟩ => ⟨S2x8x16384x16640, .f32⟩
  | .hbm, ⟨19, _⟩ => ⟨S2x8x16384x16640, .f32⟩
  | .hbm, ⟨20, _⟩ => ⟨S_, .f32⟩
  | .hbm, ⟨21, _⟩ => ⟨S2x8x16384, .f32⟩
  | .hbm, ⟨22, _⟩ => ⟨S2x8x16384x1, .f32⟩
  | .hbm, ⟨23, _⟩ => ⟨S2x8x16384x16640, .f32⟩
  | .hbm, ⟨24, _⟩ => ⟨S2x8x16384x16640, .f32⟩
  | .hbm, ⟨25, _⟩ => ⟨S2x8x64x16384, .f32⟩
  | .hbm, ⟨26, _⟩ => ⟨S2x16384x8x64, .f32⟩
  | .hbm, ⟨27, _⟩ => ⟨S2x16384x512, .f32⟩
  | .hbm, ⟨28, _⟩ => ⟨S2x16384x512, .bf16⟩
  | _, _ => ⟨S2x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S39424x1024 : Shape := ⟨2, ![39424, 1024]⟩
abbrev S39424x2 : Shape := ⟨2, ![39424, 2]⟩
abbrev S154 : Shape := ⟨1, ![154]⟩
abbrev S4x16x1024x512 : Shape := ⟨4, ![4, 16, 1024, 512]⟩
abbrev S4x16x512x1024 : Shape := ⟨4, ![4, 16, 512, 1024]⟩
abbrev S_ : Shape := ⟨0, ![]⟩
abbrev S39424x128 : Shape := ⟨2, ![39424, 128]⟩
abbrev S39424x1152 : Shape := ⟨2, ![39424, 1152]⟩
abbrev S256x1152 : Shape := ⟨2, ![256, 1152]⟩
abbrev S1x1x1024x512 : Shape := ⟨4, ![1, 1, 1024, 512]⟩
abbrev S1 : Shape := ⟨1, ![1]⟩
abbrev S1x1x512x1024 : Shape := ⟨4, ![1, 1, 512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 13
  | .vmem => 16
  | .smem => 3
  | _ => 0

abbrev bufTy : (tb : Table) → Fin (tcTables nBuf tb) → BufTy
  | .hbm, ⟨0, _⟩ => ⟨S39424x1024, .f32⟩
  | .hbm, ⟨1, _⟩ => ⟨S39424x2, .f32⟩
  | .hbm, ⟨2, _⟩ => ⟨S4x16x1024x512, .f32⟩
  | .hbm, ⟨3, _⟩ => ⟨S4x16x1024x512, .f32⟩
  | .hbm, ⟨4, _⟩ => ⟨S4x16x512x1024, .f32⟩
  | .hbm, ⟨5, _⟩ => ⟨S_, .i32⟩
  | .hbm, ⟨6, _⟩ => ⟨S_, .f32⟩
  | .hbm, ⟨7, _⟩ => ⟨S39424x128, .f32⟩
  | .hbm, ⟨8, _⟩ => ⟨S39424x1152, .f32⟩
  | .hbm, ⟨9, _⟩ => ⟨S4x16x1024x512, .bf16⟩
  | .hbm, ⟨10, _⟩ => ⟨S4x16x1024x512, .bf16⟩
  | .hbm, ⟨11, _⟩ => ⟨S4x16x512x1024, .bf16⟩
  | .hbm, ⟨12, _⟩ => ⟨S39424x1024, .f32⟩
  | .local _ .vmem, ⟨0, _⟩ => ⟨S256x1152, .f32⟩
  | .local _ .vmem, ⟨1, _⟩ => ⟨S256x1152, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S256x1024, .f32⟩
  | .local _ .vmem, ⟨15, _⟩ => ⟨S256x1024, .f32⟩
  | .local _ .smem, ⟨0, _⟩ => ⟨S154, .i32⟩
  | .local _ .smem, ⟨1, _⟩ => ⟨S154, .i32⟩
  | .local _ .smem, ⟨2, _⟩ => ⟨S154, .i32⟩
  | _, _ => ⟨S39424x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![154], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_5 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_6 (k0_off1_inb : ∀ i : grid0.Coords, ∀ a, (k0_off1 i) a + S1.size a ≤ S154.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S39424x1024 : Shape := ⟨2, ![39424, 1024]⟩
abbrev S39424x2 : Shape := ⟨2, ![39424, 2]⟩
abbrev S154 : Shape := ⟨1, ![154]⟩
abbrev S4x16x1024x512 : Shape := ⟨4, ![4, 16, 1024, 512]⟩
abbrev S4x16x512x1024 : Shape := ⟨4, ![4, 16, 512, 1024]⟩
abbrev S154x1 : Shape := ⟨2, ![154, 1]⟩
abbrev S154x2 : Shape := ⟨2, ![154, 2]⟩
abbrev S154x1x2 : Shape := ⟨3, ![154, 1, 2]⟩
abbrev S154x256x2 : Shape := ⟨3, ![154, 256, 2]⟩
abbrev S_ : Shape := ⟨0, ![]⟩
abbrev S154x256 : Shape := ⟨2, ![154, 256]⟩
abbrev S39424x1 : Shape := ⟨2, ![39424, 1]⟩
abbrev S39424x2x1 : Shape := ⟨3, ![39424, 2, 1]⟩
abbrev S1x1x16 : Shape := ⟨3, ![1, 1, 16]⟩
abbrev S39424x2x16 : Shape := ⟨3, ![39424, 2, 16]⟩
abbrev S39424x16 : Shape := ⟨2, ![39424, 16]⟩
abbrev S1x1x1024x512 : Shape := ⟨4, ![1, 1, 1024, 512]⟩
abbrev S1024x512 : Shape := ⟨2, ![1024, 512]⟩
abbrev S39424x512 : Shape := ⟨2, ![39424, 512]⟩
abbrev S1x1x512x1024 : Shape := ⟨4, ![1, 1, 512, 1024]⟩
abbrev S512x1024 : Shape := ⟨2, ![512, 1024]⟩

abbrev nBuf : Space → Nat
  | .hbm => 406
  | .vmem => 0
  | .smem => 0
  | _ => 0

abbrev hbmTy0_0 (i : Nat) : BufTy := match i % 128 with
  | 0 => ⟨S39424x1024, .f32⟩
  | 1 => ⟨S39424x2, .f32⟩
  | 2 => ⟨S154, .i32⟩
  | 3 => ⟨S154, .i32⟩
  | 4 => ⟨S154, .i32⟩
  | 5 => ⟨S4x16x1024x512, .f32⟩
  | 6 => ⟨S4x16x1024x512, .f32⟩
  | 7 => ⟨S4x16x512x1024, .f32⟩
  | 8 => ⟨S154x1, .i32⟩
  | 9 => ⟨S154x1, .i32⟩
  | 10 => ⟨S154x2, .i32⟩
  | 11 => ⟨S154x1x2, .i32⟩
  | 12 => ⟨S154x256x2, .i32⟩
  | 13 => ⟨S39424x2, .i32⟩
  | 14 => ⟨S_, .i32⟩
  | 15 => ⟨S154, .i32⟩
  | 16 => ⟨S154, .i1⟩
  | 17 => ⟨S154x1, .i1⟩
  | 18 => ⟨S154x256, .i1⟩
  | 19 => ⟨S39424x1, .i1⟩
  | 20 => ⟨S_, .f32⟩
  | 21 => ⟨S_, .f32⟩
  | 22 => ⟨S39424x2, .i1⟩
  | 23 => ⟨S39424x2, .f32⟩
  | 24 => ⟨S39424x2, .f32⟩
  | 25 => ⟨S39424x2x1, .i32⟩
  | 26 => ⟨S1x1x16, .i32⟩
  | 27 => ⟨S39424x2x16, .i32⟩
  | 28 => ⟨S39424x2x16, .i32⟩
  | 29 => ⟨S39424x2x16, .i1⟩
  | 30 => ⟨S39424x2x16, .f32⟩
  | 31 => ⟨S39424x2x1, .f32⟩
  | 32 => ⟨S39424x2x16, .f32⟩
  | 33 => ⟨S39424x2x16, .f32⟩
  | 34 => ⟨S_, .f32⟩
  | 35 => ⟨S39424x16, .f32⟩
  | 36 => ⟨S_, .f32⟩
  | 37 => ⟨S39424x1024, .f32⟩
  | 38 => ⟨S1x1x1024x512, .f32⟩
  | 39 => ⟨S1024x512, .f32⟩
  | 40 => ⟨S39424x512, .f32⟩
  | 41 => ⟨S39424x512, .f32⟩
  | 42 => ⟨S39424x512, .f32⟩
  | 43 => ⟨S_, .f32⟩
  | 44 => ⟨S39424x512, .f32⟩
  | 45 => ⟨S39424x512, .f32⟩
  | 46 => ⟨S_, .f32⟩
  | 47 => ⟨S39424x512, .f32⟩
  | 48 => ⟨S39424x512, .f32⟩
  | 49 => ⟨S39424x512, .f32⟩
  | 50 => ⟨S1x1x1024x512, .f32⟩
  | 51 => ⟨S1024x512, .f32⟩
  | 52 => ⟨S39424x512, .f32⟩
  | 53 => ⟨S39424x512, .f32⟩
  | 54 => ⟨S39424x1, .f32⟩
  | 55 => ⟨S1x1x512x1024, .f32⟩
  | 56 => ⟨S512x1024, .f32⟩
  | 57 => ⟨S39424x1024, .f32⟩
  | 58 => ⟨S39424x1024, .f32⟩
  | 59 => ⟨S39424x1024, .f32⟩
  | 60 => ⟨S39424x1024, .f32⟩
  | 61 => ⟨S1x1x1024x512, .f32⟩
  | 62 => ⟨S1024x512, .f32⟩
  | 63 => ⟨S39424x512, .f32⟩
  | 64 => ⟨S39424x512, .f32⟩
  | 65 => ⟨S39424x512, .f32⟩
  | 66 => ⟨S_, .f32⟩
  | 67 => ⟨S39424x512, .f32⟩
  | 68 => ⟨S39424x512, .f32⟩
  | 69 => ⟨S_, .f32⟩
  | 70 => ⟨S39424x512, .f32⟩
  | 71 => ⟨S39424x512, .f32⟩
  | 72 => ⟨S39424x512, .f32⟩
  | 73 => ⟨S1x1x1024x512, .f32⟩
  | 74 => ⟨S1024x512, .f32⟩
  | 75 => ⟨S39424x512, .f32⟩
  | 76 => ⟨S39424x512, .f32⟩
  | 77 => ⟨S39424x1, .f32⟩
  | 78 => ⟨S1x1x512x1024, .f32⟩
  | 79 => ⟨S512x1024, .f32⟩
  | 80 => ⟨S39424x1024, .f32⟩
  | 81 => ⟨S39424x1024, .f32⟩
  | 82 => ⟨S39424x1024, .f32⟩
  | 83 => ⟨S39424x1024, .f32⟩
  | 84 => ⟨S1x1x1024x512, .f32⟩
  | 85 => ⟨S1024x512, .f32⟩
  | 86 => ⟨S39424x512, .f32⟩
  | 87 => ⟨S39424x512, .f32⟩
  | 88 => ⟨S39424x512, .f32⟩
  | 89 => ⟨S_, .f32⟩
  | 90 => ⟨S39424x512, .f32⟩
  | 91 => ⟨S39424x512, .f32⟩
  | 92 => ⟨S_, .f32⟩
  | 93 => ⟨S39424x512, .f32⟩
  | 94 => ⟨S39424x512, .f32⟩
  | 95 => ⟨S39424x512, .f32⟩
  | 96 => ⟨S1x1x1024x512, .f32⟩
  | 97 => ⟨S1024x512, .f32⟩
  | 98 => ⟨S39424x512, .f32⟩
  | 99 => ⟨S39424x512, .f32⟩
  | 100 => ⟨S39424x1, .f32⟩
  | 101 => ⟨S1x1x512x1024, .f32⟩
  | 102 => ⟨S512x1024, .f32⟩
  | 103 => ⟨S39424x1024, .f32⟩
  | 104 => ⟨S39424x1024, .f32⟩
  | 105 => ⟨S39424x1024, .f32⟩
  | 106 => ⟨S39424x1024, .f32⟩
  | 107 => ⟨S1x1x1024x512, .f32⟩
  | 108 => ⟨S1024x512, .f32⟩
  | 109 => ⟨S39424x512, .f32⟩
  | 110 => ⟨S39424x512, .f32⟩
  | 111 => ⟨S39424x512, .f32⟩
  | 112 => ⟨S_, .f32⟩
  | 113 => ⟨S39424x512, .f32⟩
  | 114 => ⟨S39424x512, .f32⟩
  | 115 => ⟨S_, .f32⟩
  | 116 => ⟨S39424x512, .f32⟩
  | 117 => ⟨S39424x512, .f32⟩
  | 118 => ⟨S39424x512, .f32⟩
  | 119 => ⟨S1x1x1024x512, .f32⟩
  | 120 => ⟨S1024x512, .f32⟩
  | 121 => ⟨S39424x512, .f32⟩
  | 122 => ⟨S39424x512, .f32⟩
  | 123 => ⟨S39424x1, .f32⟩
  | 124 => ⟨S1x1x512x1024, .f32⟩
  | 125 => ⟨S512x1024, .f32⟩
  | 126 => ⟨S39424x1024, .f32⟩
  | 127 => ⟨S39424x1024, .f32⟩
  | _ => ⟨S39424x1024, .f32⟩

abbrev hbmTy0_1 (i : Nat) : BufTy := match i % 128 with
  | 0 => ⟨S39424x1024, .f32⟩
  | 1 => ⟨S39424x1024, .f32⟩
  | 2 => ⟨S1x1x1024x512, .f32⟩
  | 3 => ⟨S1024x512, .f32⟩
  | 4 => ⟨S39424x512, .f32⟩
  | 5 => ⟨S39424x512, .f32⟩
  | 6 => ⟨S39424x512, .f32⟩
  | 7 => ⟨S_, .f32⟩
  | 8 => ⟨S39424x512, .f32⟩
  | 9 => ⟨S39424x512, .f32⟩
  | 10 => ⟨S_, .f32⟩
  | 11 => ⟨S39424x512, .f32⟩
  | 12 => ⟨S39424x512, .f32⟩
  | 13 => ⟨S39424x512, .f32⟩
  | 14 => ⟨S1x1x1024x512, .f32⟩
  | 15 => ⟨S1024x512, .f32⟩
  | 16 => ⟨S39424x512, .f32⟩
  | 17 => ⟨S39424x512, .f32⟩
  | 18 => ⟨S39424x1, .f32⟩
  | 19 => ⟨S1x1x512x1024, .f32⟩
  | 20 => ⟨S512x1024, .f32⟩
  | 21 => ⟨S39424x1024, .f32⟩
  | 22 => ⟨S39424x1024, .f32⟩
  | 23 => ⟨S39424x1024, .f32⟩
  | 24 => ⟨S39424x1024, .f32⟩
  | 25 => ⟨S1x1x1024x512, .f32⟩
  | 26 => ⟨S1024x512, .f32⟩
  | 27 => ⟨S39424x512, .f32⟩
  | 28 => ⟨S39424x512, .f32⟩
  | 29 => ⟨S39424x512, .f32⟩
  | 30 => ⟨S_, .f32⟩
  | 31 => ⟨S39424x512, .f32⟩
  | 32 => ⟨S39424x512, .f32⟩
  | 33 => ⟨S_, .f32⟩
  | 34 => ⟨S39424x512, .f32⟩
  | 35 => ⟨S39424x512, .f32⟩
  | 36 => ⟨S39424x512, .f32⟩
  | 37 => ⟨S1x1x1024x512, .f32⟩
  | 38 => ⟨S1024x512, .f32⟩
  | 39 => ⟨S39424x512, .f32⟩
  | 40 => ⟨S39424x512, .f32⟩
  | 41 => ⟨S39424x1, .f32⟩
  | 42 => ⟨S1x1x512x1024, .f32⟩
  | 43 => ⟨S512x1024, .f32⟩
  | 44 => ⟨S39424x1024, .f32⟩
  | 45 => ⟨S39424x1024, .f32⟩
  | 46 => ⟨S39424x1024, .f32⟩
  | 47 => ⟨S39424x1024, .f32⟩
  | 48 => ⟨S1x1x1024x512, .f32⟩
  | 49 => ⟨S1024x512, .f32⟩
  | 50 => ⟨S39424x512, .f32⟩
  | 51 => ⟨S39424x512, .f32⟩
  | 52 => ⟨S39424x512, .f32⟩
  | 53 => ⟨S_, .f32⟩
  | 54 => ⟨S39424x512, .f32⟩
  | 55 => ⟨S39424x512, .f32⟩
  | 56 => ⟨S_, .f32⟩
  | 57 => ⟨S39424x512, .f32⟩
  | 58 => ⟨S39424x512, .f32⟩
  | 59 => ⟨S39424x512, .f32⟩
  | 60 => ⟨S1x1x1024x512, .f32⟩
  | 61 => ⟨S1024x512, .f32⟩
  | 62 => ⟨S39424x512, .f32⟩
  | 63 => ⟨S39424x512, .f32⟩
  | 64 => ⟨S39424x1, .f32⟩
  | 65 => ⟨S1x1x512x1024, .f32⟩
  | 66 => ⟨S512x1024, .f32⟩
  | 67 => ⟨S39424x1024, .f32⟩
  | 68 => ⟨S39424x1024, .f32⟩
  | 69 => ⟨S39424x1024, .f32⟩
  | 70 => ⟨S39424x1024, .f32⟩
  | 71 => ⟨S1x1x1024x512, .f32⟩
  | 72 => ⟨S1024x512, .f32⟩
  | 73 => ⟨S39424x512, .f32⟩
  | 74 => ⟨S39424x512, .f32⟩
  | 75 => ⟨S39424x512, .f32⟩
  | 76 => ⟨S_, .f32⟩
  | 77 => ⟨S39424x512, .f32⟩
  | 78 => ⟨S39424x512, .f32⟩
  | 79 => ⟨S_, .f32⟩
  | 80 => ⟨S39424x512, .f32⟩
  | 81 => ⟨S39424x512, .f32⟩
  | 82 => ⟨S39424x512, .f32⟩
  | 83 => ⟨S1x1x1024x512, .f32⟩
  | 84 => ⟨S1024x512, .f32⟩
  | 85 => ⟨S39424x512, .f32⟩
  | 86 => ⟨S39424x512, .f32⟩
  | 87 => ⟨S39424x1, .f32⟩
  | 88 => ⟨S1x1x512x1024, .f32⟩
  | 89 => ⟨S512x1024, .f32⟩
  | 90 => ⟨S39424x1024, .f32⟩
  | 91 => ⟨S39424x1024, .f32⟩
  | 92 => ⟨S39424x1024, .f32⟩
  | 93 => ⟨S39424x1024, .f32⟩
  | 94 => ⟨S1x1x1024x512, .f32⟩
  | 95 => ⟨S1024x512, .f32⟩
  | 96 => ⟨S39424x512, .f32⟩
  | 97 => ⟨S39424x512, .f32⟩
  | 98 => ⟨S39424x512, .f32⟩
  | 99 => ⟨S_, .f32⟩
  | 100 => ⟨S39424x512, .f32⟩
  | 101 => ⟨S39424x512, .f32⟩
  | 102 => ⟨S_, .f32⟩
  | 103 => ⟨S39424x512, .f32⟩
  | 104 => ⟨S39424x512, .f32⟩
  | 105 => ⟨S39424x512, .f32⟩
  | 106 => ⟨S1x1x1024x512, .f32⟩
  | 107 => ⟨S1024x512, .f32⟩
  | 108 => ⟨S39424x512, .f32⟩
  | 109 => ⟨S39424x512, .f32⟩
  | 110 => ⟨S39424x1, .f32⟩
  | 111 => ⟨S1x1x512x1024, .f32⟩
  | 112 => ⟨S512x1024, .f32⟩
  | 113 => ⟨S39424x1024, .f32⟩
  | 114 => ⟨S39424x1024, .f32⟩
  | 115 => ⟨S39424x1024, .f32⟩
  | 116 => ⟨S39424x1024, .f32⟩
  | 117 => ⟨S1x1x1024x512, .f32⟩
  | 118 => ⟨S1024x512, .f32⟩
  | 119 => ⟨S39424x512, .f32⟩
  | 120 => ⟨S39424x512, .f32⟩
  | 121 => ⟨S39424x512, .f32⟩
  | 122 => ⟨S_, .f32⟩
  | 123 => ⟨S39424x512, .f32⟩
  | 124 => ⟨S39424x512, .f32⟩
  | 125 => ⟨S_, .f32⟩
  | 126 => ⟨S39424x512, .f32⟩
  | 127 => ⟨S39424x512, .f32⟩
  | _ => ⟨S39424x1024, .f32⟩

abbrev hbmTy0_2 (i : Nat) : BufTy := match i % 128 with
  | 0 => ⟨S39424x512, .f32⟩
  | 1 => ⟨S1x1x1024x512, .f32⟩
  | 2 => ⟨S1024x512, .f32⟩
  | 3 => ⟨S39424x512, .f32⟩
  | 4 => ⟨S39424x512, .f32⟩
  | 5 => ⟨S39424x1, .f32⟩
  | 6 => ⟨S1x1x512x1024, .f32⟩
  | 7 => ⟨S512x1024, .f32⟩
  | 8 => ⟨S39424x1024, .f32⟩
  | 9 => ⟨S39424x1024, .f32⟩
  | 10 => ⟨S39424x1024, .f32⟩
  | 11 => ⟨S39424x1024, .f32⟩
  | 12 => ⟨S1x1x1024x512, .f32⟩
  | 13 => ⟨S1024x512, .f32⟩
  | 14 => ⟨S39424x512, .f32⟩
  | 15 => ⟨S39424x512, .f32⟩
  | 16 => ⟨S39424x512, .f32⟩
  | 17 => ⟨S_, .f32⟩
  | 18 => ⟨S39424x512, .f32⟩
  | 19 => ⟨S39424x512, .f32⟩
  | 20 => ⟨S_, .f32⟩
  | 21 => ⟨S39424x512, .f32⟩
  | 22 => ⟨S39424x512, .f32⟩
  | 23 => ⟨S39424x512, .f32⟩
  | 24 => ⟨S1x1x1024x512, .f32⟩
  | 25 => ⟨S1024x512, .f32⟩
  | 26 => ⟨S39424x512, .f32⟩
  | 27 => ⟨S39424x512, .f32⟩
  | 28 => ⟨S39424x1, .f32⟩
  | 29 => ⟨S1x1x512x1024, .f32⟩
  | 30 => ⟨S512x1024, .f32⟩
  | 31 => ⟨S39424x1024, .f32⟩
  | 32 => ⟨S39424x1024, .f32⟩
  | 33 => ⟨S39424x1024, .f32⟩
  | 34 => ⟨S39424x1024, .f32⟩
  | 35 => ⟨S1x1x1024x512, .f32⟩
  | 36 => ⟨S1024x512, .f32⟩
  | 37 => ⟨S39424x512, .f32⟩
  | 38 => ⟨S39424x512, .f32⟩
  | 39 => ⟨S39424x512, .f32⟩
  | 40 => ⟨S_, .f32⟩
  | 41 => ⟨S39424x512, .f32⟩
  | 42 => ⟨S39424x512, .f32⟩
  | 43 => ⟨S_, .f32⟩
  | 44 => ⟨S39424x512, .f32⟩
  | 45 => ⟨S39424x512, .f32⟩
  | 46 => ⟨S39424x512, .f32⟩
  | 47 => ⟨S1x1x1024x512, .f32⟩
  | 48 => ⟨S1024x512, .f32⟩
  | 49 => ⟨S39424x512, .f32⟩
  | 50 => ⟨S39424x512, .f32⟩
  | 51 => ⟨S39424x1, .f32⟩
  | 52 => ⟨S1x1x512x1024, .f32⟩
  | 53 => ⟨S512x1024, .f32⟩
  | 54 => ⟨S39424x1024, .f32⟩
  | 55 => ⟨S39424x1024, .f32⟩
  | 56 => ⟨S39424x1024, .f32⟩
  | 57 => ⟨S39424x1024, .f32⟩
  | 58 => ⟨S1x1x1024x512, .f32⟩
  | 59 => ⟨S1024x512, .f32⟩
  | 60 => ⟨S39424x512, .f32⟩
  | 61 => ⟨S39424x512, .f32⟩
  | 62 => ⟨S39424x512, .f32⟩
  | 63 => ⟨S_, .f32⟩
  | 64 => ⟨S39424x512, .f32⟩
  | 65 => ⟨S39424x512, .f32⟩
  | 66 => ⟨S_, .f32⟩
  | 67 => ⟨S39424x512, .f32⟩
  | 68 => ⟨S39424x512, .f32⟩
  | 69 => ⟨S39424x512, .f32⟩
  | 70 => ⟨S1x1x1024x512, .f32⟩
  | 71 => ⟨S1024x512, .f32⟩
  | 72 => ⟨S39424x512, .f32⟩
  | 73 => ⟨S39424x512, .f32⟩
  | 74 => ⟨S39424x1, .f32⟩
  | 75 => ⟨S1x1x512x1024, .f32⟩
  | 76 => ⟨S512x1024, .f32⟩
  | 77 => ⟨S39424x1024, .f32⟩
  | 78 => ⟨S39424x1024, .f32⟩
  | 79 => ⟨S39424x1024, .f32⟩
  | 80 => ⟨S39424x1024, .f32⟩
  | 81 => ⟨S1x1x1024x512, .f32⟩
  | 82 => ⟨S1024x512, .f32⟩
  | 83 => ⟨S39424x512, .f32⟩
  | 84 => ⟨S39424x512, .f32⟩
  | 85 => ⟨S39424x512, .f32⟩
  | 86 => ⟨S_, .f32⟩
  | 87 => ⟨S39424x512, .f32⟩
  | 88 => ⟨S39424x512, .f32⟩
  | 89 => ⟨S_, .f32⟩
  | 90 => ⟨S39424x512, .f32⟩
  | 91 => ⟨S39424x512, .f32⟩
  | 92 => ⟨S39424x512, .f32⟩
  | 93 => ⟨S1x1x1024x512, .f32⟩
  | 94 => ⟨S1024x512, .f32⟩
  | 95 => ⟨S39424x512, .f32⟩
  | 96 => ⟨S39424x512, .f32⟩
  | 97 => ⟨S39424x1, .f32⟩
  | 98 => ⟨S1x1x512x1024, .f32⟩
  | 99 => ⟨S512x1024, .f32⟩
  | 100 => ⟨S39424x1024, .f32⟩
  | 101 => ⟨S39424x1024, .f32⟩
  | 102 => ⟨S39424x1024, .f32⟩
  | 103 => ⟨S39424x1024, .f32⟩
  | 104 => ⟨S1x1x1024x512, .f32⟩
  | 105 => ⟨S1024x512, .f32⟩
  | 106 => ⟨S39424x512, .f32⟩
  | 107 => ⟨S39424x512, .f32⟩
  | 108 => ⟨S39424x512, .f32⟩
  | 109 => ⟨S_, .f32⟩
  | 110 => ⟨S39424x512, .f32⟩
  | 111 => ⟨S39424x512, .f32⟩
  | 112 => ⟨S_, .f32⟩
  | 113 => ⟨S39424x512, .f32⟩
  | 114 => ⟨S39424x512, .f32⟩
  | 115 => ⟨S39424x512, .f32⟩
  | 116 => ⟨S1x1x1024x512, .f32⟩
  | 117 => ⟨S1024x512, .f32⟩
  | 118 => ⟨S39424x512, .f32⟩
  | 119 => ⟨S39424x512, .f32⟩
  | 120 => ⟨S39424x1, .f32⟩
  | 121 => ⟨S1x1x512x1024, .f32⟩
  | 122 => ⟨S512x1024, .f32⟩
  | 123 => ⟨S39424x1024, .f32⟩
  | 124 => ⟨S39424x1024, .f32⟩
  | 125 => ⟨S39424x1024, .f32⟩
  | 126 => ⟨S39424x1024, .f32⟩
  | 127 => ⟨S1x1x1024x512, .f32⟩
  | _ => ⟨S39424x1024, .f32⟩

abbrev hbmTy0_3 (i : Nat) : BufTy := match i % 128 with
  | 0 => ⟨S1024x512, .f32⟩
  | 1 => ⟨S39424x512, .f32⟩
  | 2 => ⟨S39424x512, .f32⟩
  | 3 => ⟨S39424x512, .f32⟩
  | 4 => ⟨S_, .f32⟩
  | 5 => ⟨S39424x512, .f32⟩
  | 6 => ⟨S39424x512, .f32⟩
  | 7 => ⟨S_, .f32⟩
  | 8 => ⟨S39424x512, .f32⟩
  | 9 => ⟨S39424x512, .f32⟩
  | 10 => ⟨S39424x512, .f32⟩
  | 11 => ⟨S1x1x1024x512, .f32⟩
  | 12 => ⟨S1024x512, .f32⟩
  | 13 => ⟨S39424x512, .f32⟩
  | 14 => ⟨S39424x512, .f32⟩
  | 15 => ⟨S39424x1, .f32⟩
  | 16 => ⟨S1x1x512x1024, .f32⟩
  | 17 => ⟨S512x1024, .f32⟩
  | 18 => ⟨S39424x1024, .f32⟩
  | 19 => ⟨S39424x1024, .f32⟩
  | 20 => ⟨S39424x1024, .f32⟩
  | 21 => ⟨S39424x1024, .f32⟩
  | _ => ⟨S39424x1024, .f32⟩

abbrev hbmTy (i : Nat) : BufTy := match i / 128 with
  | 0 => hbmTy0_0 i
  | 1 => hbmTy0_1 i
  | 2 => hbmTy0_2 i
  | 3 => hbmTy0_3 i
  | _ => ⟨S39424x1024, .f32⟩

abbrev bufTy : (tb : Table) → Fin (tcTables nBuf tb) → BufTy
  | .hbm, ⟨i, _⟩ => hbmTy i
  | _, _ => ⟨S39424x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call4_v0 : Ref sig .tc := ⟨.hbm, 87, rfl⟩
abbrev main_call4_v1 : Ref sig .tc := ⟨.hbm, 88, rfl⟩
abbrev main_call4_cst : Ref sig .tc := ⟨.hbm, 89, rfl⟩
abbrev main_call4_v2 : Ref sig .tc := ⟨.hbm, 90, rfl⟩
abbrev main_call4_v3 : Ref sig .tc := ⟨.hbm, 91, rfl⟩
abbrev main_call4_cst_0 : Ref sig .tc := ⟨.hbm, 92, rfl⟩
abbrev main_call4_v4 : Ref sig .tc := ⟨.hbm, 93, rfl⟩
abbrev main_call4_v5 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call5_v0 : Ref sig .tc := ⟨.hbm, 110, rfl⟩
abbrev main_call5_v1 : Ref sig .tc := ⟨.hbm, 111, rfl⟩
abbrev main_call5_cst : Ref sig .tc := ⟨.hbm, 112, rfl⟩
abbrev main_call5_v2 : Ref sig .tc := ⟨.hbm, 113, rfl⟩
abbrev main_call5_v3 : Ref sig .tc := ⟨.hbm, 114, rfl⟩
abbrev main_call5_cst_0 : Ref sig .tc := ⟨.hbm, 115, rfl⟩
abbrev main_call5_v4 : Ref sig .tc := ⟨.hbm, 116, rfl⟩
abbrev main_call5_v5 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_call6_v0 : Ref sig .tc := ⟨.hbm, 133, rfl⟩
abbrev main_call6_v1 : Ref sig .tc := ⟨.hbm, 134, rfl⟩
abbrev main_call6_cst : Ref sig .tc := ⟨.hbm, 135, rfl⟩
abbrev main_call6_v2 : Ref sig .tc := ⟨.hbm, 136, rfl⟩
abbrev main_call6_v3 : Ref sig .tc := ⟨.hbm, 137, rfl⟩
abbrev main_call6_cst_0 : Ref sig .tc := ⟨.hbm, 138, rfl⟩
abbrev main_call6_v4 : Ref sig .tc := ⟨.hbm, 139, rfl⟩
abbrev main_call6_v5 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_call7_v0 : Ref sig .tc := ⟨.hbm, 156, rfl⟩
abbrev main_call7_v1 : Ref sig .tc := ⟨.hbm, 157, rfl⟩
abbrev main_call7_cst : Ref sig .tc := ⟨.hbm, 158, rfl⟩
abbrev main_call7_v2 : Ref sig .tc := ⟨.hbm, 159, rfl⟩
abbrev main_call7_v3 : Ref sig .tc := ⟨.hbm, 160, rfl⟩
abbrev main_call7_cst_0 : Ref sig .tc := ⟨.hbm, 161, rfl⟩
abbrev main_call7_v4 : Ref sig .tc := ⟨.hbm, 162, rfl⟩
abbrev main_call7_v5 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_call8_v0 : Ref sig .tc := ⟨.hbm, 179, rfl⟩
abbrev main_call8_v1 : Ref sig .tc := ⟨.hbm, 180, rfl⟩
abbrev main_call8_cst : Ref sig .tc := ⟨.hbm, 181, rfl⟩
abbrev main_call8_v2 : Ref sig .tc := ⟨.hbm, 182, rfl⟩
abbrev main_call8_v3 : Ref sig .tc := ⟨.hbm, 183, rfl⟩
abbrev main_call8_cst_0 : Ref sig .tc := ⟨.hbm, 184, rfl⟩
abbrev main_call8_v4 : Ref sig .tc := ⟨.hbm, 185, rfl⟩
abbrev main_call8_v5 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_call9_v0 : Ref sig .tc := ⟨.hbm, 202, rfl⟩
abbrev main_call9_v1 : Ref sig .tc := ⟨.hbm, 203, rfl⟩
abbrev main_call9_cst : Ref sig .tc := ⟨.hbm, 204, rfl⟩
abbrev main_call9_v2 : Ref sig .tc := ⟨.hbm, 205, rfl⟩
abbrev main_call9_v3 : Ref sig .tc := ⟨.hbm, 206, rfl⟩
abbrev main_call9_cst_0 : Ref sig .tc := ⟨.hbm, 207, rfl⟩
abbrev main_call9_v4 : Ref sig .tc := ⟨.hbm, 208, rfl⟩
abbrev main_call9_v5 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_call10_v0 : Ref sig .tc := ⟨.hbm, 225, rfl⟩
abbrev main_call10_v1 : Ref sig .tc := ⟨.hbm, 226, rfl⟩
abbrev main_call10_cst : Ref sig .tc := ⟨.hbm, 227, rfl⟩
abbrev main_call10_v2 : Ref sig .tc := ⟨.hbm, 228, rfl⟩
abbrev main_call10_v3 : Ref sig .tc := ⟨.hbm, 229, rfl⟩
abbrev main_call10_cst_0 : Ref sig .tc := ⟨.hbm, 230, rfl⟩
abbrev main_call10_v4 : Ref sig .tc := ⟨.hbm, 231, rfl⟩
abbrev main_call10_v5 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_call11_v0 : Ref sig .tc := ⟨.hbm, 248, rfl⟩
abbrev main_call11_v1 : Ref sig .tc := ⟨.hbm, 249, rfl⟩
abbrev main_call11_cst : Ref sig .tc := ⟨.hbm, 250, rfl⟩
abbrev main_call11_v2 : Ref sig .tc := ⟨.hbm, 251, rfl⟩
abbrev main_call11_v3 : Ref sig .tc := ⟨.hbm, 252, rfl⟩
abbrev main_call11_cst_0 : Ref sig .tc := ⟨.hbm, 253, rfl⟩
abbrev main_call11_v4 : Ref sig .tc := ⟨.hbm, 254, rfl⟩
abbrev main_call11_v5 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_call12_v0 : Ref sig .tc := ⟨.hbm, 271, rfl⟩
abbrev main_call12_v1 : Ref sig .tc := ⟨.hbm, 272, rfl⟩
abbrev main_call12_cst : Ref sig .tc := ⟨.hbm, 273, rfl⟩
abbrev main_call12_v2 : Ref sig .tc := ⟨.hbm, 274, rfl⟩
abbrev main_call12_v3 : Ref sig .tc := ⟨.hbm, 275, rfl⟩
abbrev main_call12_cst_0 : Ref sig .tc := ⟨.hbm, 276, rfl⟩
abbrev main_call12_v4 : Ref sig .tc := ⟨.hbm, 277, rfl⟩
abbrev main_call12_v5 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_call13_v0 : Ref sig .tc := ⟨.hbm, 294, rfl⟩
abbrev main_call13_v1 : Ref sig .tc := ⟨.hbm, 295, rfl⟩
abbrev main_call13_cst : Ref sig .tc := ⟨.hbm, 296, rfl⟩
abbrev main_call13_v2 : Ref sig .tc := ⟨.hbm, 297, rfl⟩
abbrev main_call13_v3 : Ref sig .tc := ⟨.hbm, 298, rfl⟩
abbrev main_call13_cst_0 : Ref sig .tc := ⟨.hbm, 299, rfl⟩
abbrev main_call13_v4 : Ref sig .tc := ⟨.hbm, 300, rfl⟩
abbrev main_call13_v5 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_call14_v0 : Ref sig .tc := ⟨.hbm, 317, rfl⟩
abbrev main_call14_v1 : Ref sig .tc := ⟨.hbm, 318, rfl⟩
abbrev main_call14_cst : Ref sig .tc := ⟨.hbm, 319, rfl⟩
abbrev main_call14_v2 : Ref sig .tc := ⟨.hbm, 320, rfl⟩
abbrev main_call14_v3 : Ref sig .tc := ⟨.hbm, 321, rfl⟩
abbrev main_call14_cst_0 : Ref sig .tc := ⟨.hbm, 322, rfl⟩
abbrev main_call14_v4 : Ref sig .tc := ⟨.hbm, 323, rfl⟩
abbrev main_call14_v5 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_call15_v0 : Ref sig .tc := ⟨.hbm, 340, rfl⟩
abbrev main_call15_v1 : Ref sig .tc := ⟨.hbm, 341, rfl⟩
abbrev main_call15_cst : Ref sig .tc := ⟨.hbm, 342, rfl⟩
abbrev main_call15_v2 : Ref sig .tc := ⟨.hbm, 343, rfl⟩
abbrev main_call15_v3 : Ref sig .tc := ⟨.hbm, 344, rfl⟩
abbrev main_call15_cst_0 : Ref sig .tc := ⟨.hbm, 345, rfl⟩
abbrev main_call15_v4 : Ref sig .tc := ⟨.hbm, 346, rfl⟩
abbrev main_call15_v5 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_call16_v0 : Ref sig .tc := ⟨.hbm, 363, rfl⟩
abbrev main_call16_v1 : Ref sig .tc := ⟨.hbm, 364, rfl⟩
abbrev main_call16_cst : Ref sig .tc := ⟨.hbm, 365, rfl⟩
abbrev main_call16_v2 : Ref sig .tc := ⟨.hbm, 366, rfl⟩
abbrev main_call16_v3 : Ref sig .tc := ⟨.hbm, 367, rfl⟩
abbrev main_call16_cst_0 : Ref sig .tc := ⟨.hbm, 368, rfl⟩
abbrev main_call16_v4 : Ref sig .tc := ⟨.hbm, 369, rfl⟩
abbrev main_call16_v5 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_call17_v0 : Ref sig .tc := ⟨.hbm, 386, rfl⟩
abbrev main_call17_v1 : Ref sig .tc := ⟨.hbm, 387, rfl⟩
abbrev main_call17_cst : Ref sig .tc := ⟨.hbm, 388, rfl⟩
abbrev main_call17_v2 : Ref sig .tc := ⟨.hbm, 389, rfl⟩
abbrev main_call17_v3 : Ref sig .tc := ⟨.hbm, 390, rfl⟩
abbrev main_call17_cst_0 : Ref sig .tc := ⟨.hbm, 391, rfl⟩
abbrev main_call17_v4 : Ref sig .tc := ⟨.hbm, 392, rfl⟩
abbrev main_call17_v5 : Ref sig .tc := ⟨.hbm, 393, rfl⟩
abbrev main_v246 : Ref sig .tc := ⟨.hbm, 394, rfl⟩
abbrev main_v247 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩

abbrev nD : Nat := 1
abbrev τ : Topo := Topo.v7x

variable {F : FTy → Type} [FloatOps F]
-- ==== Kernel3.lean ====
abbrev S2x16384x1024 : Shape := ⟨3, ![2, 16384, 1024]⟩
abbrev S32768x1024 : Shape := ⟨2, ![32768, 1024]⟩
abbrev S2x1x6144 : Shape := ⟨3, ![2, 1, 6144]⟩
abbrev S2x6x1024 : Shape := ⟨3, ![2, 6, 1024]⟩
abbrev S_ : Shape := ⟨0, ![]⟩
abbrev S2x8x1024 : Shape := ⟨3, ![2, 8, 1024]⟩
abbrev S2x16640x1024 : Shape := ⟨3, ![2, 16640, 1024]⟩
abbrev S33280x1024 : Shape := ⟨2, ![33280, 1024]⟩
abbrev S256x1024 : Shape := ⟨2, ![256, 1024]⟩
abbrev S1x8x1024 : Shape := ⟨3, ![1, 8, 1024]⟩
abbrev S1x256x1024 : Shape := ⟨3, ![1, 256, 1024]⟩
abbrev S1x1x1024 : Shape := ⟨3, ![1, 1, 1024]⟩
abbrev S1x1024 : Shape := ⟨2, ![1, 1024]⟩

abbrev nBuf : Space → Nat
  | .hbm => 17
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S2x1x6144, .f32⟩
  | .hbm, ⟨3, _⟩ => ⟨S2x6x1024, .f32⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S_, .i32⟩
  | .hbm, ⟨8, _⟩ => ⟨S_, .f32⟩
  | .hbm, ⟨9, _⟩ => ⟨S2x16640x1024, .f32⟩
  | .hbm, ⟨10, _⟩ => ⟨S33280x1024, .f32⟩
  | .hbm, ⟨11, _⟩ => ⟨S2x16384x1024, .f32⟩
  | .hbm, ⟨12, _⟩ => ⟨S_, .i32⟩
  | .hbm, ⟨13, _⟩ => ⟨S_, .f32⟩
  | .hbm, ⟨14, _⟩ => ⟨S2x16640x1024, .f32⟩
  | .hbm, ⟨15, _⟩ => ⟨S33280x1024, .f32⟩
  | .hbm, ⟨16, _⟩ => ⟨S2x16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x256x1024, .f32⟩
  | .local _ .vmem, ⟨7, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16384x1024 : Shape := ⟨3, ![2, 16384, 1024]⟩
abbrev S32768x1024 : Shape := ⟨2, ![32768, 1024]⟩
abbrev S2x1x6144 : Shape := ⟨3, ![2, 1, 6144]⟩
abbrev S2x1x1024 : Shape := ⟨3, ![2, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S2x1x6144, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S2x16384x12x64 : Shape := ⟨4, ![2, 16384, 12, 64]⟩
abbrev S2x16384x4x64 : Shape := ⟨4, ![2, 16384, 4, 64]⟩
abbrev S2x256x4x64 : Shape := ⟨4, ![2, 256, 4, 64]⟩
abbrev S12 : Shape := ⟨1, ![12]⟩
abbrev S_ : Shape := ⟨0, ![]⟩
abbrev S2x16640x12x64 : Shape := ⟨4, ![2, 16640, 12, 64]⟩
abbrev S2x16640x12x128 : Shape := ⟨4, ![2, 16640, 12, 128]⟩
abbrev S33280x1536 : Shape := ⟨2, ![33280, 1536]⟩
abbrev S2x16640x4x64 : Shape := ⟨4, ![2, 16640, 4, 64]⟩
abbrev S2x16640x4x128 : Shape := ⟨4, ![2, 16640, 4, 128]⟩
abbrev S33280x512 : Shape := ⟨2, ![33280, 512]⟩
abbrev S128x1536 : Shape := ⟨2, ![128, 1536]⟩
abbrev S128x512 : Shape := ⟨2, ![128, 512]⟩
abbrev S256x512 : Shape := ⟨2, ![256, 512]⟩
abbrev S384x1 : Shape := ⟨2, ![384, 1]⟩
abbrev S1x384 : Shape := ⟨2, ![1, 384]⟩
abbrev S384x384 : Shape := ⟨2, ![384, 384]⟩
abbrev S128x128 : Shape := ⟨2, ![128, 128]⟩
abbrev S384x128 : Shape := ⟨2, ![384, 128]⟩
abbrev S256x128 : Shape := ⟨2, ![256, 128]⟩
abbrev S384x256 : Shape := ⟨2, ![384, 256]⟩
abbrev S1 : Shape := ⟨1, ![1]⟩
abbrev S384 : Shape := ⟨1, ![384]⟩
abbrev S1x128 : Shape := ⟨2, ![1, 128]⟩
abbrev S2x16384x768 : Shape := ⟨3, ![2, 16384, 768]⟩

abbrev nBuf : Space → Nat
  | .hbm => 33
  | .vmem => 20
  | .smem => 1
  | _ => 0

abbrev bufTy : (tb : Table) → Fin (tcTables nBuf tb) → BufTy
  | .hbm, ⟨0, _⟩ => ⟨S2x16384x12x64, .f32⟩
  | .hbm, ⟨1, _⟩ => ⟨S2x16384x4x64, .f32⟩
  | .hbm, ⟨2, _⟩ => ⟨S2x16384x4x64, .f32⟩
  | .hbm, ⟨3, _⟩ => ⟨S2x256x4x64, .f32⟩
  | .hbm, ⟨4, _⟩ => ⟨S2x256x4x64, .f32⟩
  | .hbm, ⟨5, _⟩ => ⟨S12, .f32⟩
  | .hbm, ⟨6, _⟩ => ⟨S_, .f32⟩
  | .hbm, ⟨7, _⟩ => ⟨S2x16384x12x64, .f32⟩
  | .hbm, ⟨8, _⟩ => ⟨S2x16384x12x64, .f32⟩
  | .hbm, ⟨9, _⟩ => ⟨S_, .i32⟩
  | .hbm, ⟨10, _⟩ => ⟨S_, .f32⟩
  | .hbm, ⟨11, _⟩ => ⟨S2x16640x12x64, .f32⟩
  | .hbm, ⟨12, _⟩ => ⟨S_, .f32⟩
  | .hbm, ⟨13, _⟩ => ⟨S_, .f32⟩
  | .hbm, ⟨14, _⟩ => ⟨S2x16640x12x128, .f32⟩
  | .hbm, ⟨15, _⟩ => ⟨S33280x1536, .f32⟩
  | .hbm, ⟨16, _⟩ => ⟨S33280x1536, .bf16⟩
  | .hbm, ⟨17, _⟩ => ⟨S2x16640x4x64, .f32⟩
  | .hbm, ⟨18, _⟩ => ⟨S_, .f32⟩
  | .hbm, ⟨19, _⟩ => ⟨S_, .f32⟩
  | .hbm, ⟨20, _⟩ => ⟨S2x16640x4x128, .f32⟩
  | .hbm, ⟨21, _⟩ => ⟨S33280x512, .f32⟩
  | .hbm, ⟨22, _⟩ => ⟨S33280x512, .bf16⟩
  | .hbm, ⟨23, _⟩ => ⟨S2x16640x4x64, .f32⟩
  | .hbm, ⟨24, _⟩ => ⟨S_, .f32⟩
  | .hbm, ⟨25, _⟩ => ⟨S_, .f32⟩
  | .hbm, ⟨26, _⟩ => ⟨S2x16640x4x128, .f32⟩
  | .hbm, ⟨27, _⟩ => ⟨S33280x512, .f32⟩
  | .hbm, ⟨28, _⟩ => ⟨S33280x512, .bf16⟩
  | .hbm, ⟨29, _⟩ => ⟨S33280x1536, .bf16⟩
  | .hbm, ⟨30, _⟩ => ⟨S2x16640x12x128, .bf16⟩
  | .hbm, ⟨31, _⟩ => ⟨S2x16384x12x64, .bf16⟩
  | .hbm, ⟨32, _⟩ => ⟨S2x16384x768, .bf16⟩
  | .local _ .vmem, ⟨0, _⟩ => ⟨S128x1536, .bf16⟩
  | .local _ .vmem, ⟨1, _⟩ => ⟨S128x1536, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S256x512, .bf16⟩
  | .local _ .vmem, ⟨17, _⟩ => ⟨S256x512, .bf16⟩
  | .local _ .vmem, ⟨18, _⟩ => ⟨S128x1536, .bf16⟩
  | .local _ .vmem, ⟨19, _⟩ => ⟨S128x1536, .bf16⟩
  | .local _ .smem, ⟨0, _⟩ => ⟨S12, .f32⟩
  | _, _ => ⟨S2x16384x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_cst_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call3_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 130], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c_m1_i32 : BitVec 32 := 4294967295#32
  let v1 : BitVec 32 := Scalar.addi arg1 c_m1_i32
  let c0_i32 : BitVec 32 := 0#32
  let c127_i32 : BitVec 32 := 127#32
  let v2 : BitVec 32 := Scalar.maxsi c0_i32 v1
  let v3 : BitVec 32 := Scalar.minsi c127_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c0_i32 : BitVec 32 := 0#32
  let v1 : BitVec 32 := Scalar.addi arg1 c0_i32
  let c0_i32_0 : BitVec 32 := 0#32
  let c127_i32 : BitVec 32 := 127#32
  let v2 : BitVec 32 := Scalar.maxsi c0_i32_0 v1
  let v3 : BitVec 32 := Scalar.minsi c127_i32 v2
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c1_i32 : BitVec 32 := 1#32
  let v1 : BitVec 32 := Scalar.addi arg1 c1_i32
  let c0_i32 : BitVec 32 := 0#32
  let c127_i32 : BitVec 32 := 127#32
  let v2 : BitVec 32 := Scalar.maxsi c0_i32 v1
  let v3 : BitVec 32 := Scalar.minsi c127_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c64_i32 : BitVec 32 := 64#32
  let v1 : BitVec 32 := Scalar.addi v0 c64_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c_m1_i32 : BitVec 32 := 4294967295#32
  let v1 : BitVec 32 := Scalar.addi arg1 c_m1_i32
  let c0_i32 : BitVec 32 := 0#32
  let c127_i32 : BitVec 32 := 127#32
  let v2 : BitVec 32 := Scalar.maxsi c0_i32 v1
  let v3 : BitVec 32 := Scalar.minsi c127_i32 v2
  let v4 : BitVec 32 := Scalar.addi v0 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c0_i32 : BitVec 32 := 0#32
  let v1 : BitVec 32 := Scalar.addi arg1 c0_i32
  let c0_i32_0 : BitVec 32 := 0#32
  let c127_i32 : BitVec 32 := 127#32
  let v2 : BitVec 32 := Scalar.maxsi c0_i32_0 v1
  let v3 : BitVec 32 := Scalar.minsi c127_i32 v2
  let v4 : BitVec 32 := Scalar.addi v0 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let c1_i32 : BitVec 32 := 1#32
  let v1 : BitVec 32 := Scalar.addi arg1 c1_i32
  let c0_i32 : BitVec 32 := 0#32
  let c127_i32 : BitVec 32 := 127#32
  let v2 : BitVec 32 := Scalar.maxsi c0_i32 v1
  let v3 : BitVec 32 := Scalar.minsi c127_i32 v2
  let v4 : BitVec 32 := Scalar.addi v0 v3
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c64_i32 : BitVec 32 := 64#32
  let v1 : BitVec 32 := Scalar.addi v0 c64_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c130_i32 : BitVec 32 := 130#32
  let v0 : BitVec 32 := Scalar.muli arg0 c130_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x16384x12x64 : Shape := ⟨4, ![2, 16384, 12, 64]⟩
abbrev S2x16384x4x64 : Shape := ⟨4, ![2, 16384, 4, 64]⟩
abbrev S2x256x4x64 : Shape := ⟨4, ![2, 256, 4, 64]⟩
abbrev S12 : Shape := ⟨1, ![12]⟩
abbrev S2x128x128x4x3x64 : Shape := ⟨6, ![2, 128, 128, 4, 3, 64]⟩
abbrev S_ : Shape := ⟨0, ![]⟩
abbrev S2x16640x4x64 : Shape := ⟨4, ![2, 16640, 4, 64]⟩
abbrev S2x130x128x4x64 : Shape := ⟨5, ![2, 130, 128, 4, 64]⟩
abbrev S2x128x128x4x64 : Shape := ⟨5, ![2, 128, 128, 4, 64]⟩
abbrev S2x128x384x4x64 : Shape := ⟨5, ![2, 128, 384, 4, 64]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S2x4x128x384x128x3 : Shape := ⟨6, ![2, 4, 128, 384, 128, 3]⟩
abbrev S2x4x3x128x128x384 : Shape := ⟨6, ![2, 4, 3, 128, 128, 384]⟩
abbrev S2x4x256x128x128x3 : Shape := ⟨6, ![2, 4, 256, 128, 128, 3]⟩
abbrev S2x4x3x128x128x256 : Shape := ⟨6, ![2, 4, 3, 128, 128, 256]⟩
abbrev S4x3 : Shape := ⟨2, ![4, 3]⟩
abbrev S1x4x3x1x1x1 : Shape := ⟨6, ![1, 4, 3, 1, 1, 1]⟩
abbrev S2x4x3x128x128x1 : Shape := ⟨6, ![2, 4, 3, 128, 128, 1]⟩
abbrev S2x4x3x128x128x641 : Shape := ⟨6, ![2, 4, 3, 128, 128, 641]⟩
abbrev S2x4x3x128x128 : Shape := ⟨5, ![2, 4, 3, 128, 128]⟩
abbrev S2x128x4x64x3x128 : Shape := ⟨6, ![2, 128, 4, 64, 3, 128]⟩
abbrev S2x4x64x3x128x128 : Shape := ⟨6, ![2, 4, 64, 3, 128, 128]⟩
abbrev S2x16384x768 : Shape := ⟨3, ![2, 16384, 768]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x12x64, .f32⟩
  | .hbm, ⟨1, _⟩ => ⟨S2x16384x4x64, .f32⟩
  | .hbm, ⟨2, _⟩ => ⟨S2x16384x4x64, .f32⟩
  | .hbm, ⟨3, _⟩ => ⟨S2x256x4x64, .f32⟩
  | .hbm, ⟨4, _⟩ => ⟨S2x256x4x64, .f32⟩
  | .hbm, ⟨5, _⟩ => ⟨S12, .f32⟩
  | .hbm, ⟨6, _⟩ => ⟨S2x128x128x4x3x64, .f32⟩
  | .hbm, ⟨7, _⟩ => ⟨S_, .i32⟩
  | .hbm, ⟨8, _⟩ => ⟨S_, .f32⟩
  | .hbm, ⟨9, _⟩ => ⟨S2x16640x4x64, .f32⟩
  | .hbm, ⟨10, _⟩ => ⟨S2x130x128x4x64, .f32⟩
  | .hbm, ⟨11, _⟩ => ⟨S2x128x128x4x64, .f32⟩
  | .hbm, ⟨12, _⟩ => ⟨S2x128x128x4x64, .f32⟩
  | .hbm, ⟨13, _⟩ => ⟨S2x128x128x4x64, .f32⟩
  | .hbm, ⟨14, _⟩ => ⟨S2x128x384x4x64, .f32⟩
  | .hbm, ⟨15, _⟩ => ⟨S_, .i32⟩
  | .hbm, ⟨16, _⟩ => ⟨S_, .f32⟩
  | .hbm, ⟨17, _⟩ => ⟨S2x16640x4x64, .f32⟩
  | .hbm, ⟨18, _⟩ => ⟨S2x130x128x4x64, .f32⟩
  | .hbm, ⟨19, _⟩ => ⟨S2x128x128x4x64, .f32⟩
  | .hbm, ⟨20, _⟩ => ⟨S2x128x128x4x64, .f32⟩
  | .hbm, ⟨21, _⟩ => ⟨S2x128x128x4x64, .f32⟩
  | .hbm, ⟨22, _⟩ => ⟨S2x128x384x4x64, .f32⟩
  | .hbm, ⟨23, _⟩ => ⟨S128, .i32⟩
  | .hbm, ⟨24, _⟩ => ⟨S128x1x1, .i32⟩
  | .hbm, ⟨25, _⟩ => ⟨S_, .i32⟩
  | .hbm, ⟨26, _⟩ => ⟨S128x1x1, .i32⟩
  | .hbm, ⟨27, _⟩ => ⟨S128x1x1, .i32⟩
  | .hbm, ⟨28, _⟩ => ⟨S128, .i32⟩
  | .hbm, ⟨29, _⟩ => ⟨S1x128x1, .i32⟩
  | .hbm, ⟨30, _⟩ => ⟨S128x128x1, .i32⟩
  | .hbm, ⟨31, _⟩ => ⟨S128x128x1, .i32⟩
  | .hbm, ⟨32, _⟩ => ⟨S128x128x1, .i32⟩
  | .hbm, ⟨33, _⟩ => ⟨S_, .i32⟩
  | .hbm, ⟨34, _⟩ => ⟨S128x1x1, .i32⟩
  | .hbm, ⟨35, _⟩ => ⟨S128x1x1, .i32⟩
  | .hbm, ⟨36, _⟩ => ⟨S384, .i32⟩
  | .hbm, ⟨37, _⟩ => ⟨S1x1x384, .i32⟩
  | .hbm, ⟨38, _⟩ => ⟨S128x1x384, .i32⟩
  | .hbm, ⟨39, _⟩ => ⟨S128x1x384, .i32⟩
  | .hbm, ⟨40, _⟩ => ⟨S128x1x384, .i32⟩
  | .hbm, ⟨41, _⟩ => ⟨S128x128x384, .i32⟩
  | .hbm, ⟨42, _⟩ => ⟨S128x128x384, .i32⟩
  | .hbm, ⟨43, _⟩ => ⟨S128x128x384, .i32⟩
  | .hbm, ⟨44, _⟩ => ⟨S128x128x384, .i32⟩
  | .hbm, ⟨45, _⟩ => ⟨S_, .i32⟩
  | .hbm, ⟨46, _⟩ => ⟨S128x128x384, .i32⟩
  | .hbm, ⟨47, _⟩ => ⟨S128x128x384, .i1⟩
  | .hbm, ⟨48, _⟩ => ⟨S_, .i32⟩
  | .hbm, ⟨49, _⟩ => ⟨S128x1x384, .i32⟩
  | .hbm, ⟨50, _⟩ => ⟨S128x1x384, .i1⟩
  | .hbm, ⟨51, _⟩ => ⟨S128x128x384, .i1⟩
  | .hbm, ⟨52, _⟩ => ⟨S128x128x384, .i1⟩
  | .hbm, ⟨53, _⟩ => ⟨S_, .i32⟩
  | .hbm, ⟨54, _⟩ => ⟨S128x1x384, .i32⟩
  | .hbm, ⟨55, _⟩ => ⟨S128x1x384, .i1⟩
  | .hbm, ⟨56, _⟩ => ⟨S128x128x384, .i1⟩
  | .hbm, ⟨57, _⟩ => ⟨S128x128x384, .i1⟩
  | .hbm, ⟨58, _⟩ => ⟨S2x4x128x384x128x3, .f32⟩
  | .hbm, ⟨59, _⟩ => ⟨S2x4x3x128x128x384, .f32⟩
  | .hbm, ⟨60, _⟩ => ⟨S_, .f32⟩
  | .hbm, ⟨61, _⟩ => ⟨S2x4x3x128x128x384, .f32⟩
  | .hbm, ⟨62, _⟩ => ⟨S2x4x3x128x128x384, .f32⟩
  | .hbm, ⟨63, _⟩ => ⟨S_, .f32⟩
  | .hbm, ⟨64, _⟩ => ⟨S_, .f32⟩
  | .hbm, ⟨65, _⟩ => ⟨S2x4x3x128x128x384, .i1⟩
  | .hbm, ⟨66, _⟩ => ⟨S2x4x3x128x128x384, .f32⟩
  | .hbm, ⟨67, _⟩ => ⟨S2x4x3x128x128x384, .f32⟩
  | .hbm, ⟨68, _⟩ => ⟨S2x4x256x128x128x3, .f32⟩
  | .hbm, ⟨69, _⟩ => ⟨S2x4x3x128x128x256, .f32⟩
  | .hbm, ⟨70, _⟩ => ⟨S_, .f32⟩
  | .hbm, ⟨71, _⟩ => ⟨S2x4x3x128x128x256, .f32⟩
  | .hbm, ⟨72, _⟩ => ⟨S2x4x3x128x128x256, .f32⟩
  | .hbm, ⟨73, _⟩ => ⟨S4x3, .f32⟩
  | .hbm, ⟨74, _⟩ => ⟨S1x4x3x1x1x1, .f32⟩
  | .hbm, ⟨75, _⟩ => ⟨S2x4x3x128x128x1, .f32⟩
  | .hbm, ⟨76, _⟩ => ⟨S2x4x3x128x128x641, .f32⟩
  | .hbm, ⟨77, _⟩ => ⟨S_, .f32⟩
  | .hbm, ⟨78, _⟩ => ⟨S2x4x3x128x128, .f32⟩
  | .hbm, ⟨79, _⟩ => ⟨S_, .f32⟩
  | .hbm, ⟨80, _⟩ => ⟨S2x4x3x128x128, .f32⟩
  | .hbm, ⟨81, _⟩ => ⟨S2x4x3x128x128, .f32⟩
  | .hbm, ⟨82, _⟩ => ⟨S2x4x3x128x128x1, .f32⟩
  | .hbm, ⟨83, _⟩ => ⟨S2x4x3x128x128x641, .f32⟩
  | .hbm, ⟨84, _⟩ => ⟨S2x4x3x128x128x641, .f32⟩
  | .hbm, ⟨85, _⟩ => ⟨S2x4x3x128x128x641, .f32⟩
  | .hbm, ⟨86, _⟩ => ⟨S_, .f32⟩
  | .hbm, ⟨87, _⟩ => ⟨S2x4x3x128x128, .f32⟩
  | .hbm, ⟨88, _⟩ => ⟨S2x4x3x128x128x1, .f32⟩
  | .hbm, ⟨89, _⟩ => ⟨S2x4x3x128x128x641, .f32⟩
  | .hbm, ⟨90, _⟩ => ⟨S2x4x3x128x128x641, .f32⟩
  | .hbm, ⟨91, _⟩ => ⟨S2x4x3x128x128x384, .f32⟩
  | .hbm, ⟨92, _⟩ => ⟨S2x128x4x64x3x128, .f32⟩
  | .hbm, ⟨93, _⟩ => ⟨S2x128x128x4x3x64, .f32⟩
  | .hbm, ⟨94, _⟩ => ⟨S2x4x3x128x128x256, .f32⟩
  | .hbm, ⟨95, _⟩ => ⟨S2x4x64x3x128x128, .f32⟩
  | .hbm, ⟨96, _⟩ => ⟨S2x128x128x4x3x64, .f32⟩
  | .hbm, ⟨97, _⟩ => ⟨S2x128x128x4x3x64, .f32⟩
  | .hbm, ⟨98, _⟩ => ⟨S2x16384x768, .f32⟩
  | .hbm, ⟨99, _⟩ => ⟨S2x16384x768, .bf16⟩
  | _, _ => ⟨S2x16384x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Proof.Block.lean ====
/-
  One query block of the latent attention, as the kernel computes it, over any float values: the chunks of keys and
  values it reads, the scores of a chunk, one step of the running softmax, the state after a number of chunks, and the
  block it stores at the end.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.ValueIdx

@[expose] public section

noncomputable section

namespace Cert.KernelIdeal.Latent

open Idealize.ShloMosaic Idealize.ShloMosaic.ValueIdx Cert.KernelIdeal.Gen

variable {F : FTy → Type} [FloatOps F]

/-- Rows `2048 c` to `2048 c + 2047` of a block of keys or values (`c ≤ 7`; a row past the end is read as the last). -/
def chunk (x : Vec F S1x16640x128 .bf16) (c : ℕ) : Vec F S1x2048x128 .bf16 :=
  fun y => x (ix3 0 ⟨min (c * 2048 + (y 1).val) 16639, by omega⟩ (y 2))

/-- The rows of the context tokens: the last 256 rows of a block of keys or values. -/
def tail (x : Vec F S1x16640x128 .bf16) : Vec F S1x256x128 .bf16 :=
  fun y => x (ix3 0 ⟨16384 + (y 1).val, by have := (y 1).isLt; simp at this; omega⟩ (y 2))

/-- The scores of a query block against the keys of chunk `c`. -/
def scores (q : Vec F S1x512x128 .bf16) (k : Vec F S1x16640x128 .bf16) (c : ℕ) : Vec F S1x512x2048 .f32 :=
  k0_pay7 q (chunk k c)

/-- The running maximum and the running sums after the first `n` chunks. -/
def state (q : Vec F S1x512x128 .bf16) (k v : Vec F S1x16640x128 .bf16) : ℕ → FVec F S512x1 .f32 × FVec F S512x128 .f32
  | 0 => (k0_pay8, k0_pay9)
  | n + 1 => (k0_pay4 (state q k v n).1 (scores q k n),
      k0_pay5 (state q k v n).1 (state q k v n).2 (scores q k n) (chunk v n))

/-- The block of results: the context tokens taken into the state after eight chunks, then the sums divided. -/
def block (q : Vec F S1x512x128 .bf16) (k v : Vec F S1x16640x128 .bf16) : Vec F S1x512x128 .bf16 :=
  k0_pay1 (k0_pay16 q (state q k v 8).1 (state q k v 8).2 (tail k)) (k0_pay17 q (state q k v 8).1 (tail k) (tail v))

end Cert.KernelIdeal.Latent

end
-- ==== Proof.Trip.lean ====
/-
  One trip of the kernel's loop over the key chunks, two chunks a trip, by the symbolic run, and the loop's invariant:
  before trip `k` the carried values are the state after `2 k` chunks and the first slot of the scratch holds the scores
  of chunk `2 k` (of the last chunk, once there is no further one).
-/
module

public import proofs.«01_k».proof.Proof.Block
public import Idealize.ShloMosaic.Lib.WholeRead
public import Idealize.ShloMosaic.Lib.Pipeline.FrameBody
public import Idealize.ShloMosaic.Lib.Writes

@[expose] public section

set_option maxRecDepth 16384

noncomputable section

namespace Cert.KernelIdeal.Latent

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of 2048 rows from row `2048 c` of a block of keys or values reads chunk `c`. -/
theorem load_chunk (m : Memref sig .tc .vmem S1x16640x128 .bf16) (h : m.IsWhole) (x : Vec F S1x16640x128 .bf16) (c : ℕ)
    (hc : c ≤ 7) (off : Fin 3 → ℕ) (heq : off = ![0, 2048 * c, 0]) (inb) :
    View.readAt (Elt F) m.view (Rect.unit (s := S1x16640x128) off S1x2048x128.size inb).toLoadRect (h.unread x)
      = chunk x c := by
  subst heq
  funext y
  rw [h.readAt_unread]
  refine congrArg x (funext fun a => Fin.ext ?_)
  have h0 := (y 0).isLt
  have h1 := (y 1).isLt
  simp [S1x2048x128] at h0 h1
  match a with
  | ⟨0, _⟩ => simp [LoadRect.idx, ix3, h0]
  | ⟨1, _⟩ => simp [LoadRect.idx, ix3]; omega
  | ⟨2, _⟩ => simp [LoadRect.idx, ix3]

/-- A load of the last 256 rows of a block of keys or values reads its tail. -/
theorem load_tail (m : Memref sig .tc .vmem S1x16640x128 .bf16) (h : m.IsWhole) (x : Vec F S1x16640x128 .bf16) (inb) :
    View.readAt (Elt F) m.view (Rect.unit (s := S1x16640x128) ![0, 16384, 0] S1x256x128.size inb).toLoadRect (h.unread x)
      = tail x := by
  funext y
  rw [h.readAt_unread]
  refine congrArg x (funext fun a => Fin.ext ?_)
  have h0 := (y 0).isLt
  simp [S1x256x128] at h0
  match a with
  | ⟨0, _⟩ => simp [LoadRect.idx, ix3, h0]
  | ⟨1, _⟩ => simp [LoadRect.idx, ix3]
  | ⟨2, _⟩ => simp [LoadRect.idx, ix3]

/-- What the scratch's first slot holds. -/
abbrev slot0 (m : Memref sig .tc .vmem S2x512x2048 .f32) (f : BufTy.Contents (Elt F) m.view.ty) : Vec F S1x512x2048 .f32 :=
  View.readAt (Elt F) m.view (Rect.unit (s := S2x512x2048) ![0, 0, 0] S1x512x2048.size inb_S2x512x2048_S1x512x2048_0_0_0).toLoadRect f

/-- What was stored last in a rectangle is read back from it. -/
theorem readAt_writes_same {sig : RefSig} {κ : Kind} {sp : Space} {s : Shape} {e : EltTy} {Val : EltTy → Type}
    (v : View sig κ sp s e) (f : v.ty.Contents Val) (r : Rect s) (w : r.shape.Idx → Val e) (L) :
    v.readAt Val r.toLoadRect (v.writes Val f (⟨r, w⟩ :: L)) = w :=
  funext fun y => View.read_writes_cons_emb v f r w L y

/-- What was stored before the last store is read back, where the last store is disjoint from it. -/
theorem readCov_second {sig : RefSig} {κ : Kind} {sp : Space} {s : Shape} {e : EltTy} {Val : EltTy → Type} [∀ e, Nonempty (Val e)]
    (v : View sig κ sp s e) (r r' : Rect s) (w : r.shape.Idx → Val e) (w' : r'.shape.Idx → Val e) (a : Fin s.rank)
    (h : r.size a = 0 ∨ r.off a + r.stride a * (r.size a - 1) < r'.off a ∨ r'.size a = 0 ∨ r'.off a + r'.stride a * (r'.size a - 1) < r.off a) :
    v.readCov (Val := Val) [⟨r', w'⟩, ⟨r, w⟩] r.toLoadRect = w :=
  (View.readCov_cons_of_disjoint v ⟨r', w'⟩ _ _ (LoadRect.disjoint_of_separated r'.toLoadRect r.toLoadRect a (by
      rcases h with h | h | h | h
      exacts [.inr (.inl h), .inr (.inr h), .inl (.inl h), .inl (.inr h)]))).trans
    (View.readCov_cons_toLoadRect v r w [])

/-- The state after two more chunks, in the terms of one trip. -/
theorem state_two (q : Vec F S1x512x128 .bf16) (xk xv : Vec F S1x16640x128 .bf16) (n : ℕ) :
    state q xk xv (n + 2)
      = (k0_pay12 (k0_pay4 (state q xk xv n).1 (scores q xk n)) (k0_pay2 (k0_pay6 q) (chunk xk (n + 1))),
        k0_pay13 (k0_pay4 (state q xk xv n).1 (scores q xk n))
          (k0_pay5 (state q xk xv n).1 (state q xk xv n).2 (scores q xk n) (chunk xv n))
          (k0_pay2 (k0_pay6 q) (chunk xk (n + 1))) (chunk xv (n + 1))) := rfl

/-- One trip: from the state after `2 k` chunks and the scores of chunk `2 k` in the first slot, to the state after
two more chunks and the scores of the next chunk. -/
theorem trip (𝒱 : Variants) (c : Dev nD) (bd : Option 𝒱.V) (E : Set ℕ) (i : grid0.Coords) (arg3 : Memref sig .tc .vmem S1x512x128 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x512x128 .bf16) (harg6 : arg6.IsWhole) (arg7 : Memref sig .tc .vmem S2x512x2048 .f32) (harg7 : arg7.IsWhole)
    (q : Vec F S1x512x128 .bf16) (xk xv : Vec F S1x16640x128 .bf16) (k : Fin k0_t1_loop.trips) (acc : FVec F S512x1 .f32 × FVec F S512x128 .f32) (f : BufTy.Contents (Elt F) arg7.view.ty)
    (hf : slot0 arg7 f = scores q xk (min (2 * k.val) 7)) (hacc : acc = state q xk xv (2 * k.val)) :
    (iprop((arg4.view.loc (c : Thread nD τ) ↦[arg4.view.set]{fullShare} harg4.unread xk) ∗ (arg5.view.loc (c : Thread nD τ) ↦[arg5.view.set]{fullShare} harg5.unread xv) ∗ (arg7.view.loc (c : Thread nD τ) ↦[arg7.view.set]{fullShare} f)) : sProp 𝕄)
      ⊢ wp frame (wpE (defs₀ (F := F)) 𝒱 (c : Thread nD τ) bd) E (k0_t1_body (F := F) i arg3 harg3 arg4 harg4 arg5 harg5 arg6 harg6 arg7 harg7 q k acc)
        (fun yld => iprop((arg4.view.loc (c : Thread nD τ) ↦[arg4.view.set]{fullShare} harg4.unread xk) ∗ (arg5.view.loc (c : Thread nD τ) ↦[arg5.view.set]{fullShare} harg5.unread xv)
          ∗ (∃ g, (arg7.view.loc (c : Thread nD τ) ↦[arg7.view.set]{fullShare} g) ∗ ⌜slot0 arg7 g = scores q xk (min (2 * (k.val + 1)) 7)⌝)
          ∗ ⌜yld = state q xk xv (2 * (k.val + 1))⌝)) := by
  have hk : k.val < 4 := Nat.lt_of_lt_of_le k.isLt k0_t1_abs.2.1
  subst hacc
  unfold k0_t1_body
  iintro ⟨HK, HV, HS⟩
  sl_exec
  sl_step
  isplitl [HK]; · iexact HK
  isplitl [HV]; · iexact HV
  isplitl [HS]
  · iexists _; isplitl [HS]; · iexact HS
    ipureintro
    unfold trip.sl.HS_2
    refine (readAt_writes_same _ _ _ _ _).trans ?_
    rw [load_chunk arg4 harg4 xk (min (2 * (k.val + 1)) 7) (by omega) _ (k0_off3_eq k)]
    rfl
  · ipureintro
    unfold trip.sl.v92 trip.sl.r trip.sl.r_1 trip.sl.HS_2
    rw [show 2 * (k.val + 1) = 2 * k.val + 2 by omega, state_two, show min (2 * k.val) 7 = 2 * k.val by omega,
      readCov_second _ _ _ _ _ 0 (.inr (.inr (.inr (by decide)))),
      load_chunk arg4 harg4 xk (2 * k.val + 1) (by omega) _ ((k0_off1_eq k).trans (by congr 2; omega)),
      load_chunk arg5 harg5 xv (2 * k.val + 1) (by omega) _ ((k0_off4_eq k).trans (by congr 2; omega)),
      load_chunk arg5 harg5 xv (2 * k.val) (by omega) _ ((k0_off2_eq k).trans (by congr 2; omega))]

/-- The loop by its invariant. -/
abbrev inv (c : Dev nD) (arg4 : Memref sig .tc .vmem S1x16640x128 .bf16) (harg4 : arg4.IsWhole) (arg5 : Memref sig .tc .vmem S1x16640x128 .bf16) (harg5 : arg5.IsWhole) (arg7 : Memref sig .tc .vmem S2x512x2048 .f32)
    (q : Vec F S1x512x128 .bf16) (xk xv : Vec F S1x16640x128 .bf16) (k : ℕ) (acc : FVec F S512x1 .f32 × FVec F S512x128 .f32) : sProp 𝕄 :=
  iprop((arg4.view.loc (c : Thread nD τ) ↦[arg4.view.set]{fullShare} harg4.unread xk) ∗ (arg5.view.loc (c : Thread nD τ) ↦[arg5.view.set]{fullShare} harg5.unread xv)
    ∗ (∃ f, (arg7.view.loc (c : Thread nD τ) ↦[arg7.view.set]{fullShare} f) ∗ ⌜slot0 arg7 f = scores q xk (min (2 * k) 7)⌝)
    ∗ ⌜acc = state q xk xv (2 * k)⌝)

set_option warn.classDefReducibility false in
/-- The loop over the key chunks by its invariant, starting from the state before the first chunk. -/
@[sl_loop] def loop (𝒱 : Variants) (c : Dev nD) (bd : Option 𝒱.V) (E : Set ℕ) (i : grid0.Coords) (arg3 : Memref sig .tc .vmem S1x512x128 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x512x128 .bf16) (harg6 : arg6.IsWhole) (arg7 : Memref sig .tc .vmem S2x512x2048 .f32) (harg7 : arg7.IsWhole)
    (q : Vec F S1x512x128 .bf16) (xk xv : Vec F S1x16640x128 .bf16) :
    LoopInvTy_k0_t1 (F := F) Unit ℕ (UR sig nD τ) ℕ 𝒱 c bd E i arg3 harg3 arg4 harg4 arg5 harg5 arg6 harg6 arg7 harg7 q (k0_pay8, k0_pay9) where
  inv := inv c arg4 harg4 arg5 harg5 arg7 q xk xv
  step k acc := by
    iintro ⟨HK, HV, ⟨%f, HS, %hf⟩, %hacc⟩
    iapply (trip 𝒱 c bd E i arg3 harg3 arg4 harg4 arg5 harg5 arg6 harg6 arg7 harg7 q xk xv k acc f hf hacc)
    isplitl [HK]; · iexact HK
    isplitl [HV]; · iexact HV
    iexact HS

end Cert.KernelIdeal.Latent

end
-- ==== Proof.Body.lean ====
/-
  The kernel's body on any staging buffers: from the query block and the blocks of keys and values, whatever the result
  buffer and the scratch held, it leaves the block of results in the result buffer and the inputs as they were.
-/
module

public import proofs.«01_k».proof.Proof.Trip
public import Idealize.ShloMosaic.Lib.VecWindow

@[expose] public section

set_option maxRecDepth 16384

noncomputable section

namespace Cert.KernelIdeal.Latent

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scores of the first chunk, as the body stores them before the loop. -/
theorem first_scores (arg4 : Memref sig .tc .vmem S1x16640x128 .bf16) (harg4 : arg4.IsWhole) (arg7 : Memref sig .tc .vmem S2x512x2048 .f32)
    (q : Vec F S1x512x128 .bf16) (xk : Vec F S1x16640x128 .bf16) (f : BufTy.Contents (Elt F) arg7.view.ty) :
    slot0 arg7 (arg7.view.writes (Elt F) f [⟨Rect.unit ![0, 0, 0] S1x512x2048.size inb_S2x512x2048_S1x512x2048_0_0_0,
        k0_pay7 q (View.readAt (Elt F) arg4.view (Rect.unit (s := S1x16640x128) ![0, 0, 0] S1x2048x128.size inb_S1x16640x128_S1x2048x128_0_0_0).toLoadRect (harg4.unread xk))⟩])
      = scores q xk (min (2 * 0) 7) := by
  refine (readAt_writes_same _ _ _ _ _).trans ?_
  rw [load_chunk arg4 harg4 xk 0 (by omega) _ rfl]
  rfl

set_option maxHeartbeats 1000000 in
/-- The body's triple. -/
theorem body (c : Dev nD) (i : grid0.Coords) (arg3 : Memref sig .tc .vmem S1x512x128 .bf16) (harg3 : arg3.IsWhole) (arg4 : Memref sig .tc .vmem S1x16640x128 .bf16) (harg4 : arg4.IsWhole) (arg5 : Memref sig .tc .vmem S1x16640x128 .bf16) (harg5 : arg5.IsWhole) (arg6 : Memref sig .tc .vmem S1x512x128 .bf16) (harg6 : arg6.IsWhole) (arg7 : Memref sig .tc .vmem S2x512x2048 .f32) (harg7 : arg7.IsWhole)
    (q : Vec F S1x512x128 .bf16) (xk xv : Vec F S1x16640x128 .bf16) (E : Set ℕ) (K : PUnit → sProp 𝕄) :
    iprop(owns (c : Thread nD τ) arg3 fullShare q ∗ owns (c : Thread nD τ) arg4 fullShare xk ∗ owns (c : Thread nD τ) arg5 fullShare xv
        ∗ (∃ d, owns (c : Thread nD τ) arg6 fullShare d) ∗ (∃ d, owns (c : Thread nD τ) arg7 fullShare d)
        ∗ (iprop(owns (c : Thread nD τ) arg3 fullShare q ∗ owns (c : Thread nD τ) arg4 fullShare xk ∗ owns (c : Thread nD τ) arg5 fullShare xv
            ∗ owns (c : Thread nD τ) arg6 fullShare (block q xk xv) ∗ (∃ d, owns (c : Thread nD τ) arg7 fullShare d)) -∗ K ⟨⟩))
      ⊢ wp frame (wpE (defs₀ (F := F)) Variants.none c none) E (cc0_mla_latent i arg3 harg3 arg4 harg4 arg5 harg5 arg6 harg6 arg7 harg7) K := by
  simp only [cc0_mla_latent_eq_skeleton]; unfold cc0_mla_latent_skel
  simp only [k0_part2_eq_skeleton]
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg3.eq_unread hf0; obtain rfl := harg4.eq_unread hf1; obtain rfl := harg5.eq_unread hf2
  have hfirst := first_scores arg4 harg4 arg7 (View.readAt (Elt F) arg3.view (Rect.unit (s := S1x512x128) ![0, 0, 0] S1x512x128.size inb_S1x512x128_S1x512x128_0_0_0).toLoadRect (harg3.unread q)) xk fs0
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    unfold body.sl.r body.sl.r_1
    rw [show 2 * Scf.trips k0_t1_loop.lb k0_t1_loop.ub k0_t1_loop.st = 8 by decide]
    refine (View.read_writes_full (s := S1x512x128) arg6.view f3 (off := ![0, 0, 0]) inb_S1x512x128_S1x512x128_0_0_0 _ []).trans ?_
    rw [View.readAt_full (s := S1x512x128) arg3.view _ (off := ![0, 0, 0]) inb_S1x512x128_S1x512x128_0_0_0, harg3.read_unread,
      load_tail arg4 harg4, load_tail arg5 harg5]
    rfl
  iexists _, _; isplitr; swap; · iexact HS0
  ipureintro; rfl

end Cert.KernelIdeal.Latent

end
-- ==== Proof.Run.lean ====
/-
  The pipeline's run: what each window's staging buffer holds around each grid point, the body obligation from the
  body's triple, the launch, and the frame at any float values.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Latent

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of results of grid point `t`. -/
def result (c : Dev nD) (t : Fin cfg0.N) : Vec F S1x512x128 .bf16 := block (X0_0 m c t) (iblk m c 1 t) (iblk m c 2 t)

/-- The pipeline's data: the arrays as the region finds them; after the body every input's buffer at its block, the
result's at the block of results; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => result m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = result m c t := by dsimp only [dats]

theorem before_0 (c : Dev nD) (t : Fin cfg0.N) (d) : (dats m 0 c).before 0 t d = X0_0 m c t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- The windows' staging buffers at point `t`. -/
abbrev stgQ (t : Fin cfg0.N) : Memref sig .tc .vmem S1x512x128 .bf16 := win0_0.stage (cfg0.slots t 0)
abbrev stgK (t : Fin cfg0.N) : Memref sig .tc .vmem S1x16640x128 .bf16 := win0_1.stage (cfg0.slots t 1)
abbrev stgV (t : Fin cfg0.N) : Memref sig .tc .vmem S1x16640x128 .bf16 := win0_2.stage (cfg0.slots t 2)
abbrev stgO (t : Fin cfg0.N) : Memref sig .tc .vmem S1x512x128 .bf16 := win0_3.stage (cfg0.slots t 3)

/-- The pipeline's invariant is the scratch at some contents, beside the generator's register. -/
theorem inv_scratch (c : Dev nD) :
    (Pipeline.ΦA spec0 c : sProp 𝕄)
      = iprop((∃ d, owns (c : Thread nD τ) (Memref.whole cc0_scratch0 : Memref sig .tc .vmem S2x512x2048 .f32) fullShare d)
          ∗ (∃ r, prngReg c r)) := by
  unfold Pipeline.ΦA; rw [scopedRest0_eq]; simp only [owns_whole]; try rfl

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (stgQ t) fullShare ((dats m 0 c).before 0 t d))
    ∗ (∃ d, owns (c : Thread nD τ) (stgK t) fullShare ((dats m 0 c).before 1 t d))
    ∗ (∃ d, owns (c : Thread nD τ) (stgV t) fullShare ((dats m 0 c).before 2 t d))
    ∗ (∃ d, owns (c : Thread nD τ) (stgO t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (stgQ t) fullShare ((dats m 0 c).after 0 t)
    ∗ owns (c : Thread nD τ) (stgK t) fullShare ((dats m 0 c).after 1 t)
    ∗ owns (c : Thread nD τ) (stgV t) fullShare ((dats m 0 c).after 2 t)
    ∗ owns (c : Thread nD τ) (stgO t) fullShare ((dats m 0 c).after 3 t))

/-- The body at any point. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, inv_scratch]
  unfold result
  iintro ⟨⟨HS, Hg⟩, Ho, ⟨%d0, H0⟩, ⟨%d1, H1⟩, ⟨%d2, H2⟩, ⟨%d3, H3⟩⟩
  iapply (body c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (Memref.isWhole_whole _)
    (X0_0 m c t) (iblk m c 1 t) (iblk m c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

/-- The body table's row is the body. -/
theorem row (t : Fin cfg0.N) : defs₀ (F := F) .tc cfg0.body (cfg0.bodyArgs t (cfg0.slots t)) = bodyAt0 t := by
  unfold defs₀; rw [Defs.onTc_tc]

/-- The library's obligation on the body. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 800000 in
/-- The run of the whole program: the arrays as the pipeline's data say, the rest as the host lines leave it, and no
semaphore held. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The frame: the argument arrays end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.KernelIdeal.Latent

end
-- ==== Proof.Arrays.lean ====
/-
  The arrays the pipeline reads, at an index: the padded, scaled queries; the padded keys; the values padded with ones.
-/
module

public import proofs.«01_k».proof.Proof.Run
public import Idealize.ShloMosaic.Lib.Pointwise
public import Idealize.ShloMosaic.Lib.StableHlo.ReadAt
public import Idealize.ShloMosaic.Lib.IdealHost

@[expose] public section

noncomputable section

namespace Cert.KernelIdeal.Latent

open Idealize.ShloMosaic Idealize.ShloMosaic.TcCoe Cert.KernelIdeal.Gen

variable (m : (ℓ : Loc nD τ sig) → Buf (Elt Ideal) ℓ)

/-- Argument 0. -/
def arg0 (c : Dev nD) : FVec Ideal S2x16384x8x96 .f32 := m ((c.tc : Thread nD τ).loc main_arg0)

/-- Argument 1. -/
def arg1 (c : Dev nD) : FVec Ideal S2x16384x8x96 .f32 := m ((c.tc : Thread nD τ).loc main_arg1)

/-- Argument 2. -/
def arg2 (c : Dev nD) : FVec Ideal S2x16384x8x64 .f32 := m ((c.tc : Thread nD τ).loc main_arg2)

/-- Argument 3. -/
def arg3 (c : Dev nD) : FVec Ideal S2x256x8x96 .f32 := m ((c.tc : Thread nD τ).loc main_arg3)

/-- Argument 4. -/
def arg4 (c : Dev nD) : FVec Ideal S2x256x8x64 .f32 := m ((c.tc : Thread nD τ).loc main_arg4)

/-- The softmax scale of the kernel's queries: the scale over the logarithm of two. -/
def qscale : EReal := Ideal.div (Ideal.ofBits .f32 0x3DD105EC#32) (Ideal.log (Ideal.ofBits .f32 0x40000000#32))

theorem zero_i32 : FloatOps.sitofp (F := Ideal) .f32 (0#32) = (0 : EReal) := by
  show ((((0#32 : BitVec 32).toInt : ℤ) : ℝ) : EReal) = 0
  simp

theorem one_f32 : id (constant (F := Ideal) S_ .f32 0x3F800000#32) (Shape.Idx.first h_S_) = (1 : EReal) := by
  show Ideal.ofBits .f32 0x3F800000#32 = 1
  exact Ideal.ofBits_one_f32

/-- The queries, scaled, in lanes below 96 of a head's 128; the others are zero. -/
theorem queries_at (c : Dev nD) (b : Fin 2) (n : Fin 16384) (h : Fin 8) (d : Fin 128) :
    V m c main_v12 (ix3 b ⟨n.val, by omega⟩ ⟨h.val * 128 + d.val, by omega⟩)
      = if hd : d.val < 96 then (arg0 m c (ix4 b n h ⟨d.val, hd⟩) : EReal) * qscale else (0 : EReal) := by
  unfold V V0
  simp only [hostOps0, hostOps0_1, hostOps0_2, hostOps0_3, hostOps0_4, hostOps0_5, hostOps0_6, List.flatten_cons,
    List.flatten_nil, List.append_nil, List.cons_append, List.nil_append]
  after_reads_at
  try after_reads_simp
  have hn := n.isLt
  by_cases hd : d.val < 96
  · rw [dif_pos hd, dif_pos hd]; rfl
  · rw [dif_neg hd, dif_neg hd]; exact zero_i32

/-- The keys, latent then context, in lanes below 96 of a head's 128; the others are zero. -/
theorem keys_at (c : Dev nD) (b : Fin 2) (n : Fin 16640) (h : Fin 8) (d : Fin 128) :
    V m c main_v13 (ix3 b n ⟨h.val * 128 + d.val, by omega⟩)
      = if hd : d.val < 96 then (if hn : n.val < 16384 then (arg1 m c (ix4 b ⟨n.val, hn⟩ h ⟨d.val, hd⟩) : EReal)
          else (arg3 m c (ix4 b ⟨n.val - 16384, by omega⟩ h ⟨d.val, hd⟩) : EReal)) else (0 : EReal) := by
  unfold V V0
  simp only [hostOps0, hostOps0_1, hostOps0_2, hostOps0_3, hostOps0_4, hostOps0_5, hostOps0_6, List.flatten_cons,
    List.flatten_nil, List.append_nil, List.cons_append, List.nil_append]
  after_reads_at
  try after_reads_simp
  rw [zero_i32]
  rfl

/-- The values, latent then context, in lanes below 64 of a head's 128; the others are one. -/
theorem values_at (c : Dev nD) (b : Fin 2) (n : Fin 16640) (h : Fin 8) (d : Fin 128) :
    V m c main_v14 (ix3 b n ⟨h.val * 128 + d.val, by omega⟩)
      = if hd : d.val < 64 then (if hn : n.val < 16384 then (arg2 m c (ix4 b ⟨n.val, hn⟩ h ⟨d.val, hd⟩) : EReal)
          else (arg4 m c (ix4 b ⟨n.val - 16384, by omega⟩ h ⟨d.val, hd⟩) : EReal)) else (1 : EReal) := by
  unfold V V0
  simp only [hostOps0, hostOps0_1, hostOps0_2, hostOps0_3, hostOps0_4, hostOps0_5, hostOps0_6, List.flatten_cons,
    List.flatten_nil, List.append_nil, List.cons_append, List.nil_append]
  after_reads_at
  try after_reads_simp
  rw [one_f32]
  rfl

end Cert.KernelIdeal.Latent
end
-- ==== Proof.Blocks.lean ====
/-
  The windows' blocks at coordinates: which part of each array a grid point's block is, and the array of results.
-/
module

public import proofs.«01_k».proof.Proof.Arrays
public import Idealize.ShloMosaic.Lib.Pipeline.ValueKit

@[expose] public section

noncomputable section

namespace Cert.KernelIdeal.Latent

open Idealize.ShloMosaic Idealize.ShloMosaic.TcCoe Cert.KernelIdeal.Gen

theorem index_0 : ∀ t : Fin cfg0.N, win0_0.index t = ![(grid0.coords t 0).val, (grid0.coords t 2).val, (grid0.coords t 1).val] :=
  (by decide +kernel : ∀ t : Fin grid0.N, _)
theorem index_1 : ∀ t : Fin cfg0.N, win0_1.index t = ![(grid0.coords t 0).val, 0, (grid0.coords t 1).val] :=
  (by decide +kernel : ∀ t : Fin grid0.N, _)
theorem index_2 : ∀ t : Fin cfg0.N, win0_2.index t = ![(grid0.coords t 0).val, 0, (grid0.coords t 1).val] :=
  (by decide +kernel : ∀ t : Fin grid0.N, _)
theorem index_3 : ∀ t : Fin cfg0.N, win0_3.index t = ![(grid0.coords t 0).val, (grid0.coords t 2).val, (grid0.coords t 1).val] :=
  (by decide +kernel : ∀ t : Fin grid0.N, _)

theorem covers_3 : (cfg0.win 3).Covers := by decide +kernel

variable {F : FTy → Type} [FloatOps F] (m : (ℓ : Loc nD τ sig) → Buf (Elt F) ℓ) (c : Dev nD) (t : Fin cfg0.N)
  (b : Fin 2) (h : Fin 8) (g : Fin 32)

/-- The keys' block. -/
theorem keys_block (hb : (grid0.coords t 0).val = b.val) (hh : (grid0.coords t 1).val = h.val) (j : Fin 16640) (d : Fin 128) :
    iblk m c 1 t (ix3 0 j d) = V m c main_v13 (ix3 b j ⟨h.val * 128 + d.val, by omega⟩) := by
  blk_simp [iblk]
  congr 1
  blk_ext [index_1, hb, hh]

/-- The values' block. -/
theorem values_block (hb : (grid0.coords t 0).val = b.val) (hh : (grid0.coords t 1).val = h.val) (j : Fin 16640) (d : Fin 128) :
    iblk m c 2 t (ix3 0 j d) = V m c main_v14 (ix3 b j ⟨h.val * 128 + d.val, by omega⟩) := by
  blk_simp [iblk]
  congr 1
  blk_ext [index_2, hb, hh]

/-- The queries' block. -/
theorem queries_block (hb : (grid0.coords t 0).val = b.val) (hh : (grid0.coords t 1).val = h.val)
    (hg : (grid0.coords t 2).val = g.val) (i : Fin 512) (d : Fin 128) :
    X0_0 m c t (ix3 0 i d) = V m c main_v12 (ix3 b ⟨g.val * 512 + i.val, by omega⟩ ⟨h.val * 128 + d.val, by omega⟩) := by
  unfold X0_0
  unfold Pipeline.Window.fill
  rw [dif_pos (moved0_0 t (ix3 0 i d))]
  blk_simp [iblk]
  congr 1
  blk_ext [index_0, hb, hh, hg]

/-- THE ARRAY of results from the blocks of results. -/
theorem out_array (P : Fin 2 → Fin 16384 → Fin 8 → Fin 128 → Elt F .bf16 → Prop)
    (hP : ∀ (t : Fin cfg0.N) (b : Fin 2) (h : Fin 8) (g : Fin 32) (i : Fin 512) (l : Fin 128),
      (grid0.coords t 0).val = b.val → (grid0.coords t 1).val = h.val → (grid0.coords t 2).val = g.val →
      P b ⟨g.val * 512 + i.val, by omega⟩ h l (result m c t (ix3 0 i l)))
    (b : Fin 2) (n : Fin 16384) (h : Fin 8) (l : Fin 128) :
    P b n h l ((dats m 0 c).arrAt 3 cfg0.N (ix3 b n ⟨h.val * 128 + l.val, by omega⟩)) := by
  refine Pipeline.Dat.arrAt_forall_of_covers (dats m 0 c) 3 (fun x v => ∀ (b : Fin 2) (n : Fin 16384) (h : Fin 8) (l : Fin 128),
    x = ix3 b n ⟨h.val * 128 + l.val, by omega⟩ → P b n h l v) covers_3 (fun t hf y b n h l e => ?_) _
    (Memref.isWhole_whole _) b n h l rfl
  have e0 := congrArg Fin.val (congrFun e 0)
  have e1 := congrArg Fin.val (congrFun e 1)
  have e2 := congrArg Fin.val (congrFun e 2)
  blk_simp [index_3] at e0 e1 e2
  blk_simp
  rw [after_3]
  have e2' : (grid0.coords t 1).val * 128 + (y 2).val = h.val * 128 + l.val := e2
  have b1 : (y 1).val < 512 := (y 1).isLt
  have b2 : (y 2).val < 128 := (y 2).isLt
  have hl := l.isLt
  have hn := n.isLt
  have hy : y = ix3 0 ⟨n.val % 512, by omega⟩ l := by
    funext a
    refine Fin.ext ?_
    match a with
    | ⟨0, _⟩ =>
      have b0 : (y 0).val < 1 := (y 0).isLt
      show (y 0).val = 0
      omega
    | ⟨1, _⟩ =>
      show (y 1).val = n.val % 512
      omega
    | ⟨2, _⟩ =>
      show (y 2).val = l.val
      omega
  have := hP t b h ⟨n.val / 512, by omega⟩ ⟨n.val % 512, by omega⟩ l e0 (by omega) (by show _ = n.val / 512; omega)
  rw [hy]
  rwa [show (⟨n.val / 512 * 512 + n.val % 512, by omega⟩ : Fin 16384) = n from Fin.ext (by
    show n.val / 512 * 512 + n.val % 512 = n.val; omega)] at this

end Cert.KernelIdeal.Latent
end
-- ==== Proof.Reads.lean ====
/-
  What the kernel's pieces compute, read at an index at the ideal values.
-/
module

public import proofs.«01_k».proof.Proof.Block
public import Idealize.ShloMosaic.Lib.Pointwise

@[expose] public section

noncomputable section

namespace Cert.KernelIdeal.Latent

open Idealize.ShloMosaic Cert.KernelIdeal.Gen

/-- The bits of `-∞`. -/
theorem ofBits_bot : Ideal.ofBits .f32 0xFF800000#32 = (⊥ : EReal) := by simp [Ideal.ofBits, Ideal.ieee]

/-- A score: the product of a query's row and a key's row. -/
theorem pay7_at (q : Vec Ideal S1x512x128 .bf16) (k : Vec Ideal S1x2048x128 .bf16) (i : Fin 512) (j : Fin 2048) :
    k0_pay7 q k (ix3 0 i j) = ∑ d : Fin 128, q (ix3 0 i d) * k (ix3 0 j d) := by
  pointwise [k0_pay7, k0_pay6]

/-- The maximum after a chunk. -/
theorem pay4_at (m : FVec Ideal S512x1 .f32) (s : Vec Ideal S1x512x2048 .f32) (i : Fin 512) :
    k0_pay4 m s (ix2 i 0) = max (m (ix2 i 0)) (Finset.univ.fold max ⊥ fun j : Fin 2048 => s (ix3 0 i j)) := by
  pointwise [k0_pay4, k0_pay3]
  rw [ofBits_bot]

/-- The sums after a chunk. -/
theorem pay5_at (m : FVec Ideal S512x1 .f32) (a : FVec Ideal S512x128 .f32) (s : Vec Ideal S1x512x2048 .f32)
    (v : Vec Ideal S1x2048x128 .bf16) (i : Fin 512) (l : Fin 128) :
    k0_pay5 m a s v (ix2 i l) = Ideal.exp2 (m (ix2 i 0) - k0_pay4 m s (ix2 i 0)) * a (ix2 i l)
      + ∑ j : Fin 2048, Ideal.exp2 (s (ix3 0 i j) - k0_pay4 m s (ix2 i 0)) * v (ix3 0 j l) := by
  pointwise [k0_pay5, k0_pay3]
  rfl

/-- The maximum before the first chunk, and the sums. -/
theorem pay8_at (i : Fin 512) : k0_pay8 (F := Ideal) (ix2 i 0) = (⊥ : EReal) := by
  pointwise [k0_pay8]
  exact ofBits_bot

theorem pay9_at (i : Fin 512) (l : Fin 128) : k0_pay9 (F := Ideal) (ix2 i l) = (0 : EReal) := by
  pointwise [k0_pay9]

/-- A score against a context key. -/
theorem pay14_at (q : Vec Ideal S1x512x128 .bf16) (k : Vec Ideal S1x256x128 .bf16) (i : Fin 512) (j : Fin 256) :
    k0_pay14 q k (ix2 i j) = ∑ d : Fin 128, q (ix3 0 i d) * k (ix3 0 j d) := by
  pointwise [k0_pay14, k0_pay6]

/-- The maximum after the context keys. -/
theorem pay15_at (q : Vec Ideal S1x512x128 .bf16) (m : FVec Ideal S512x1 .f32) (k : Vec Ideal S1x256x128 .bf16) (i : Fin 512) :
    k0_pay15 q m k (ix2 i 0) = max (m (ix2 i 0)) (Finset.univ.fold max ⊥ fun j : Fin 256 => k0_pay14 q k (ix2 i j)) := by
  pointwise [k0_pay15]
  rw [ofBits_bot]

/-- The sums so far, rescaled, -/
theorem pay16_at (q : Vec Ideal S1x512x128 .bf16) (m : FVec Ideal S512x1 .f32) (a : FVec Ideal S512x128 .f32)
    (k : Vec Ideal S1x256x128 .bf16) (i : Fin 512) (l : Fin 128) :
    k0_pay16 q m a k (ix2 i l) = Ideal.exp2 (m (ix2 i 0) - k0_pay15 q m k (ix2 i 0)) * a (ix2 i l) := by
  pointwise [k0_pay16]
  rfl

/-- and the context keys' part of them. -/
theorem pay17_at (q : Vec Ideal S1x512x128 .bf16) (m : FVec Ideal S512x1 .f32) (k v : Vec Ideal S1x256x128 .bf16)
    (i : Fin 512) (l : Fin 128) :
    k0_pay17 q m k v (ix2 i l)
      = ∑ j : Fin 256, Ideal.exp2 (k0_pay14 q k (ix2 i j) - k0_pay15 q m k (ix2 i 0)) * v (ix3 0 j l) := by
  pointwise [k0_pay17]
  rfl

/-- The division at the end: a lane of values over the lane of ones 64 lanes on. -/
theorem pay1_at (a b : FVec Ideal S512x128 .f32) (i : Fin 512) (l : Fin 64) :
    k0_pay1 a b (ix3 0 i ⟨l.val, by omega⟩) = Ideal.div (a (ix2 i ⟨l.val, by omega⟩) + b (ix2 i ⟨l.val, by omega⟩))
      (a (ix2 i ⟨l.val + 64, by omega⟩) + b (ix2 i ⟨l.val + 64, by omega⟩)) := by
  pointwise [k0_pay1]
  have hc : IntOp.cmpi CmpIPredicate.slt (BitVec.ofNat 32 l.val) 64#32 = 1#1 := by
    revert l; decide
  have hm : ∀ h, (⟨(l.val + 128 - 64) % 128, h⟩ : Fin 128) = ⟨l.val + 64, by omega⟩ := fun h => Fin.ext (by
    show (l.val + 128 - 64) % 128 = l.val + 64
    have := l.isLt; omega)
  rw [hc, hm]
  rfl

end Cert.KernelIdeal.Latent

end
-- ==== Proof.Softmax.lean ====
/-
  The softmax in pieces, over the extended reals: the running maximum and the rescaled running sums of a kernel that goes
  through the keys chunk by chunk in powers of two, against the softmax-weighted sum taken at once in powers of e. The
  scores are real numbers; the values are any extended reals.
-/
module

public import Idealize.ShloMosaic.PureOps.Ideal

@[expose] public section

noncomputable section

namespace Cert.Softmax

open Idealize.ShloMosaic
open scoped BigOperators

/-- A nonnegative real factor goes into a sum of extended reals, infinite terms included. -/
theorem coe_mul_sum {ι : Type*} (T : Finset ι) (r : ℝ) (hr : 0 ≤ r) (f : ι → EReal) :
    (r : EReal) * ∑ i ∈ T, f i = ∑ i ∈ T, (r : EReal) * f i := by
  classical
  induction T using Finset.induction_on with
  | empty => simp
  | insert a T ha ih =>
    rw [Finset.sum_insert ha, Finset.sum_insert ha, ← ih]
    exact EReal.left_distrib_of_nonneg_of_ne_top (by exact_mod_cast hr) (EReal.coe_ne_top r) _ _

theorem coe_sum {ι : Type*} (T : Finset ι) (f : ι → ℝ) : ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- The maximum of finitely many reals and a real is a real. -/
theorem fold_max_coe {ι : Type*} (T : Finset ι) (f : ι → ℝ) (b : ℝ) :
    ∃ M : ℝ, T.fold max (b : EReal) (fun i => (f i : EReal)) = M := by
  classical
  induction T using Finset.induction_on with
  | empty => exact ⟨b, by simp⟩
  | insert a T ha ih =>
    obtain ⟨M, hM⟩ := ih
    exact ⟨max (f a) M, by rw [Finset.fold_insert ha, hM]; exact (EReal.coe_strictMono.monotone.map_max).symm⟩

/-- So is the maximum of a nonempty set of reals, started at `⊥`. -/
theorem fold_max_bot {ι : Type*} (T : Finset ι) (hT : T.Nonempty) (f : ι → ℝ) :
    ∃ M : ℝ, T.fold max (⊥ : EReal) (fun i => (f i : EReal)) = M := by
  classical
  obtain ⟨a, ha⟩ := hT
  obtain ⟨M, hM⟩ := fold_max_coe (T.erase a) f (f a)
  refine ⟨M, ?_⟩
  rw [← hM, ← Finset.insert_erase ha, Finset.fold_insert (Finset.notMem_erase a T)]
  rw [Finset.erase_insert (Finset.notMem_erase a T)]
  generalize T.erase a = U
  induction U using Finset.induction_on with
  | empty => simp
  | insert b U hb ih =>
    rw [Finset.fold_insert hb, Finset.fold_insert hb, ← ih, max_left_comm]

/-- The state of the running softmax over the keys below `n`: the maximum is a real `M`, and the sum is
`Σ 2^(s j - M) · v j`. -/
def Holds (s : ℕ → ℝ) (v : ℕ → EReal) (n : ℕ) (m acc : EReal) : Prop :=
  ∃ M : ℝ, m = M ∧ acc = ∑ j ∈ Finset.range n, (((2 : ℝ) ^ (s j - M) : ℝ) : EReal) * v j

/-- The sums of the next `K` keys, taken at the new maximum `M`. -/
theorem chunk_sum (s : ℕ → ℝ) (v : ℕ → EReal) (n K : ℕ) (M : ℝ) :
    ∑ j : Fin K, Ideal.exp2 ((s (n + j) : EReal) - (M : EReal)) * v (n + j)
      = ∑ j ∈ Finset.range K, (((2 : ℝ) ^ (s (n + j) - M) : ℝ) : EReal) * v (n + j) := by
  rw [Finset.sum_range]
  refine Finset.sum_congr rfl fun j _ => ?_
  rw [← EReal.coe_sub, Ideal.exp2_coe]
  rfl

/-- The first chunk, taken into the empty state. -/
theorem first (s : ℕ → ℝ) (v : ℕ → EReal) (K : ℕ) (hK : 0 < K) :
    Holds s v K (max ⊥ (Finset.univ.fold max ⊥ fun j : Fin K => (s (0 + j) : EReal)))
      (Ideal.exp2 (⊥ - max ⊥ (Finset.univ.fold max ⊥ fun j : Fin K => (s (0 + j) : EReal))) * 0
        + ∑ j : Fin K, Ideal.exp2 ((s (0 + j) : EReal) - max ⊥ (Finset.univ.fold max ⊥ fun j : Fin K => (s (0 + j) : EReal)))
          * v (0 + j)) := by
  haveI : Nonempty (Fin K) := ⟨⟨0, hK⟩⟩
  obtain ⟨M, hM⟩ := fold_max_bot (Finset.univ : Finset (Fin K)) Finset.univ_nonempty fun j => s (0 + j)
  rw [hM, max_eq_right bot_le, chunk_sum]
  exact ⟨M, rfl, by rw [mul_zero, zero_add]; simp only [zero_add]⟩

/-- One more chunk. -/
theorem next (s : ℕ → ℝ) (v : ℕ → EReal) (n K : ℕ) (hK : 0 < K) (m acc : EReal) (h : Holds s v n m acc) :
    Holds s v (n + K) (max m (Finset.univ.fold max ⊥ fun j : Fin K => (s (n + j) : EReal)))
      (Ideal.exp2 (m - max m (Finset.univ.fold max ⊥ fun j : Fin K => (s (n + j) : EReal))) * acc
        + ∑ j : Fin K, Ideal.exp2 ((s (n + j) : EReal) - max m (Finset.univ.fold max ⊥ fun j : Fin K => (s (n + j) : EReal)))
          * v (n + j)) := by
  haveI : Nonempty (Fin K) := ⟨⟨0, hK⟩⟩
  obtain ⟨M, rfl, rfl⟩ := h
  obtain ⟨M', hM'⟩ := fold_max_bot (Finset.univ : Finset (Fin K)) Finset.univ_nonempty fun j => s (n + j)
  have hmax : max (M : EReal) (M' : EReal) = ((max M M' : ℝ) : EReal) := (EReal.coe_strictMono.monotone.map_max).symm
  rw [hM', hmax, chunk_sum]
  refine ⟨max M M', rfl, ?_⟩
  rw [Finset.sum_range_add, ← EReal.coe_sub, Ideal.exp2_coe]
  congr 1
  rw [coe_mul_sum _ (Real.rpow 2 (M - max M M')) (Real.rpow_nonneg (by norm_num) _)]
  refine Finset.sum_congr rfl fun j _ => ?_
  rw [← mul_assoc, ← EReal.coe_mul]
  congr 2
  show (2 : ℝ) ^ (M - max M M') * (2 : ℝ) ^ (s j - M) = _
  rw [← Real.rpow_add (by norm_num)]
  congr 1; ring

/-- The weights of the softmax in powers of two are those in powers of e, each taken relative to a number of its own. -/
theorem weight (s t : ℕ → ℝ) (hst : ∀ j, t j = s j * Real.log 2) (N : ℕ) (M M' : ℝ) (j : ℕ) :
    (2 : ℝ) ^ (s j - M) * (∑ i ∈ Finset.range N, (2 : ℝ) ^ (s i - M))⁻¹
      = Real.exp (t j - M') * (∑ i ∈ Finset.range N, Real.exp (t i - M'))⁻¹ := by
  have h2 : ∀ i, (2 : ℝ) ^ (s i - M) = Real.exp (t i - M') * Real.exp (M' - M * Real.log 2) := fun i => by
    rw [Real.rpow_def_of_pos (by norm_num), ← Real.exp_add, hst]
    congr 1; ring
  simp only [h2]
  rw [← Finset.sum_mul, mul_inv]
  have hE := Real.exp_ne_zero (M' - M * Real.log 2)
  field_simp

/-- The end of the kernel against the reference: the sums divided by the sum of the weights, and the sum of the values
times their softmax weights. -/
theorem last (s t : ℕ → ℝ) (hst : ∀ j, t j = s j * Real.log 2) (v : ℕ → EReal) (N : ℕ) (hN : 0 < N) (m m' acc den : EReal)
    (ha : Holds s v N m acc) (hd : Holds s (fun _ => 1) N m den) (M' : ℝ) :
    Ideal.div acc den
      = ∑ j : Fin N, v j * Ideal.div (Ideal.exp ((t j : EReal) - (M' : EReal)))
          (∑ i : Fin N, Ideal.exp ((t i : EReal) - (M' : EReal))) := by
  obtain ⟨M, rfl, rfl⟩ := ha
  obtain ⟨M₁, hM₁, rfl⟩ := hd
  obtain rfl : M = M₁ := by exact_mod_cast hM₁
  have hden : ∑ j ∈ Finset.range N, (((2 : ℝ) ^ (s j - M) : ℝ) : EReal) * (1 : EReal)
      = ((∑ j ∈ Finset.range N, (2 : ℝ) ^ (s j - M) : ℝ) : EReal) := by
    rw [coe_sum]; simp only [mul_one]
  have hden' : ∑ i : Fin N, Ideal.exp ((t i : EReal) - (M' : EReal))
      = ((∑ j ∈ Finset.range N, Real.exp (t j - M') : ℝ) : EReal) := by
    rw [coe_sum, Finset.sum_range]
    refine Finset.sum_congr rfl fun j _ => ?_
    rw [← EReal.coe_sub, Ideal.exp_coe]
  have hne : (Finset.range N).Nonempty := ⟨0, Finset.mem_range.mpr hN⟩
  have hpos : 0 < ∑ j ∈ Finset.range N, (2 : ℝ) ^ (s j - M) :=
    Finset.sum_pos (fun j _ => Real.rpow_pos_of_pos (by norm_num) _) hne
  have hpos' : 0 < ∑ j ∈ Finset.range N, Real.exp (t j - M') := Finset.sum_pos (fun j _ => Real.exp_pos _) hne
  rw [hden, hden']
  have hdiv : ∀ (x : EReal) (r : ℝ), 0 < r → Ideal.div x (r : EReal) = x * ((r⁻¹ : ℝ) : EReal) := fun x r hr => by
    unfold Ideal.div
    rw [if_neg (by exact_mod_cast hr.ne'), EReal.coe_inv]
  rw [hdiv _ _ hpos, mul_comm, coe_mul_sum _ _ (inv_nonneg.mpr hpos.le), Finset.sum_range]
  refine Finset.sum_congr rfl fun j _ => ?_
  rw [hdiv _ _ hpos', ← EReal.coe_sub, Ideal.exp_coe, ← EReal.coe_mul, ← weight s t hst N M M' j, ← mul_assoc, ← EReal.coe_mul,
    mul_comm]
  congr 2
  exact mul_comm _ _

end Cert.Softmax

end
-- ==== Proof.BlockValue.lean ====
/-
  A block of results at the ideal values: where the scores of a query's row are real numbers and the lanes from 64 on of
  every row of values are ones, each lane below 64 of the kernel's block is the softmax-weighted sum of the values' lane.
-/
module

public import proofs.«01_k».proof.Proof.Reads
public import proofs.«01_k».proof.Proof.Softmax

@[expose] public section

noncomputable section

namespace Cert.KernelIdeal.Latent

open Idealize.ShloMosaic Cert.KernelIdeal.Gen Cert.Softmax

variable (q : Vec Ideal S1x512x128 .bf16) (k v : Vec Ideal S1x16640x128 .bf16)

/-- A lane of the values, by the key's number. -/
def lane (l : Fin 128) (j : ℕ) : EReal := v (ix3 0 ⟨min j 16639, by omega⟩ l)

theorem chunk_at (x : Vec Ideal S1x16640x128 .bf16) (c : ℕ) (j : Fin 2048) (l : Fin 128) :
    chunk x c (ix3 0 j l) = x (ix3 0 ⟨min (c * 2048 + j.val) 16639, by omega⟩ l) := by
  rw [ix3_eq_valueIdx, ix3_eq_valueIdx]; rfl

theorem tail_at (x : Vec Ideal S1x16640x128 .bf16) (j : Fin 256) (l : Fin 128) :
    tail x (ix3 0 j l) = x (ix3 0 ⟨16384 + j.val, by omega⟩ l) := by
  rw [ix3_eq_valueIdx, ix3_eq_valueIdx]; rfl

variable (i : Fin 512) (s : ℕ → ℝ)
  (hs : ∀ j : Fin 16640, ∑ d : Fin 128, q (ix3 0 i d) * k (ix3 0 j d) = ((s j.val : ℝ) : EReal))

include hs in
/-- The scores of a chunk. -/
theorem scores_at (c : ℕ) (hc : c < 8) (j : Fin 2048) : scores q k c (ix3 0 i j) = ((s (c * 2048 + j.val) : ℝ) : EReal) := by
  unfold scores
  rw [pay7_at]
  simp only [chunk_at]
  have e : min (c * 2048 + j.val) 16639 = c * 2048 + j.val := by have := j.isLt; omega
  have := hs ⟨min (c * 2048 + j.val) 16639, by omega⟩
  rw [this]
  simp only [e]

include hs in
/-- The scores of the context keys. -/
theorem tail_scores_at (j : Fin 256) : k0_pay14 q (tail k) (ix2 i j) = ((s (8 * 2048 + j.val) : ℝ) : EReal) := by
  rw [pay14_at]
  simp only [tail_at]
  exact hs ⟨16384 + j.val, by omega⟩

theorem lane_chunk (c : ℕ) (j : Fin 2048) (l : Fin 128) : chunk v c (ix3 0 j l) = lane v l (c * 2048 + j.val) := chunk_at v c j l

theorem lane_tail (j : Fin 256) (l : Fin 128) : tail v (ix3 0 j l) = lane v l (8 * 2048 + j.val) := by
  rw [tail_at]
  unfold lane
  congr 2
  exact Fin.ext (by show 16384 + j.val = min (8 * 2048 + j.val) 16639; have := j.isLt; omega)

include hs in
/-- After `n + 1` chunks the running state is the running softmax over the first `2048 (n + 1)` keys. -/
theorem state_holds (l : Fin 128) (n : ℕ) (hn : n < 8) :
    Holds s (lane v l) ((n + 1) * 2048) ((state q k v (n + 1)).1 (ix2 i 0)) ((state q k v (n + 1)).2 (ix2 i l)) := by
  induction n with
  | zero =>
    simp only [state, pay5_at, pay4_at, pay8_at, pay9_at, scores_at q k i s hs 0 hn, lane_chunk, Nat.zero_mul]
    exact first s (lane v l) 2048 (by norm_num)
  | succ n ih =>
    rw [show state q k v (n + 1 + 1) = (k0_pay4 (state q k v (n + 1)).1 (scores q k (n + 1)),
      k0_pay5 (state q k v (n + 1)).1 (state q k v (n + 1)).2 (scores q k (n + 1)) (chunk v (n + 1))) from rfl]
    simp only [pay5_at, pay4_at, scores_at q k i s hs (n + 1) hn, lane_chunk]
    rw [show (n + 1 + 1) * 2048 = (n + 1) * 2048 + 2048 by ring]
    exact next s (lane v l) ((n + 1) * 2048) 2048 (by norm_num) _ _ (ih (by omega))

include hs in
/-- After the context keys too: the state over all the keys. -/
theorem end_holds (l : Fin 128) :
    Holds s (lane v l) 16640 (k0_pay15 q (state q k v 8).1 (tail k) (ix2 i 0))
      (k0_pay16 q (state q k v 8).1 (state q k v 8).2 (tail k) (ix2 i l)
        + k0_pay17 q (state q k v 8).1 (tail k) (tail v) (ix2 i l)) := by
  simp only [pay16_at, pay17_at, pay15_at, tail_scores_at q k i s hs, lane_tail]
  exact next s (lane v l) (8 * 2048) 256 (by norm_num) _ _ (state_holds q k v i s hs l 7 (by norm_num))

include hs in
/-- THE BLOCK: each lane of values is the softmax-weighted sum, `t` the scores in units of powers of e and `M` any number
the exponents are taken relative to. -/
theorem block_at (hone : ∀ (j : Fin 16640) (l : Fin 64), v (ix3 0 j ⟨l.val + 64, by omega⟩) = (1 : EReal))
    (t : ℕ → ℝ) (hst : ∀ j, t j = s j * Real.log 2) (M : ℝ) (l : Fin 64) :
    block q k v (ix3 0 i ⟨l.val, by omega⟩)
      = ∑ j : Fin 16640, v (ix3 0 j ⟨l.val, by omega⟩) * Ideal.div (Ideal.exp ((t j.val : EReal) - (M : EReal)))
          (∑ j' : Fin 16640, Ideal.exp ((t j'.val : EReal) - (M : EReal))) := by
  unfold block
  rw [pay1_at]
  have h1 := end_holds q k v i s hs ⟨l.val, by omega⟩
  have h2 := end_holds q k v i s hs ⟨l.val + 64, by omega⟩
  rw [show lane v ⟨l.val + 64, by omega⟩ = fun _ => (1 : EReal) from funext fun j => hone _ l] at h2
  rw [last s t hst _ 16640 (by norm_num) _ 0 _ _ h1 h2 M]
  refine Finset.sum_congr rfl fun j _ => ?_
  congr 1
  unfold lane
  congr 2
  exact Fin.ext (by show min j.val 16639 = j.val; have := j.isLt; omega)

end Cert.KernelIdeal.Latent

end
-- ==== Proof.Value.lean ====
/-
  The kernel's result at an index: the softmax-weighted sum of the values, where the queries and the keys are real.
-/
module

public import proofs.«01_k».proof.Proof.Blocks
public import proofs.«01_k».proof.Proof.BlockValue

@[expose] public section

noncomputable section

namespace Cert.KernelIdeal.Latent

open Idealize.ShloMosaic Idealize.ShloMosaic.TcCoe Cert.KernelIdeal.Gen Idealize.SL.Sem

/-- The scale, as a real number. -/
def scale : ℝ := (Ideal.ofBits .f32 0x3DD105EC#32).toReal

theorem scale_eq : Ideal.ofBits .f32 0x3DD105EC#32 = ((scale : ℝ) : EReal) := by
  unfold scale
  rw [EReal.coe_toReal] <;> · simp [Ideal.ofBits, Ideal.ieee, -EReal.coe_mul]

theorem qscale_eq : qscale = ((scale / Real.log 2 : ℝ) : EReal) := by
  have h2 : Ideal.ofBits .f32 0x40000000#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hp : 0 < Real.log 2 := Real.log_pos (by norm_num)
  unfold qscale
  rw [h2, hl, scale_eq]
  unfold Ideal.div
  rw [if_neg (by exact_mod_cast hp.ne')]
  rw [← EReal.coe_inv, ← EReal.coe_mul]
  rfl

/-- A head's key: latent keys, then context keys. -/
def key (a1 : FVec Ideal S2x16384x8x96 .f32) (a3 : FVec Ideal S2x256x8x96 .f32) (b : Fin 2) (j : Fin 16640) (h : Fin 8)
    (d : Fin 96) : EReal :=
  if hj : j.val < 16384 then a1 (ix4 b ⟨j.val, hj⟩ h d) else a3 (ix4 b ⟨j.val - 16384, by omega⟩ h d)

/-- A head's value: latent values, then context values. -/
def val (a2 : FVec Ideal S2x16384x8x64 .f32) (a4 : FVec Ideal S2x256x8x64 .f32) (b : Fin 2) (j : Fin 16640) (h : Fin 8)
    (l : Fin 64) : EReal :=
  if hj : j.val < 16384 then a2 (ix4 b ⟨j.val, hj⟩ h l) else a4 (ix4 b ⟨j.val - 16384, by omega⟩ h l)

/-- The scaled score of a query and a key, by the key's number. -/
def score (a0 a1 : FVec Ideal S2x16384x8x96 .f32) (a3 : FVec Ideal S2x256x8x96 .f32) (b : Fin 2) (n : Fin 16384) (h : Fin 8)
    (j : ℕ) : ℝ :=
  (∑ d : Fin 96, (a0 (ix4 b n h d) : EReal).toReal * (key a1 a3 b ⟨min j 16639, by omega⟩ h d).toReal) * scale

section

variable (a0 a1 : FVec Ideal S2x16384x8x96 .f32) (a3 : FVec Ideal S2x256x8x96 .f32)
  (h0 : ∀ b n h d, ∃ r : ℝ, a0 (ix4 b n h d) = ((r : ℝ) : EReal)) (h1 : ∀ b n h d, ∃ r : ℝ, a1 (ix4 b n h d) = ((r : ℝ) : EReal))
  (h3 : ∀ b n h d, ∃ r : ℝ, a3 (ix4 b n h d) = ((r : ℝ) : EReal))

include h1 h3 in
theorem key_real (b : Fin 2) (j : Fin 16640) (h : Fin 8) (d : Fin 96) : key a1 a3 b j h d = (((key a1 a3 b j h d).toReal : ℝ) : EReal) := by
  unfold key
  split
  · obtain ⟨r, e⟩ := h1 b ⟨j.val, by assumption⟩ h d
    rw [e]; rfl
  · obtain ⟨r, e⟩ := h3 b ⟨j.val - 16384, by omega⟩ h d
    rw [e]; rfl

include h0 in
theorem query_real (b : Fin 2) (n : Fin 16384) (h : Fin 8) (d : Fin 96) :
    (a0 (ix4 b n h d) : EReal) = (((a0 (ix4 b n h d) : EReal).toReal : ℝ) : EReal) := by
  obtain ⟨r, e⟩ := h0 b n h d
  rw [e]; rfl

include h0 h1 h3 in
/-- The plain score, scaled. -/
theorem score_plain (b : Fin 2) (n : Fin 16384) (h : Fin 8) (j : Fin 16640) :
    (∑ d : Fin 96, (a0 (ix4 b n h d) : EReal) * key a1 a3 b j h d) * Ideal.ofBits .f32 0x3DD105EC#32
      = ((score a0 a1 a3 b n h j.val : ℝ) : EReal) := by
  have e : (⟨min j.val 16639, by omega⟩ : Fin 16640) = j := Fin.ext (by show min j.val 16639 = j.val; have := j.isLt; omega)
  unfold score
  rw [e, EReal.coe_mul, scale_eq, Cert.Softmax.coe_sum]
  congr 1
  refine Finset.sum_congr rfl fun d _ => ?_
  rw [EReal.coe_mul, ← query_real a0 h0, ← key_real a1 a3 h1 h3]

include h0 h1 h3 in
/-- The kernel's score: the padded lanes add nothing, and the scale is over the logarithm of two. -/
theorem score_padded (b : Fin 2) (n : Fin 16384) (h : Fin 8) (j : Fin 16640) :
    (∑ d : Fin 128, (if hd : d.val < 96 then (a0 (ix4 b n h ⟨d.val, hd⟩) : EReal) * qscale else 0)
        * (if hd : d.val < 96 then key a1 a3 b j h ⟨d.val, hd⟩ else 0))
      = ((score a0 a1 a3 b n h j.val / Real.log 2 : ℝ) : EReal) := by
  have e : (⟨min j.val 16639, by omega⟩ : Fin 16640) = j := Fin.ext (by show min j.val 16639 = j.val; have := j.isLt; omega)
  rw [show (Finset.univ : Finset (Fin 128)) = (Finset.univ : Finset (Fin (96 + 32))) from rfl, Fin.sum_univ_add]
  rw [Finset.sum_eq_zero (s := (Finset.univ : Finset (Fin 32))) (fun d _ => by
    rw [dif_neg (by simp), dif_neg (by simp), zero_mul]), add_zero]
  unfold score
  rw [e, mul_div_assoc, Finset.sum_mul, Cert.Softmax.coe_sum]
  refine Finset.sum_congr rfl fun d _ => ?_
  have hd : (Fin.castAdd 32 d).val < 96 := d.isLt
  rw [dif_pos hd, dif_pos hd]
  show (a0 (ix4 b n h d) : EReal) * qscale * key a1 a3 b j h d = _
  rw [query_real a0 h0, key_real a1 a3 h1 h3, qscale_eq, ← EReal.coe_mul, ← EReal.coe_mul]
  congr 1
  simp only [EReal.toReal_coe]
  ring

end

variable (m : (ℓ : Loc nD τ sig) → Buf (Elt Ideal) ℓ) (c : Dev nD)

/-- The weighted sum, relative to any number. -/
def attention (a0 a1 : FVec Ideal S2x16384x8x96 .f32) (a2 : FVec Ideal S2x16384x8x64 .f32) (a3 : FVec Ideal S2x256x8x96 .f32)
    (a4 : FVec Ideal S2x256x8x64 .f32) (M : ℝ) (b : Fin 2) (n : Fin 16384) (h : Fin 8) (l : Fin 64) : EReal :=
  ∑ j : Fin 16640, val a2 a4 b j h l * Ideal.div (Ideal.exp ((score a0 a1 a3 b n h j.val : EReal) - (M : EReal)))
    (∑ j' : Fin 16640, Ideal.exp ((score a0 a1 a3 b n h j'.val : EReal) - (M : EReal)))

/-- THE PIPELINE'S ARRAY: in a head's lanes below 64, the weighted sum. -/
theorem out_at (h0 : ∀ b n h d, ∃ r : ℝ, arg0 m c (ix4 b n h d) = ((r : ℝ) : EReal))
    (h1 : ∀ b n h d, ∃ r : ℝ, arg1 m c (ix4 b n h d) = ((r : ℝ) : EReal))
    (h3 : ∀ b n h d, ∃ r : ℝ, arg3 m c (ix4 b n h d) = ((r : ℝ) : EReal)) (M : ℝ) (b : Fin 2) (n : Fin 16384) (h : Fin 8)
    (l : Fin 64) :
    (dats m 0 c).arrAt 3 cfg0.N (ix3 b n ⟨h.val * 128 + l.val, by omega⟩)
      = attention (arg0 m c) (arg1 m c) (arg2 m c) (arg3 m c) (arg4 m c) M b n h l := by
  refine out_array m c (fun b n h l v => ∀ l' : Fin 64, l'.val = l.val → v = attention (arg0 m c) (arg1 m c) (arg2 m c) (arg3 m c) (arg4 m c) M b n h l')
    (fun t b h g i l hb hh hg l' hl => ?_) b n h ⟨l.val, by omega⟩ l rfl
  rw [show l = ⟨l'.val, by omega⟩ from Fin.ext hl.symm]
  unfold result
  rw [block_at (X0_0 m c t) (iblk m c 1 t) (iblk m c 2 t) i
    (fun j => score (arg0 m c) (arg1 m c) (arg3 m c) b ⟨g.val * 512 + i.val, by omega⟩ h j / Real.log 2) (fun j => ?_) (fun j l => ?_)
    (score (arg0 m c) (arg1 m c) (arg3 m c) b ⟨g.val * 512 + i.val, by omega⟩ h) (fun j => ?_) M l']
  · unfold attention
    refine Finset.sum_congr rfl fun j _ => ?_
    congr 1
    rw [values_block m c t b h hb hh, values_at, dif_pos l'.isLt]
    rfl
  · refine Eq.trans (Finset.sum_congr rfl fun d _ => ?_) (score_padded _ _ _ h0 h1 h3 b ⟨g.val * 512 + i.val, by omega⟩ h j)
    rw [queries_block m c t b h g hb hh hg, keys_block m c t b h hb hh, keys_at]
    rw [queries_at m c b ⟨g.val * 512 + i.val, by omega⟩]
    rfl
  · rw [values_block m c t b h hb hh, values_at]
    exact dif_neg (by show ¬ l.val + 64 < 64; omega)
  · have hp : 0 < Real.log 2 := Real.log_pos (by norm_num)
    field_simp

end Cert.KernelIdeal.Latent
end
-- ==== Proof.RefReads.lean ====
/-
  The reference's result at an index: the scores, the softmax, and the weighted sum of the values.
-/
module

public import proofs.«01_k».proof.Proof.Gen.ReferenceIdeal.Run
public import Idealize.ShloMosaic.Lib.Pointwise

@[expose] public section

noncomputable section

namespace Cert.ReferenceIdeal.Latent

open Idealize.ShloMosaic Cert.ReferenceIdeal.Gen Cert.ReferenceIdeal Idealize.SL.Sem Idealize.ShloMosaic.TcCoe

/-- Latent keys, then context keys. -/
def keys (a1 : FVec Ideal S2x16384x8x96 .f32) (a3 : FVec Ideal S2x256x8x96 .f32) : FVec Ideal S2x16640x8x96 .f32 :=
  concatenate S2x16640x8x96 1 [⟨S2x16384x8x96, a1⟩, ⟨S2x256x8x96, a3⟩] concatenates_S2x16384x8x96_S2x256x8x96_S2x16640x8x96_d1

/-- Latent values, then context values. -/
def values (a2 : FVec Ideal S2x16384x8x64 .f32) (a4 : FVec Ideal S2x256x8x64 .f32) : FVec Ideal S2x16640x8x64 .f32 :=
  concatenate S2x16640x8x64 1 [⟨S2x16384x8x64, a2⟩, ⟨S2x256x8x64, a4⟩] concatenates_S2x16384x8x64_S2x256x8x64_S2x16640x8x64_d1

/-- The scaled scores. -/
def score (a0 : FVec Ideal S2x16384x8x96 .f32) (k : FVec Ideal S2x16640x8x96 .f32) : FVec Ideal S2x8x16384x16640 .f32 :=
  mulf (Host.dotGeneral dot_S2x16384x8x96_S2x16640x8x96_S2x8x16384x16640_3_3_1_1_02_02 none a0 k)
    (broadcastInDim S2x8x16384x16640 ![] bcast_S_S2x8x16384x16640 (constant S_ .f32 0x3DD105EC#32))

/-- Each row's maximum. -/
def top (s : FVec Ideal S2x8x16384x16640 .f32) : FVec Ideal S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16640_S2x8x16384_d3 h_S_)

/-- A row's numbers, one for every key. -/
def spread (x : FVec Ideal S2x8x16384 .f32) : FVec Ideal S2x8x16384x16640 .f32 :=
  broadcastInDim S2x8x16384x16640 ![0, 1, 2, 3] bcast_S2x8x16384x1_S2x8x16384x16640_0_1_2_3
    (broadcastInDim S2x8x16384x1 ![0, 1, 2] bcast_S2x8x16384_S2x8x16384x1_0_1_2 x)

/-- The exponentials relative to the maximum. -/
def expo (s : FVec Ideal S2x8x16384x16640 .f32) : FVec Ideal S2x8x16384x16640 .f32 := Host.exp (subf s (spread (top s)))

/-- The softmax. -/
def soft (s : FVec Ideal S2x8x16384x16640 .f32) : FVec Ideal S2x8x16384x16640 .f32 :=
  Host.divf (expo s) (spread (Host.reduceAdd (expo s) (constant S_ .f32 0x00000000#32) reducesTo_S2x8x16384x16640_S2x8x16384_d3 h_S_))

/-- The result from the values and the weights. -/
def weighted (v : FVec Ideal S2x16640x8x64 .f32) (p : FVec Ideal S2x8x16384x16640 .f32) : FVec Ideal S2x16384x512 .bf16 :=
  truncf .bf16 (shapeCast _ (transpose S2x16384x8x64 [0, 3, 1, 2]
    (Host.dotGeneral dot_S2x16640x8x64_S2x8x16384x16640_S2x8x64x16384_1_3_3_2_02_01 none v p)
    transposes_S2x8x64x16384_S2x16384x8x64_0_3_1_2) shapeCasts_S2x16384x8x64_S2x16384x512) bitsLt_bf16_f32

/-- The whole result. -/
def out (a0 a1 : FVec Ideal S2x16384x8x96 .f32) (a2 : FVec Ideal S2x16384x8x64 .f32) (a3 : FVec Ideal S2x256x8x96 .f32)
    (a4 : FVec Ideal S2x256x8x64 .f32) : FVec Ideal S2x16384x512 .bf16 := weighted (values a2 a4) (soft (score a0 (keys a1 a3)))

/-- The reference's run ends with that result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem keys_at (a1 : FVec Ideal S2x16384x8x96 .f32) (a3 : FVec Ideal S2x256x8x96 .f32) (b : Fin 2) (j : Fin 16640) (h : Fin 8)
    (d : Fin 96) : keys a1 a3 (ix4 b j h d) = if hj : j.val < 16384 then a1 (ix4 b ⟨j.val, hj⟩ h d)
      else a3 (ix4 b ⟨j.val - 16384, by omega⟩ h d) := by
  pointwise [keys]

theorem values_at (a2 : FVec Ideal S2x16384x8x64 .f32) (a4 : FVec Ideal S2x256x8x64 .f32) (b : Fin 2) (j : Fin 16640) (h : Fin 8)
    (l : Fin 64) : values a2 a4 (ix4 b j h l) = if hj : j.val < 16384 then a2 (ix4 b ⟨j.val, hj⟩ h l)
      else a4 (ix4 b ⟨j.val - 16384, by omega⟩ h l) := by
  pointwise [values]

theorem score_at (a0 : FVec Ideal S2x16384x8x96 .f32) (k : FVec Ideal S2x16640x8x96 .f32) (b : Fin 2) (h : Fin 8) (n : Fin 16384)
    (j : Fin 16640) : score a0 k (ix4 b h n j)
      = (∑ d : Fin 96, a0 (ix4 b n h d) * k (ix4 b j h d)) * Ideal.ofBits .f32 0x3DD105EC#32 := by
  pointwise [score]

theorem ofBits_bot : Ideal.ofBits .f32 0xFF800000#32 = (⊥ : EReal) := by simp [Ideal.ofBits, Ideal.ieee]

/-- A row's maximum, at any sizes. -/
theorem top_any {n0 n1 n2 n3 : ℕ} (s : FVec Ideal ⟨4, ![n0, n1, n2, n3]⟩ .f32)
    (hb : Shape.BroadcastsInDim S_ ⟨3, ![n0, n1, n2]⟩ ![])
    (hr : (⟨4, ![n0, n1, n2, n3]⟩ : Shape).ReducesTo [3] ⟨3, ![n0, n1, n2]⟩) (b : Fin n0) (h : Fin n1) (n : Fin n2) :
    maximumf (broadcastInDim ⟨3, ![n0, n1, n2]⟩ ![] hb (constant (F := Ideal) S_ .f32 0xFF800000#32))
      (Host.reduce FloatOps.maximumf s (constant S_ .f32 0xFF800000#32) hr h_S_) (ix3 b h n)
      = max (⊥ : EReal) (Finset.univ.fold max (⊥ : EReal) fun j : Fin n3 => (s (ix4 b h n j) : EReal)) := by
  pointwise
  rw [ofBits_bot]

theorem top_at (s : FVec Ideal S2x8x16384x16640 .f32) (b : Fin 2) (h : Fin 8) (n : Fin 16384) :
    top s (ix3 b h n) = max (⊥ : EReal) (Finset.univ.fold max (⊥ : EReal) fun j : Fin 16640 => (s (ix4 b h n j) : EReal)) :=
  top_any s bcast_S_S2x8x16384 reducesTo_S2x8x16384x16640_S2x8x16384_d3 b h n

theorem expo_at (s : FVec Ideal S2x8x16384x16640 .f32) (b : Fin 2) (h : Fin 8) (n : Fin 16384) (j : Fin 16640) :
    expo s (ix4 b h n j) = Ideal.exp (s (ix4 b h n j) - top s (ix3 b h n)) := by
  pointwise [expo, spread]

theorem soft_at (s : FVec Ideal S2x8x16384x16640 .f32) (b : Fin 2) (h : Fin 8) (n : Fin 16384) (j : Fin 16640) :
    soft s (ix4 b h n j) = Ideal.div (expo s (ix4 b h n j)) (∑ j' : Fin 16640, expo s (ix4 b h n j')) := by
  pointwise [soft, spread]

theorem weighted_at (v : FVec Ideal S2x16640x8x64 .f32) (p : FVec Ideal S2x8x16384x16640 .f32) (b : Fin 2) (n : Fin 16384)
    (h : Fin 8) (l : Fin 64) : weighted v p (ix3 b n ⟨h.val * 64 + l.val, by omega⟩)
      = ∑ j : Fin 16640, v (ix4 b j h l) * p (ix4 b h n j) := by
  pointwise [weighted]

end Cert.ReferenceIdeal.Latent

end
-- ==== Proof.Result.lean ====
/-
  The kernel's run with its result read: the array of results, its heads' lanes below 64 kept, equal to the reference's
  result.
-/
module

public import proofs.«01_k».proof.Proof.Value
public import proofs.«01_k».proof.Proof.RefReads
public import Idealize.ShloMosaic.Lib.Pipeline.FrameSuffix

@[expose] public section

noncomputable section

namespace Cert.KernelIdeal.Latent

open Idealize.ShloMosaic Idealize.ShloMosaic.TcCoe Cert.KernelIdeal.Gen Idealize.SL.Sem

variable (m : (ℓ : Loc nD τ sig) → Buf (Elt Ideal) ℓ) (c : Dev nD)

/-- The kernel's result at an index: the array of results at the head's lane. -/
theorem suffix_at (b : Fin 2) (n : Fin 16384) (h : Fin 8) (l : Fin 64) :
    Pipeline.afterTail₀ cfgs (dats m) 0 (V0 m) [hostOps1] c main_v18 (ix3 b n ⟨h.val * 64 + l.val, by omega⟩)
      = (dats m 0 c).arrAt 3 cfg0.N (ix3 b n ⟨h.val * 128 + l.val, by omega⟩) := by
  unfold Pipeline.afterTail₀
  simp only [hostOps1, List.flatten_cons, List.flatten_nil, List.append_nil, List.cons_append, List.nil_append]
  have e : Pipeline.withArrays spec0 c (V0 m c) (fun w => (dats m 0 c).arrAt w cfg0.N) (Proc.devRef .tc main_v15)
      = (dats m 0 c).arrAt 3 cfg0.N := Pipeline.withArrays_arr spec0 launch0.win.arr_inj c (V0 m c) _ 3
  after_reads_at
  exact congrFun e _

/-- The reference's result at an index. -/
theorem reference_at (a0 a1 : FVec Ideal S2x16384x8x96 .f32) (a2 : FVec Ideal S2x16384x8x64 .f32)
    (a3 : FVec Ideal S2x256x8x96 .f32) (a4 : FVec Ideal S2x256x8x64 .f32)
    (h0 : ∀ b n h d, ∃ r : ℝ, a0 (ix4 b n h d) = ((r : ℝ) : EReal)) (h1 : ∀ b n h d, ∃ r : ℝ, a1 (ix4 b n h d) = ((r : ℝ) : EReal))
    (h3 : ∀ b n h d, ∃ r : ℝ, a3 (ix4 b n h d) = ((r : ℝ) : EReal)) (b : Fin 2) (n : Fin 16384) (h : Fin 8) (l : Fin 64) :
    ∃ M : ℝ, Cert.ReferenceIdeal.Latent.out a0 a1 a2 a3 a4 (ix3 b n ⟨h.val * 64 + l.val, by omega⟩)
      = attention a0 a1 a2 a3 a4 M b n h l := by
  have hs : ∀ j : Fin 16640, Cert.ReferenceIdeal.Latent.score a0 (Cert.ReferenceIdeal.Latent.keys a1 a3) (ix4 b h n j)
      = ((score a0 a1 a3 b n h j.val : ℝ) : EReal) := fun j => by
    rw [Cert.ReferenceIdeal.Latent.score_at, ← score_plain a0 a1 a3 h0 h1 h3]
    congr 1
    refine Finset.sum_congr rfl fun d _ => ?_
    rw [Cert.ReferenceIdeal.Latent.keys_at]
    rfl
  have ht := Cert.ReferenceIdeal.Latent.top_at (Cert.ReferenceIdeal.Latent.score a0 (Cert.ReferenceIdeal.Latent.keys a1 a3)) b h n
  simp only [hs] at ht
  obtain ⟨M, hM⟩ := Cert.Softmax.fold_max_bot Finset.univ ⟨⟨0, by norm_num⟩, Finset.mem_univ _⟩ (fun j : Fin 16640 => score a0 a1 a3 b n h j.val)
  rw [hM, max_eq_right bot_le] at ht
  refine ⟨M, ?_⟩
  unfold Cert.ReferenceIdeal.Latent.out
  rw [Cert.ReferenceIdeal.Latent.weighted_at]
  simp only [Cert.ReferenceIdeal.Latent.soft_at, Cert.ReferenceIdeal.Latent.expo_at, hs, ht, Cert.ReferenceIdeal.Latent.values_at]
  rfl

/-- Every index of a result is a head's lane. -/
theorem result_index (x : S2x16384x512.Idx) : ∃ (b : Fin 2) (n : Fin 16384) (h : Fin 8) (l : Fin 64),
    x = ix3 b n ⟨h.val * 64 + l.val, by omega⟩ := by
  have h0 : (x 0).val < 2 := (x 0).isLt
  have h1 : (x 1).val < 16384 := (x 1).isLt
  have h2 : (x 2).val < 512 := (x 2).isLt
  refine ⟨⟨(x 0).val, h0⟩, ⟨(x 1).val, h1⟩, ⟨(x 2).val / 64, by omega⟩, ⟨(x 2).val % 64, by omega⟩, funext fun a => Fin.ext ?_⟩
  match a with
  | ⟨0, _⟩ => rfl
  | ⟨1, _⟩ => rfl
  | ⟨2, _⟩ =>
    show (x 2).val = (x 2).val / 64 * 64 + (x 2).val % 64
    omega

/-- THE RESULT: what the kernel leaves is the reference's result of its arguments. -/
theorem result_eq (h0 : ∀ b n h d, ∃ r : ℝ, arg0 m c (ix4 b n h d) = ((r : ℝ) : EReal))
    (h1 : ∀ b n h d, ∃ r : ℝ, arg1 m c (ix4 b n h d) = ((r : ℝ) : EReal))
    (h3 : ∀ b n h d, ∃ r : ℝ, arg3 m c (ix4 b n h d) = ((r : ℝ) : EReal)) :
    Pipeline.afterTail₀ cfgs (dats m) 0 (V0 m) [hostOps1] c main_v18
      = Cert.ReferenceIdeal.Latent.out (arg0 m c) (arg1 m c) (arg2 m c) (arg3 m c) (arg4 m c) := by
  refine funext fun (x : S2x16384x512.Idx) => ?_
  obtain ⟨b, n, h, l, rfl⟩ := result_index x
  obtain ⟨M, hM⟩ := reference_at (arg0 m c) (arg1 m c) (arg2 m c) (arg3 m c) (arg4 m c) h0 h1 h3 b n h l
  rw [suffix_at, hM]
  exact out_at m c h0 h1 h3 M b n h l

/-- The kernel's run, its result read and its arguments unchanged. -/
theorem value_run (ρ : Dev nD → PrngReg)
    (h0 : ∀ c b n h d, ∃ r : ℝ, arg0 m c (ix4 b n h d) = ((r : ℝ) : EReal))
    (h1 : ∀ c b n h d, ∃ r : ℝ, arg1 m c (ix4 b n h d) = ((r : ℝ) : EReal))
    (h3 : ∀ c b n h d, ∃ r : ℝ, arg3 m c (ix4 b n h d) = ((r : ℝ) : EReal)) :
    θ_run defs (onTc (τ := τ) (main (F := Ideal))) ⟨m, fun _ => 0, ρ⟩ (fun r => ∀ c : Dev nD,
      r.2.mem ((c.tc : Thread nD τ).loc main_v18)
        = Cert.ReferenceIdeal.Latent.out (arg0 m c) (arg1 m c) (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1.rest_eq c main_v18 (by decide)).trans (result_eq m c (h0 c) (h1 c) (h3 c)), h.2.1 c⟩)
    (θ_run_and (run m ρ) (frame_run m ρ))

end Cert.KernelIdeal.Latent
end
-- ==== Proof.Pre.lean ====
/-
  The precondition, read: every query and every key is a real number.
-/
module

public import proofs.«01_k».proof.Proof.RefReads
public import proofs.«01_k».proof.Pre_finite_qk

@[expose] public section

noncomputable section

namespace Cert.Pre_finite_qk

open Idealize.ShloMosaic

theorem ofBits_top : Ideal.ofBits .f32 0x7F800000#32 = (⊤ : EReal) := by simp [Ideal.ofBits, Ideal.ieee]

/-- A number whose absolute value is below infinity is real. -/
theorem real_of_abs (a : EReal) (e : Ideal.cmp .olt (max a (-a)) ⊤ = 1#1) : ∃ r : ℝ, a = ((r : ℝ) : EReal) := by
  induction a using EReal.rec with
  | bot => simp [Ideal.cmp] at e
  | top => simp [Ideal.cmp] at e
  | coe r => exact ⟨r, rfl⟩

/-- An array that passes the test holds real numbers. -/
theorem real_of_test {n0 n1 n2 n3 : ℕ} (x : FVec Ideal ⟨4, ![n0, n1, n2, n3]⟩ .f32)
    (hb : Shape.BroadcastsInDim S_ ⟨4, ![n0, n1, n2, n3]⟩ ![])
    (h : cmpf .olt (Host.absf x) (broadcastInDim ⟨4, ![n0, n1, n2, n3]⟩ ![] hb (constant (F := Ideal) S_ .f32 0x7F800000#32))
      = fun _ => 1#1) (i0 : Fin n0) (i1 : Fin n1) (i2 : Fin n2) (i3 : Fin n3) :
    ∃ r : ℝ, x (ix4 i0 i1 i2 i3) = ((r : ℝ) : EReal) := by
  have e : Ideal.cmp .olt (max (x (ix4 i0 i1 i2 i3) : EReal) (-(x (ix4 i0 i1 i2 i3) : EReal))) (Ideal.ofBits .f32 0x7F800000#32) = 1#1 := by
    have := congrFun h (ix4 i0 i1 i2 i3)
    revert this
    pointwise
    intro this
    exact this
  rw [ofBits_top] at e
  exact real_of_abs _ e

/-- The precondition's three tests. -/
theorem real_of_pre [Facts] (a0 a1 : FVec Ideal S2x16384x8x96 .f32) (a2 : FVec Ideal S2x16384x8x64 .f32)
    (a3 : FVec Ideal S2x256x8x96 .f32) (a4 : FVec Ideal S2x256x8x64 .f32)
    (h : (fn a0 a1 a2 a3 a4).1 = (fun _ => 1#1) ∧ (fn a0 a1 a2 a3 a4).2.1 = (fun _ => 1#1)
      ∧ (fn a0 a1 a2 a3 a4).2.2 = (fun _ => 1#1)) :
    (∀ b n h d, ∃ r : ℝ, a0 (ix4 b n h d) = ((r : ℝ) : EReal)) ∧ (∀ b n h d, ∃ r : ℝ, a1 (ix4 b n h d) = ((r : ℝ) : EReal))
      ∧ (∀ b n h d, ∃ r : ℝ, a3 (ix4 b n h d) = ((r : ℝ) : EReal)) :=
  ⟨real_of_test a0 _ h.1, real_of_test a1 _ h.2.1, real_of_test a3 _ h.2.2⟩

end Cert.Pre_finite_qk
end
-- ==== Proof.ExpertsPre.lean ====
/-
  The experts' preconditions, read: a table's entries are expert numbers, the routing weights are finite and not negative.
-/
module

public import Idealize.ShloMosaic.Lib.Pointwise
public import Idealize.ShloMosaic.Lib.StableHlo.Predicate
public import Idealize.ShloMosaic.PureOps.Ideal
public import proofs.«01_k».proof.Pre_experts_exist
public import proofs.«01_k».proof.Pre_routed

@[expose] public section

noncomputable section

namespace Cert.Routing

open Idealize.ShloMosaic

/-- A word that passes both tests, read signed, is below sixteen. -/
theorem lt_of_tests (x : BitVec 32) (h0 : IntOp.cmpi .sge x 0#32 = 1#1) (h1 : IntOp.cmpi .slt x 16#32 = 1#1) : x.toNat < 16 := by
  have h0' : BitVec.ofBool ((0#32).sle x) = 1#1 := h0
  have h1' : BitVec.ofBool (x.slt 16#32) = 1#1 := h1
  rw [StableHlo.Predicate.ofBool_eq_one_iff] at h0' h1'
  have a0 : (0#32).toInt ≤ x.toInt := by simpa [BitVec.sle] using h0'
  have a1 : x.toInt < (16#32).toInt := by simpa [BitVec.slt] using h1'
  have e0 : (0#32).toInt = 0 := by decide
  have e1 : (16#32).toInt = 16 := by decide
  rw [BitVec.toInt_eq_toNat_cond x, e0] at a0
  rw [BitVec.toInt_eq_toNat_cond x, e1] at a1
  have := x.isLt
  split at a0 <;> split at a1 <;> omega

/-- A table that passes both tests holds expert numbers. -/
theorem lt_of_table {s0 : Shape} (x : IVec ⟨1, ![154]⟩ 32) (d : Fin s0.rank → Fin 1) (hb : s0.BroadcastsInDim ⟨1, ![154]⟩ d)
    (h0 : cmpi .sge x (broadcastInDim ⟨1, ![154]⟩ d hb (constantI s0 32 0#32)) = fun _ => 1#1)
    (h1 : cmpi .slt x (broadcastInDim ⟨1, ![154]⟩ d hb (constantI s0 32 16#32)) = fun _ => 1#1) (j) : (x j).toNat < 16 :=
  lt_of_tests _ (congrFun h0 j) (congrFun h1 j)

/-- Weights that pass both tests are finite and not negative. -/
theorem weight_of_tests {s s0 : Shape} (x : FVec Ideal s .f32) (d : Fin s0.rank → Fin s.rank) (hb : s0.BroadcastsInDim s d)
    (h0 : cmpf .oge x (broadcastInDim s d hb (constant (F := Ideal) s0 .f32 0x00000000#32)) = fun _ => 1#1)
    (h1 : cmpf .olt x (broadcastInDim s d hb (constant (F := Ideal) s0 .f32 0x7F800000#32)) = fun _ => 1#1) (j) :
    (0 : EReal) ≤ x j ∧ (x j : EReal) ≠ ⊤ := by
  have e0 : Ideal.cmp .oge (x j : EReal) (Ideal.ofBits .f32 0x00000000#32) = 1#1 := congrFun h0 j
  have e1 : Ideal.cmp .olt (x j : EReal) (Ideal.ofBits .f32 0x7F800000#32) = 1#1 := congrFun h1 j
  rw [show Ideal.ofBits .f32 0x00000000#32 = (0 : EReal) by simp [Ideal.ofBits, Ideal.ieee]] at e0
  rw [show Ideal.ofBits .f32 0x7F800000#32 = (⊤ : EReal) by simp [Ideal.ofBits, Ideal.ieee]] at e1
  simp only [Ideal.cmp, StableHlo.Predicate.ofBool_eq_one_iff, decide_eq_true_eq] at e0 e1
  exact ⟨e0, ne_of_lt e1⟩

/-- The tests of the frames' precondition. -/
theorem experts_of_pre {F : FTy → Type} [FloatOps F] [Cert.Pre_experts_exist.Facts] (a0 a1) (a2 a3 a4 : IVec Cert.Pre_experts_exist.S154 32) (a5 a6 a7)
    (h : (Cert.Pre_experts_exist.fn (F := F) a0 a1 a2 a3 a4 a5 a6 a7).1 = (fun _ => 1#1)
      ∧ (Cert.Pre_experts_exist.fn (F := F) a0 a1 a2 a3 a4 a5 a6 a7).2.1 = (fun _ => 1#1)
      ∧ (Cert.Pre_experts_exist.fn (F := F) a0 a1 a2 a3 a4 a5 a6 a7).2.2.1 = (fun _ => 1#1)
      ∧ (Cert.Pre_experts_exist.fn (F := F) a0 a1 a2 a3 a4 a5 a6 a7).2.2.2 = (fun _ => 1#1)) :
    (∀ j, (a2 j).toNat < 16) ∧ ∀ j, (a3 j).toNat < 16 :=
  ⟨lt_of_table a2 _ _ h.1 h.2.1, lt_of_table a3 _ _ h.2.2.1 h.2.2.2⟩

/-- The tests of the equality's precondition. -/
theorem routed_of_pre [Cert.Pre_routed.Facts] (a0) (a1 : FVec Ideal Cert.Pre_routed.S39424x2 .f32) (a2 a3 a4 : IVec Cert.Pre_routed.S154 32) (a5 a6 a7)
    (h : (Cert.Pre_routed.fn (F := Ideal) a0 a1 a2 a3 a4 a5 a6 a7).1 = (fun _ => 1#1)
      ∧ (Cert.Pre_routed.fn (F := Ideal) a0 a1 a2 a3 a4 a5 a6 a7).2.1 = (fun _ => 1#1)
      ∧ (Cert.Pre_routed.fn (F := Ideal) a0 a1 a2 a3 a4 a5 a6 a7).2.2.1 = (fun _ => 1#1)
      ∧ (Cert.Pre_routed.fn (F := Ideal) a0 a1 a2 a3 a4 a5 a6 a7).2.2.2.1 = (fun _ => 1#1)
      ∧ (Cert.Pre_routed.fn (F := Ideal) a0 a1 a2 a3 a4 a5 a6 a7).2.2.2.2.1 = (fun _ => 1#1)
      ∧ (Cert.Pre_routed.fn (F := Ideal) a0 a1 a2 a3 a4 a5 a6 a7).2.2.2.2.2 = (fun _ => 1#1)) :
    (∀ j, (a2 j).toNat < 16) ∧ (∀ j, (a3 j).toNat < 16) ∧ ∀ j, (0 : EReal) ≤ a1 j ∧ (a1 j : EReal) ≠ ⊤ :=
  ⟨lt_of_table a2 _ _ h.1 h.2.1, lt_of_table a3 _ _ h.2.2.1 h.2.2.2.1, weight_of_tests a1 _ _ h.2.2.2.2.1 h.2.2.2.2.2⟩

end Cert.Routing
end
-- ==== Proof.ExpertsBlock.lean ====
/-
  One tile of tokens through its two experts, as the kernel computes it, over any float values: the tokens' rows and
  the two weights read out of the block of rows, and the block of results.
-/
module

public import proofs.«01_k».proof.Proof.Gen.Kernel2Ideal.Skeleton
public import proofs.«01_k».proof.Proof.Gen.Kernel2Ideal.Launch
public import Idealize.ShloMosaic.Lib.Tactic
public import Idealize.ShloMosaic.Lib.ValueIdx

@[expose] public section

noncomputable section

namespace Cert.Kernel2Ideal.Experts

open Cert.Kernel2Ideal.Gen
open Idealize.ShloMosaic Idealize.ShloMosaic.ValueIdx

variable {F : FTy → Type} [FloatOps F]

/-- The tokens' features: the first 1024 columns of a block of rows. -/
def features (x : Vec F S256x1152 .f32) : Vec F S256x1024 .f32 :=
  fun y => x (ix2 (y 0) ⟨(y 1).val, by have := (y 1).isLt; simp at this; omega⟩)

/-- The tokens' weights for their first expert: column 1024. -/
def weightA (x : Vec F S256x1152 .f32) : Vec F S256x1 .f32 := fun y => x (ix2 (y 0) ⟨1024, by omega⟩)

/-- The tokens' weights for their second expert: column 1025. -/
def weightB (x : Vec F S256x1152 .f32) : Vec F S256x1 .f32 := fun y => x (ix2 (y 0) ⟨1025, by omega⟩)

/-- The block of results of a tile of tokens, from its rows and its two experts' matrices. -/
def mixed (x : Vec F S256x1152 .f32) (ga ua : Vec F S1x1x1024x512 .bf16) (da : Vec F S1x1x512x1024 .bf16)
    (gb ub : Vec F S1x1x1024x512 .bf16) (db : Vec F S1x1x512x1024 .bf16) : Vec F S256x1024 .f32 :=
  k0_pay2 (k0_pay4 (features x) (weightA x) ga ua da) (k0_pay5 (weightB x)) (k0_pay6 (features x) gb)
    (k0_pay7 (features x) ub) (k0_pay8 (features x) gb) db

/-- The block of results, a tile without tokens getting zeros. -/
def tile (v : BitVec 32) (x : Vec F S256x1152 .f32) (ga ua : Vec F S1x1x1024x512 .bf16) (da : Vec F S1x1x512x1024 .bf16)
    (gb ub : Vec F S1x1x1024x512 .bf16) (db : Vec F S1x1x512x1024 .bf16) : Vec F S256x1024 .f32 :=
  if v = 0#32 then k0_pay1 else mixed x ga ua da gb ub db

/-- The first condition holds of the word 0 alone. -/
theorem cond1_iff (v : BitVec 32) : k0_cond1 v = 1#1 ↔ v = 0#32 := by
  unfold k0_cond1
  by_cases h : v = 0#32
  · subst h; simp [Scalar.cmpi, Scalar.extui, IntOp.cmpi]
  · have hb : (v == 0#32) = false := by simpa using h
    simp only [Scalar.cmpi, Scalar.extui, IntOp.cmpi, bne, hb, h]
    simp [h]

/-- The second holds of every other word. -/
theorem cond2_iff (v : BitVec 32) : k0_cond2 v = 1#1 ↔ v ≠ 0#32 := by
  unfold k0_cond2
  by_cases h : v = 0#32
  · subst h; simp [Scalar.cmpi, Scalar.extui, IntOp.cmpi]
  · have hb : (v == 0#32) = false := by simpa using h
    simp only [Scalar.cmpi, Scalar.extui, IntOp.cmpi, bne, hb, h]
    simp [h]

end Cert.Kernel2Ideal.Experts

end
-- ==== Proof.ExpertsBody.lean ====
/-
  The kernel's body on any staging buffers: from a tile's rows, its two experts' matrices and the tile's word in the
  third table, whatever the result buffer held, it leaves the tile's block of results and everything else as it was.
-/
module

public import proofs.«01_k».proof.Proof.ExpertsBlock
public import Idealize.ShloMosaic.Lib.WholeRead
public import Idealize.ShloMosaic.Lib.Pipeline.FrameBody
public import Idealize.ShloMosaic.Lib.Writes
public import Idealize.ShloMosaic.Lib.VecWindow

@[expose] public section

set_option maxRecDepth 16384

noncomputable section

namespace Cert.Kernel2Ideal.Experts

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The load of the first 1024 columns reads the features. -/
theorem load_features (m : Memref sig .tc .vmem S256x1152 .f32) (h : m.IsWhole) (x : Vec F S256x1152 .f32) (inb) :
    View.readAt (Elt F) m.view (Rect.unit (s := S256x1152) ![0, 0] S256x1024.size inb).toLoadRect (h.unread x) = features x := by
  funext y
  rw [h.readAt_unread]
  refine congrArg x (funext fun a => Fin.ext ?_)
  match a with
  | ⟨0, _⟩ => simp [LoadRect.idx, ix2]
  | ⟨1, _⟩ => simp [LoadRect.idx, ix2]

/-- The load of column 1024 reads the first weights. -/
theorem load_weightA (m : Memref sig .tc .vmem S256x1152 .f32) (h : m.IsWhole) (x : Vec F S256x1152 .f32) (inb) :
    View.readAt (Elt F) m.view (Rect.unit (s := S256x1152) ![0, 1024] S256x1.size inb).toLoadRect (h.unread x) = weightA x := by
  funext y
  rw [h.readAt_unread]
  refine congrArg x (funext fun a => Fin.ext ?_)
  have h1 := (y 1).isLt
  simp [S256x1] at h1
  match a with
  | ⟨0, _⟩ => simp [LoadRect.idx, ix2]
  | ⟨1, _⟩ => simp [LoadRect.idx, ix2, h1]

/-- The load of column 1025 reads the second weights. -/
theorem load_weightB (m : Memref sig .tc .vmem S256x1152 .f32) (h : m.IsWhole) (x : Vec F S256x1152 .f32) (inb) :
    View.readAt (Elt F) m.view (Rect.unit (s := S256x1152) ![0, 1025] S256x1.size inb).toLoadRect (h.unread x) = weightB x := by
  funext y
  rw [h.readAt_unread]
  refine congrArg x (funext fun a => Fin.ext ?_)
  have h1 := (y 1).isLt
  simp [S256x1] at h1
  match a with
  | ⟨0, _⟩ => simp [LoadRect.idx, ix2]
  | ⟨1, _⟩ => simp [LoadRect.idx, ix2, h1]

/-- A table memref's contents on core `c`, and the half share of it the body is handed. -/
abbrev Table (c : Dev nD) (M : Memref sig .tc .smem S154 .i32) : Type := Buf (Elt F) (M.view.loc (c : Thread nD τ))
abbrev half (c : Dev nD) (M : Memref sig .tc .smem S154 .i32) (f : Table (F := F) c M) : sProp 𝕄 :=
  M.view.loc (c : Thread nD τ) ↦{fullShare.right} f

/-- The third table as the body is handed it. -/
abbrev tbV : Memref sig .tc .smem S154 .i32 := Memref.whole main_arg4

/-- A grid point as an index of a table. -/
def spot (i : grid0.Coords) : S154.Idx := ix1 ⟨(i 0).val, (i 0).isLt⟩

/-- The word of the third table at grid point `i`. -/
def word (c : Dev nD) (xt : Table (F := F) c tbV) (i : grid0.Coords) : BitVec 32 :=
  xt (spot i)

/-- The point of a table a load at the grid coordinate reads. -/
theorem offset_point (i : grid0.Coords) (off : Fin 1 → ℕ) (h : off = k0_off1 i) (inb) (z : S1.Idx) :
    (Rect.unit (s := S154) off S1.size inb).emb z = spot i := by
  subst h
  funext a
  obtain rfl : a = 0 := Subsingleton.elim _ _
  refine Fin.ext ?_
  have hz := (z 0).isLt
  have hi : (i 0).val < 154 := (i 0).isLt
  simp [S1] at hz
  simp [spot, ix1, Rect.emb, k0_off1, Scalar.indexCast, hz]
  omega

set_option maxHeartbeats 1000000 in
/-- The body's triple. -/
theorem body (c : Dev nD) (i : grid0.Coords)
    (arg1 : Memref sig .tc .smem S154 .i32) (harg1 : arg1.IsWhole) (arg2 : Memref sig .tc .smem S154 .i32) (harg2 : arg2.IsWhole)
    (arg4 : Memref sig .tc .vmem S256x1152 .f32) (harg4 : arg4.IsWhole)
    (arg5 : Memref sig .tc .vmem S1x1x1024x512 .bf16) (harg5 : arg5.IsWhole) (arg6 : Memref sig .tc .vmem S1x1x1024x512 .bf16) (harg6 : arg6.IsWhole)
    (arg7 : Memref sig .tc .vmem S1x1x512x1024 .bf16) (harg7 : arg7.IsWhole) (arg8 : Memref sig .tc .vmem S1x1x1024x512 .bf16) (harg8 : arg8.IsWhole)
    (arg9 : Memref sig .tc .vmem S1x1x1024x512 .bf16) (harg9 : arg9.IsWhole) (arg10 : Memref sig .tc .vmem S1x1x512x1024 .bf16) (harg10 : arg10.IsWhole)
    (arg11 : Memref sig .tc .vmem S256x1024 .f32) (harg11 : arg11.IsWhole)
    (xt : Table (F := F) c tbV) (x : Vec F S256x1152 .f32) (ga ua : Vec F S1x1x1024x512 .bf16) (da : Vec F S1x1x512x1024 .bf16)
    (gb ub : Vec F S1x1x1024x512 .bf16) (db : Vec F S1x1x512x1024 .bf16) (E : Set ℕ) (K : PUnit → sProp 𝕄) :
    iprop(owns (c : Thread nD τ) arg4 fullShare x ∗ owns (c : Thread nD τ) arg5 fullShare ga ∗ owns (c : Thread nD τ) arg6 fullShare ua
        ∗ owns (c : Thread nD τ) arg7 fullShare da ∗ owns (c : Thread nD τ) arg8 fullShare gb ∗ owns (c : Thread nD τ) arg9 fullShare ub
        ∗ owns (c : Thread nD τ) arg10 fullShare db ∗ (∃ d, owns (c : Thread nD τ) arg11 fullShare d) ∗ half c tbV xt
        ∗ (iprop(owns (c : Thread nD τ) arg4 fullShare x ∗ owns (c : Thread nD τ) arg5 fullShare ga ∗ owns (c : Thread nD τ) arg6 fullShare ua
            ∗ owns (c : Thread nD τ) arg7 fullShare da ∗ owns (c : Thread nD τ) arg8 fullShare gb ∗ owns (c : Thread nD τ) arg9 fullShare ub
            ∗ owns (c : Thread nD τ) arg10 fullShare db ∗ owns (c : Thread nD τ) arg11 fullShare (tile (word c xt i) x ga ua da gb ub db)
            ∗ half c tbV xt) -∗ K ⟨⟩))
      ⊢ wp frame (wpE (defs₀ (F := F)) Variants.none c none) E
          (cc0_moe_experts i arg1 harg1 arg2 harg2 tbV (Memref.isWhole_whole _) arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6
  sl_exec
  sl_step
  have e1 : body.sl.r c i xt = word c xt i := congrArg xt (offset_point i _ rfl _ _)
  have e2 : body.sl.r_1 c i xt = word c xt i := congrArg xt (offset_point i _ rfl _ _)
  rw [e1, e2]
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    unfold tile
    by_cases hv : word c xt i = 0#32
    · rw [dif_neg (by rw [cond2_iff]; exact fun h => h hv), dif_pos ((cond1_iff _).mpr hv), if_pos hv]
      exact View.read_writes_full (s := S256x1024) arg11.view f7 (off := ![0, 0]) inb_S256x1024_S256x1024_0_0 _ []
    · rw [dif_pos ((cond2_iff _).mpr hv), if_neg hv]
      refine (View.read_writes_full (s := S256x1024) arg11.view _ (off := ![0, 0]) inb_S256x1024_S256x1024_0_0 _ []).trans ?_
      unfold mixed
      unfold body.sl.r_2 body.sl.r_3 body.sl.r_4 body.sl.r_5 body.sl.r_6 body.sl.v44
      rw [View.readAt_full (s := S1x1x1024x512) arg5.view, View.readAt_full (s := S1x1x1024x512) arg6.view,
        View.readAt_full (s := S1x1x512x1024) arg7.view, View.readAt_full (s := S1x1x1024x512) arg8.view,
        View.readAt_full (s := S1x1x1024x512) arg9.view,
        load_features arg4 harg4, load_weightA arg4 harg4, load_weightB arg4 harg4, hf1, hf2, hf3, hf4, hf5]
      exact congrArg (k0_pay2 _ _ _ _ _) ((View.readAt_full (s := S1x1x512x1024) arg10.view _ (off := ![0, 0, 0, 0]) inb_S1x1x512x1024_S1x1x512x1024_0_0_0_0).trans hf6)
  iexact HT

end Cert.Kernel2Ideal.Experts

end
-- ==== Proof.ExpertsTables.lean ====
/-
  The region's entry: the arrays after the host lines before it, and the three tables read off them.
-/
module

public import proofs.«01_k».proof.Proof.ExpertsBlock
public import Idealize.ShloMosaic.Lib.Pipeline.FrameBody
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host lines before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor

set_option maxHeartbeats 800000 in
/-- The program up to the region is the host lines, then the region. -/
theorem upto (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh0_1, fresh0_2⟩) main_chain

/-- The lines before the region leave argument 0 alone. -/
theorem V_main_arg0 (c : Dev nD) : V m c main_arg0 = m ((c : Thread nD τ).loc main_arg0) := by
  unfold V V0
  exact StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 1 alone. -/
theorem V_main_arg1 (c : Dev nD) : V m c main_arg1 = m ((c : Thread nD τ).loc main_arg1) := by
  unfold V V0
  exact StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 2 alone. -/
theorem V_main_arg2 (c : Dev nD) : V m c main_arg2 = m ((c : Thread nD τ).loc main_arg2) := by
  unfold V V0
  exact StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 3 alone. -/
theorem V_main_arg3 (c : Dev nD) : V m c main_arg3 = m ((c : Thread nD τ).loc main_arg3) := by
  unfold V V0
  exact StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 4 alone. -/
theorem V_main_arg4 (c : Dev nD) : V m c main_arg4 = m ((c : Thread nD τ).loc main_arg4) := by
  unfold V V0
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 5 alone. -/
theorem V_main_arg5 (c : Dev nD) : V m c main_arg5 = m ((c : Thread nD τ).loc main_arg5) := by
  unfold V V0
  exact StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 6 alone. -/
theorem V_main_arg6 (c : Dev nD) : V m c main_arg6 = m ((c : Thread nD τ).loc main_arg6) := by
  unfold V V0
  exact StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))
/-- The lines before the region leave argument 7 alone. -/
theorem V_main_arg7 (c : Dev nD) : V m c main_arg7 = m ((c : Thread nD τ).loc main_arg7) := by
  unfold V V0
  exact StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, Finset.mem_singleton]
    repeat' apply And.intro
    all_goals exact StableHlo.devRef_ne_of_ne (by decide)))

/-- The tables' contents when the region is entered (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables name experts that exist. -/
abbrev Ok : Prop := ok0 (F := F) (tbl m)
abbrev adm (hO : Ok m) : (pcfg0 (F := F)).Adm := ⟨tbl m, hO⟩
/-- The pipeline at those tables. -/
abbrev cfgM (hO : Ok m) : Pipeline.Cfg sig Λ₀ := cfg0 (adm m hO)

end Cert.Kernel2Ideal.Experts

end
-- ==== Proof.ExpertsRun.lean ====
/-
  The pipeline's run over the tiles: what each window's staging buffer holds around each tile, the body obligation from
  the body's triple, the launch, and the frame at any float values.
-/
module

public import proofs.«01_k».proof.Proof.ExpertsBody
public import proofs.«01_k».proof.Proof.ExpertsTables
public import Idealize.ShloMosaic.Lib.Pipeline.FrameBody
public import Idealize.ShloMosaic.Lib.Pipeline.FrameSuffix
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at tile `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The block of results of tile `t`. -/
def result (hO : Ok m) (c : Dev nD) (t : Fin (cfgM m hO).N) : Vec F S256x1024 .f32 :=
  tile (word c (tbl m 2) (grid0.coords t)) (iblk m hO c 0 t) (iblk m hO c 1 t) (iblk m hO c 2 t) (iblk m hO c 3 t) (iblk m hO c 4 t) (iblk m hO c 5 t) (iblk m hO c 6 t)

/-- The pipeline's data: the arrays as the region finds them; after the body every input's buffer at its block, the
result's at the block of results; the tables held throughout; an array several windows read shared among them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => result m hO c t
  Φ _ := iprop(Pipeline.ΦA spec0 c ∗ Pipeline.ΦT pre0 (tbl m) c)
  q w := Pipeline.shareOf spec0 w
  owed _ := 0

theorem dats_A (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = result m hO c t := by dsimp only [dats]; try rfl

theorem before_0 (hO : Ok m) (c : Dev nD) (t : Fin (cfgM m hO).N) (d) : (dats m hO 0 c).before 0 t d = iblk m hO c 0 t :=
  (Dat.before_in_eq_fetched (dats m hO 0 c) 0 rfl (fun _ => rfl) (fun _ _ _ => rfl)
      (fun t => by rw [after_0]; unfold Dat.blockOf iblk; rw [dats_A]; try rfl) t d).trans
    (by unfold Dat.fetched Dat.blockOf iblk; rw [dats_A]; try rfl)
theorem before_1 (hO : Ok m) (c : Dev nD) (t : Fin (cfgM m hO).N) (d) : (dats m hO 0 c).before 1 t d = iblk m hO c 1 t :=
  (Dat.before_in_eq_fetched (dats m hO 0 c) 1 rfl (fun _ => rfl) (fun _ _ _ => rfl)
      (fun t => by rw [after_1]; unfold Dat.blockOf iblk; rw [dats_A]; try rfl) t d).trans
    (by unfold Dat.fetched Dat.blockOf iblk; rw [dats_A]; try rfl)
theorem before_2 (hO : Ok m) (c : Dev nD) (t : Fin (cfgM m hO).N) (d) : (dats m hO 0 c).before 2 t d = iblk m hO c 2 t :=
  (Dat.before_in_eq_fetched (dats m hO 0 c) 2 rfl (fun _ => rfl) (fun _ _ _ => rfl)
      (fun t => by rw [after_2]; unfold Dat.blockOf iblk; rw [dats_A]; try rfl) t d).trans
    (by unfold Dat.fetched Dat.blockOf iblk; rw [dats_A]; try rfl)
theorem before_3 (hO : Ok m) (c : Dev nD) (t : Fin (cfgM m hO).N) (d) : (dats m hO 0 c).before 3 t d = iblk m hO c 3 t :=
  (Dat.before_in_eq_fetched (dats m hO 0 c) 3 rfl (fun _ => rfl) (fun _ _ _ => rfl)
      (fun t => by rw [after_3]; unfold Dat.blockOf iblk; rw [dats_A]; try rfl) t d).trans
    (by unfold Dat.fetched Dat.blockOf iblk; rw [dats_A]; try rfl)
theorem before_4 (hO : Ok m) (c : Dev nD) (t : Fin (cfgM m hO).N) (d) : (dats m hO 0 c).before 4 t d = iblk m hO c 4 t :=
  (Dat.before_in_eq_fetched (dats m hO 0 c) 4 rfl (fun _ => rfl) (fun _ _ _ => rfl)
      (fun t => by rw [after_4]; unfold Dat.blockOf iblk; rw [dats_A]; try rfl) t d).trans
    (by unfold Dat.fetched Dat.blockOf iblk; rw [dats_A]; try rfl)
theorem before_5 (hO : Ok m) (c : Dev nD) (t : Fin (cfgM m hO).N) (d) : (dats m hO 0 c).before 5 t d = iblk m hO c 5 t :=
  (Dat.before_in_eq_fetched (dats m hO 0 c) 5 rfl (fun _ => rfl) (fun _ _ _ => rfl)
      (fun t => by rw [after_5]; unfold Dat.blockOf iblk; rw [dats_A]; try rfl) t d).trans
    (by unfold Dat.fetched Dat.blockOf iblk; rw [dats_A]; try rfl)
theorem before_6 (hO : Ok m) (c : Dev nD) (t : Fin (cfgM m hO).N) (d) : (dats m hO 0 c).before 6 t d = iblk m hO c 6 t :=
  (Dat.before_in_eq_fetched (dats m hO 0 c) 6 rfl (fun _ => rfl) (fun _ _ _ => rfl)
      (fun t => by rw [after_6]; unfold Dat.blockOf iblk; rw [dats_A]; try rfl) t d).trans
    (by unfold Dat.fetched Dat.blockOf iblk; rw [dats_A]; try rfl)

/-- The windows' staging buffers at tile `t`. -/
abbrev stg0 (hO : Ok m) (t : Fin (cfgM m hO).N) : Memref sig .tc .vmem S256x1152 .f32 := spec0_0.stage ((cfgM m hO).slots t 0)
abbrev stg1 (hO : Ok m) (t : Fin (cfgM m hO).N) : Memref sig .tc .vmem S1x1x1024x512 .bf16 := spec0_1.stage ((cfgM m hO).slots t 1)
abbrev stg2 (hO : Ok m) (t : Fin (cfgM m hO).N) : Memref sig .tc .vmem S1x1x1024x512 .bf16 := spec0_2.stage ((cfgM m hO).slots t 2)
abbrev stg3 (hO : Ok m) (t : Fin (cfgM m hO).N) : Memref sig .tc .vmem S1x1x512x1024 .bf16 := spec0_3.stage ((cfgM m hO).slots t 3)
abbrev stg4 (hO : Ok m) (t : Fin (cfgM m hO).N) : Memref sig .tc .vmem S1x1x1024x512 .bf16 := spec0_4.stage ((cfgM m hO).slots t 4)
abbrev stg5 (hO : Ok m) (t : Fin (cfgM m hO).N) : Memref sig .tc .vmem S1x1x1024x512 .bf16 := spec0_5.stage ((cfgM m hO).slots t 5)
abbrev stg6 (hO : Ok m) (t : Fin (cfgM m hO).N) : Memref sig .tc .vmem S1x1x512x1024 .bf16 := spec0_6.stage ((cfgM m hO).slots t 6)
abbrev stg7 (hO : Ok m) (t : Fin (cfgM m hO).N) : Memref sig .tc .vmem S256x1024 .f32 := spec0_7.stage ((cfgM m hO).slots t 7)

/-- The tables' halves, one by one. -/
theorem tables_eq (c : Dev nD) : (Pipeline.ΦT pre0 (tbl m) c : sProp 𝕄)
    = iprop(half c (Memref.whole main_arg2) (tbl m 0) ∗ half c (Memref.whole main_arg3) (tbl m 1) ∗ half c tbV (tbl m 2)) := by
  unfold Pipeline.ΦT Pipeline.prefHeld
  rw [bigSep_univ_eq_bigSepL [(0 : Fin 3), (1 : Fin 3), (2 : Fin 3)] (by decide) (by decide)]
  rfl

/-- The kernel's body at tile `t`, on what the pipeline calls it with. -/
abbrev bodyAt (hO : Ok m) (t : Fin (cfgM m hO).N) : Prog (TpuEff nD τ sig (Elt F) Λ₀ .tc) PUnit :=
  cc0_moe_experts (grid0.coords t) (Memref.whole main_arg2) (Memref.isWhole_whole _) (Memref.whole main_arg3) (Memref.isWhole_whole _) (Memref.whole main_arg4) (Memref.isWhole_whole _)
    (stg0 m hO t) (hstage0_0 (((cfgM m hO).slots t 0).cast nbuf0_0)) (stg1 m hO t) (hstage0_1 (((cfgM m hO).slots t 1).cast nbuf0_1)) (stg2 m hO t) (hstage0_2 (((cfgM m hO).slots t 2).cast nbuf0_2)) (stg3 m hO t) (hstage0_3 (((cfgM m hO).slots t 3).cast nbuf0_3)) (stg4 m hO t) (hstage0_4 (((cfgM m hO).slots t 4).cast nbuf0_4)) (stg5 m hO t) (hstage0_5 (((cfgM m hO).slots t 5).cast nbuf0_5)) (stg6 m hO t) (hstage0_6 (((cfgM m hO).slots t 6).cast nbuf0_6)) (stg7 m hO t) (hstage0_7 (((cfgM m hO).slots t 7).cast nbuf0_7))

/-- What the body is called with at tile `t`, -/
def pre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d))
    ∗ (∃ d, owns (c : Thread nD τ) (stg7 m hO t) fullShare ((dats m hO 0 c).before 7 t d)))

/-- and what it returns. -/
def post (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t)
    ∗ owns (c : Thread nD τ) (stg7 m hO t) fullShare ((dats m hO 0 c).after 7 t))

/-- The body at any tile. -/
theorem point (hO : Ok m) (c : Dev nD) (t : Fin (cfgM m hO).N) :
    pre m hO c t ⊢ wp frame (wpE (defs₀ (F := F)) Variants.none c none) Set.univ (bodyAt m hO t) (fun _ => post m hO c t) := by
  unfold pre post bodyAt
  simp only [before_0, before_1, before_2, before_3, before_4, before_5, before_6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl,
    after_0, after_1, after_2, after_3, after_4, after_5, after_6, after_7, tables_eq]
  unfold result
  iintro ⟨⟨HΦ, HA, HB, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ (Memref.isWhole_whole _) _ (Memref.isWhole_whole _)
    _ (hstage0_0 (((cfgM m hO).slots t 0).cast nbuf0_0)) _ (hstage0_1 (((cfgM m hO).slots t 1).cast nbuf0_1)) _ (hstage0_2 (((cfgM m hO).slots t 2).cast nbuf0_2)) _ (hstage0_3 (((cfgM m hO).slots t 3).cast nbuf0_3)) _ (hstage0_4 (((cfgM m hO).slots t 4).cast nbuf0_4)) _ (hstage0_5 (((cfgM m hO).slots t 5).cast nbuf0_5)) _ (hstage0_6 (((cfgM m hO).slots t 6).cast nbuf0_6)) _ (hstage0_7 (((cfgM m hO).slots t 7).cast nbuf0_7))
    (tbl m 2) (iblk m hO c 0 t) (iblk m hO c 1 t) (iblk m hO c 2 t) (iblk m hO c 3 t) (iblk m hO c 4 t) (iblk m hO c 5 t) (iblk m hO c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT]; · iexact HT
  iintro ⟨H0, H1, H2, H3, H4, H5, H6, H7, HT⟩
  isplitl [HΦ HA HB HT]
  · isplitl [HΦ]; · iexact HΦ
    isplitl [HA]; · iexact HA
    isplitl [HB]; · iexact HB
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row is the body. -/
theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's window is stored at every tile: one of the two conditions holds. -/
theorem never_idle (hO : Ok m) (t : Fin (cfgM m hO).N) : (cfgM m hO).idle 7 ((cfgM m hO).grid.coords t) = false := by
  show (!(k0_cond1 ((tbl m).atD 2 (k0_off1 (grid0.coords t))) == 1#1) && !(k0_cond2 ((tbl m).atD 2 (k0_off2 (grid0.coords t))) == 1#1)) = false
  rw [show k0_off2 (grid0.coords t) = k0_off1 (grid0.coords t) from rfl]
  generalize (tbl m).atD 2 (k0_off1 (grid0.coords t)) = v
  by_cases hv : v = 0#32
  · rw [(cond1_iff v).mpr hv]; rfl
  · rw [(cond2_iff v).mpr hv]; simp

/-- What the body leaves in the result's window. -/
theorem leaves_7 (hO : Ok m) (c : Dev nD) (t : Fin (cfgM m hO).N) :
    ((dats m hO 0 c).leavesExact 7 t : sProp 𝕄) = owns (c : Thread nD τ) (stg7 m hO t) fullShare ((dats m hO 0 c).after 7 t) := by
  unfold Dat.leavesExact; rw [never_idle]; rfl

/-- The library's obligation on the body. -/
theorem obligation (hO : Ok m) (c : Dev nD) : BodyObligation (dats (F := F) m hO 0 c) (defs₀ (F := F)) Variants.none () Set.univ := fun t => by
  rw [bigSep_W0, bigSep_W0, row m hO]
  have h := point m hO c t
  unfold post at h
  rw [← leaves_7] at h
  exact triple_restated h rfl .rfl fun _ => .rfl

/-- The run's post: the arrays as the pipeline's data say, the rest as the region found it. -/
abbrev Post (hO : Ok m) (r : PUnit × MemSt nD τ sig (Elt F)) : Prop :=
  Pipeline.FramePost (Pipeline.pin pcfgs fun _ => adm m hO) (dats m hO) 0 (V m) r

set_option backward.isDefEq.respectTransparency.types false in
set_option maxHeartbeats 800000 in
/-- The run of the whole program, and no semaphore held at its end. -/
theorem run (hO : Ok m) : θ_run defs (onTc (τ := τ) (main (F := F))) (s₀ m ρ) (fun r => Post m hO r ∧ r.2.sem = fun _ => 0) :=
  (θ_run defs _ _).mono (fun r (h : _ ∧ _) => ⟨Pipeline.RDat.FramePost.toDat (Pipeline.pin pcfgs fun _ => adm m hO) (dats m hO) 0 (V m) r h.1, h.2⟩)
    (Pipeline.RDat.θ_run_frameP_track_shared (Q' := _) pcfgs (fun _ => adm m hO) (0 : Fin 1) launch₀0 defs₀ Variants.none
      (fun c => (dats m hO 0 c).toR) m ρ main (fun c => (obligation m hO c).loose.toR)
      (fun c w _ => rfl) (fun _ _ => rfl) (V m) (upto m Variants.none) (dats_A m hO) (V_pre m) (fun _ => .rfl) (fun c => by
        show iprop(Pipeline.ΦA spec0 c ∗ Pipeline.ΦT pre0 (tbl m) c) ⊢ Pipeline.ΦA spec0 c
        iintro ⟨H, -⟩
        iexact H))

/-- The frame: the argument arrays end as they were. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (by decide : main_arg0 ∈ Pipeline.restRefs sig spec0)).trans (V_main_arg0 m c), ((h.1 c).2 main_arg1 (by decide : main_arg1 ∈ Pipeline.restRefs sig spec0)).trans (V_main_arg1 m c), ((h.1 c).2 main_arg2 (by decide : main_arg2 ∈ Pipeline.restRefs sig spec0)).trans (V_main_arg2 m c), ((h.1 c).2 main_arg3 (by decide : main_arg3 ∈ Pipeline.restRefs sig spec0)).trans (V_main_arg3 m c), ((h.1 c).2 main_arg4 (by decide : main_arg4 ∈ Pipeline.restRefs sig spec0)).trans (V_main_arg4 m c), ((h.1 c).2 main_arg5 (by decide : main_arg5 ∈ Pipeline.restRefs sig spec0)).trans (V_main_arg5 m c), ((h.1 c).2 main_arg6 (by decide : main_arg6 ∈ Pipeline.restRefs sig spec0)).trans (V_main_arg6 m c), ((h.1 c).2 main_arg7 (by decide : main_arg7 ∈ Pipeline.restRefs sig spec0)).trans (V_main_arg7 m c)⟩, h.2⟩) (run m ρ hO)

end Cert.Kernel2Ideal.Experts

end
-- ==== Proof.ExpertsOk.lean ====
/-
  The tables name experts that exist: the side condition of the block indices, from the ranges of the tables.
-/
module

public import proofs.«01_k».proof.Proof.ExpertsRun
public import Idealize.ShloMosaic.Lib.Affine

@[expose] public section

set_option maxRecDepth 16384

noncomputable section

namespace Cert.Kernel2Ideal.Experts

open Cert.Kernel2Ideal.Gen
open Idealize.ShloMosaic Idealize.ShloMosaic.TcCoe Idealize.ShloMosaic.ValueIdx

variable {F : FTy → Type} [FloatOps F]

variable (m : (ℓ : Loc nD τ sig) → Buf (Elt F) ℓ)

/-- The expert of the first table at grid point `i`, and of the second. -/
def firstOf (pf : pre0.Contents (Elt F)) (i : grid0.Coords) : ℕ := BitVec.toNat (w := 32) (pf 0 (spot i))
def secondOf (pf : pre0.Contents (Elt F)) (i : grid0.Coords) : ℕ := BitVec.toNat (w := 32) (pf 1 (spot i))

/-- The index maps of the six weight windows: layer 3, the tile's expert, the whole matrix. -/
theorem index_1 (pf : pre0.Contents (Elt F)) (i : grid0.Coords) : cc0_transform_1 k0_off1_inb numel1_S1 pf i = ![3, firstOf pf i, 0, 0] := by
  have e := congrArg (pf 0) (offset_point i _ rfl (k0_off1_inb i) (Shape.Idx.first (by rw [numel1_S1]; omega)))
  show ![3, BitVec.toNat (w := 32) (pf 0 _), 0, 0] = _
  unfold firstOf
  exact congrArg (fun v : BitVec 32 => (![3, v.toNat, 0, 0] : Fin 4 → ℕ)) e
theorem index_2 (pf : pre0.Contents (Elt F)) (i : grid0.Coords) : cc0_transform_2 k0_off1_inb numel1_S1 pf i = ![3, firstOf pf i, 0, 0] :=
  (rfl : _ = cc0_transform_1 k0_off1_inb numel1_S1 pf i).trans (index_1 pf i)
theorem index_3 (pf : pre0.Contents (Elt F)) (i : grid0.Coords) : cc0_transform_3 k0_off1_inb numel1_S1 pf i = ![3, firstOf pf i, 0, 0] :=
  (rfl : _ = cc0_transform_1 k0_off1_inb numel1_S1 pf i).trans (index_1 pf i)
theorem index_4 (pf : pre0.Contents (Elt F)) (i : grid0.Coords) : cc0_transform_4 k0_off1_inb numel1_S1 pf i = ![3, secondOf pf i, 0, 0] := by
  have e := congrArg (pf 1) (offset_point i _ rfl (k0_off1_inb i) (Shape.Idx.first (by rw [numel1_S1]; omega)))
  show ![3, BitVec.toNat (w := 32) (pf 1 _), 0, 0] = _
  unfold secondOf
  exact congrArg (fun v : BitVec 32 => (![3, v.toNat, 0, 0] : Fin 4 → ℕ)) e
theorem index_5 (pf : pre0.Contents (Elt F)) (i : grid0.Coords) : cc0_transform_5 k0_off1_inb numel1_S1 pf i = ![3, secondOf pf i, 0, 0] :=
  (rfl : _ = cc0_transform_4 k0_off1_inb numel1_S1 pf i).trans (index_4 pf i)
theorem index_6 (pf : pre0.Contents (Elt F)) (i : grid0.Coords) : cc0_transform_6 k0_off1_inb numel1_S1 pf i = ![3, secondOf pf i, 0, 0] :=
  (rfl : _ = cc0_transform_4 k0_off1_inb numel1_S1 pf i).trans (index_4 pf i)

/-- A gate or up matrix of an expert that exists lies inside the array of them, -/
theorem inside_wide (v : ℕ) (h : v < 16) : ∀ a, ((![3, v, 0, 0] : Fin 4 → ℕ) a + 1) * S1x1x1024x512.size a ≤ S4x16x1024x512.size a := by
  intro a
  match a with
  | 0 => show (3 + 1) * 1 ≤ 4; omega
  | 1 => show (v + 1) * 1 ≤ 16; omega
  | 2 => show (0 + 1) * 1024 ≤ 1024; omega
  | 3 => show (0 + 1) * 512 ≤ 512; omega
/-- and so does a down matrix. -/
theorem inside_tall (v : ℕ) (h : v < 16) : ∀ a, ((![3, v, 0, 0] : Fin 4 → ℕ) a + 1) * S1x1x512x1024.size a ≤ S4x16x512x1024.size a := by
  intro a
  match a with
  | 0 => show (3 + 1) * 1 ≤ 4; omega
  | 1 => show (v + 1) * 1 ≤ 16; omega
  | 2 => show (0 + 1) * 512 ≤ 512; omega
  | 3 => show (0 + 1) * 1024 ≤ 1024; omega

/-- The side condition of the block indices holds where both tables name experts that exist. -/
theorem ok_of_range (pf : pre0.Contents (Elt F)) (hA : ∀ i, firstOf pf i < 16) (hB : ∀ i, secondOf pf i < 16) : ok0 pf :=
  ⟨fun i => ⟨by rw [index_1]; exact inside_wide _ (hA i), .inr (Affine.block_words_dvd (of_decide_eq_true rfl) (by decide))⟩,
   fun i => ⟨by rw [index_2]; exact inside_wide _ (hA i), .inr (Affine.block_words_dvd (of_decide_eq_true rfl) (by decide))⟩,
   fun i => ⟨by rw [index_3]; exact inside_tall _ (hA i), .inr (Affine.block_words_dvd (of_decide_eq_true rfl) (by decide))⟩,
   fun i => ⟨by rw [index_4]; exact inside_wide _ (hB i), .inr (Affine.block_words_dvd (of_decide_eq_true rfl) (by decide))⟩,
   fun i => ⟨by rw [index_5]; exact inside_wide _ (hB i), .inr (Affine.block_words_dvd (of_decide_eq_true rfl) (by decide))⟩,
   fun i => ⟨by rw [index_6]; exact inside_tall _ (hB i), .inr (Affine.block_words_dvd (of_decide_eq_true rfl) (by decide))⟩⟩

/-- The two tables as the program is given them. -/
def arg2 (c : Dev nD) : IVec S154 32 := m ((c : Thread nD τ).loc main_arg2)
def arg3 (c : Dev nD) : IVec S154 32 := m ((c : Thread nD τ).loc main_arg3)

theorem firstOf_tbl (i : grid0.Coords) : firstOf (tbl m) i = (arg2 m 0 (spot i)).toNat :=
  congrArg (fun f : IVec S154 32 => (f (spot i)).toNat) (V_main_arg2 m 0)
theorem secondOf_tbl (i : grid0.Coords) : secondOf (tbl m) i = (arg3 m 0 (spot i)).toNat :=
  congrArg (fun f : IVec S154 32 => (f (spot i)).toNat) (V_main_arg3 m 0)

theorem ok_of_args (hA : ∀ j, (arg2 m 0 j).toNat < 16) (hB : ∀ j, (arg3 m 0 j).toNat < 16) : Ok m :=
  ok_of_range (tbl m) (fun i => by rw [firstOf_tbl]; exact hA _) (fun i => by rw [secondOf_tbl]; exact hB _)

end Cert.Kernel2Ideal.Experts

end
-- ==== Proof.ExpertsReads.lean ====
/-
  The arrays the region finds: the tokens' rows (features, then the two weights) and the experts' matrices.
-/
module

public import proofs.«01_k».proof.Proof.ExpertsOk
public import Idealize.ShloMosaic.Lib.Pointwise
public import Idealize.ShloMosaic.Lib.StableHlo.ReadAt
public import Idealize.ShloMosaic.Lib.IdealHost

@[expose] public section

set_option maxRecDepth 16384

noncomputable section

namespace Cert.Kernel2Ideal.Experts

open Cert.Kernel2Ideal.Gen
open Idealize.ShloMosaic Idealize.ShloMosaic.TcCoe

variable (m : (ℓ : Loc nD τ sig) → Buf (Elt Ideal) ℓ) (c : Dev nD)

/-- The other arguments as the program is given them. -/
def arg0 : FVec Ideal S39424x1024 .f32 := m ((c : Thread nD τ).loc main_arg0)
def arg1 : FVec Ideal S39424x2 .f32 := m ((c : Thread nD τ).loc main_arg1)
def arg4 : IVec S154 32 := m ((c : Thread nD τ).loc main_arg4)
def arg5 : FVec Ideal S4x16x1024x512 .f32 := m ((c : Thread nD τ).loc main_arg5)
def arg6 : FVec Ideal S4x16x1024x512 .f32 := m ((c : Thread nD τ).loc main_arg6)
def arg7 : FVec Ideal S4x16x512x1024 .f32 := m ((c : Thread nD τ).loc main_arg7)

/-- The rows' array. -/
theorem rows_eq : V m c main_v1 = concatenate S39424x1152 1 [⟨S39424x1024, arg0 m c⟩, ⟨S39424x128,
    pad S39424x128 ![0, 0] ![0, 126] ![0, 0] (arg1 m c) (sitofp (F := Ideal) .f32 (constantI S_ 32 0#32)) pads_S39424x2_S39424x128_000_01260 h_S_⟩]
    concatenates_S39424x1024_S39424x128_S39424x1152_d1 := by
  unfold V V0
  simp only [hostOps0, hostOps0_1, hostOps0_2, List.flatten_cons, List.flatten_nil, List.append_nil, List.cons_append, List.nil_append]
  after_reads_at
  try after_reads_simp
  try rfl

theorem row_feature (r : Fin 39424) (k : Fin 1024) : V m c main_v1 (ix2 r ⟨k.val, by omega⟩) = arg0 m c (ix2 r k) := by
  rw [rows_eq]
  pointwise
  try simp

theorem row_first (r : Fin 39424) : V m c main_v1 (ix2 r ⟨1024, by omega⟩) = arg1 m c (ix2 r 0) := by
  rw [rows_eq]
  pointwise
  try simp

theorem row_second (r : Fin 39424) : V m c main_v1 (ix2 r ⟨1025, by omega⟩) = arg1 m c (ix2 r 1) := by
  rw [rows_eq]
  pointwise
  try simp

theorem gates_eq : V m c main_v2 = arg5 m c := by
  unfold V V0
  simp only [hostOps0, hostOps0_1, hostOps0_2, List.flatten_cons, List.flatten_nil, List.append_nil, List.cons_append, List.nil_append]
  after_reads_at
  try after_reads_simp
  try rfl
theorem ups_eq : V m c main_v3 = arg6 m c := by
  unfold V V0
  simp only [hostOps0, hostOps0_1, hostOps0_2, List.flatten_cons, List.flatten_nil, List.append_nil, List.cons_append, List.nil_append]
  after_reads_at
  try after_reads_simp
  try rfl
theorem downs_eq : V m c main_v4 = arg7 m c := by
  unfold V V0
  simp only [hostOps0, hostOps0_1, hostOps0_2, List.flatten_cons, List.flatten_nil, List.append_nil, List.cons_append, List.nil_append]
  after_reads_at
  try after_reads_simp
  try rfl

end Cert.Kernel2Ideal.Experts

end
-- ==== Proof.ExpertsBlocks.lean ====
/-
  The windows' blocks at coordinates: which rows a tile's block is, and which expert's matrices it is given.
-/
module

public import proofs.«01_k».proof.Proof.ExpertsReads
public import Idealize.ShloMosaic.Lib.Pipeline.ValueKit

@[expose] public section

set_option maxRecDepth 16384

noncomputable section

namespace Cert.Kernel2Ideal.Experts

open Cert.Kernel2Ideal.Gen
open Idealize.ShloMosaic Idealize.ShloMosaic.TcCoe

variable {F : FTy → Type} [FloatOps F] (m : (ℓ : Loc nD τ sig) → Buf (Elt F) ℓ) (hO : Ok m) (c : Dev nD)

theorem rows_index : ∀ t : Fin grid0.N, cc0_transform_0 (grid0.coords t) = ![(grid0.coords t 0).val, 0] := by decide +kernel
theorem out_index : ∀ t : Fin grid0.N, cc0_transform_7 (grid0.coords t) = ![(grid0.coords t 0).val, 0] := by decide +kernel

theorem win_0 (t : Fin (cfgM m hO).N) : (pcfg0.win (adm m hO) 0).index t = ![(grid0.coords t 0).val, 0] := rows_index t
theorem win_1 (t : Fin (cfgM m hO).N) : (pcfg0.win (adm m hO) 1).index t = ![3, firstOf (tbl m) (grid0.coords t), 0, 0] := index_1 (tbl m) _
theorem win_2 (t : Fin (cfgM m hO).N) : (pcfg0.win (adm m hO) 2).index t = ![3, firstOf (tbl m) (grid0.coords t), 0, 0] := index_2 (tbl m) _
theorem win_3 (t : Fin (cfgM m hO).N) : (pcfg0.win (adm m hO) 3).index t = ![3, firstOf (tbl m) (grid0.coords t), 0, 0] := index_3 (tbl m) _
theorem win_4 (t : Fin (cfgM m hO).N) : (pcfg0.win (adm m hO) 4).index t = ![3, secondOf (tbl m) (grid0.coords t), 0, 0] := index_4 (tbl m) _
theorem win_5 (t : Fin (cfgM m hO).N) : (pcfg0.win (adm m hO) 5).index t = ![3, secondOf (tbl m) (grid0.coords t), 0, 0] := index_5 (tbl m) _
theorem win_6 (t : Fin (cfgM m hO).N) : (pcfg0.win (adm m hO) 6).index t = ![3, secondOf (tbl m) (grid0.coords t), 0, 0] := index_6 (tbl m) _
theorem win_7 (t : Fin (cfgM m hO).N) : (pcfg0.win (adm m hO) 7).index t = ![(grid0.coords t 0).val, 0] := out_index t

/-- The rows' block. -/
theorem rows_block (t : Fin (cfgM m hO).N) (T : Fin 154) (ht : (grid0.coords t 0).val = T.val) (i : Fin 256) (k : Fin 1152) :
    iblk m hO c 0 t (ix2 i k) = V m c main_v1 (ix2 ⟨T.val * 256 + i.val, by omega⟩ k) := by
  blk_simp [iblk]
  congr 1
  blk_ext
  · exact congrArg (· * 256 + i.val) ((congrFun (win_0 m hO t) (0 : Fin 2)).trans ht)
  · exact (congrArg (· * 1152 + k.val) (congrFun (win_0 m hO t) (1 : Fin 2))).trans (by simp)

theorem first_gate (t : Fin (cfgM m hO).N) (e : Fin 16) (he : firstOf (tbl m) (grid0.coords t) = e.val) (k : Fin 1024) (f : Fin 512) :
    iblk m hO c 1 t (ix4 0 0 k f) = V m c main_v2 (ix4 3 e k f) := by
  blk_simp [iblk]
  congr 1
  blk_ext
  · exact congrFun (win_1 m hO t) (0 : Fin 4)
  · exact (congrFun (win_1 m hO t) (1 : Fin 4)).trans he
  · exact (congrArg (· * 1024 + k.val) (congrFun (win_1 m hO t) (2 : Fin 4))).trans (by simp)
  · exact (congrArg (· * 512 + f.val) (congrFun (win_1 m hO t) (3 : Fin 4))).trans (by simp)
theorem first_up (t : Fin (cfgM m hO).N) (e : Fin 16) (he : firstOf (tbl m) (grid0.coords t) = e.val) (k : Fin 1024) (f : Fin 512) :
    iblk m hO c 2 t (ix4 0 0 k f) = V m c main_v3 (ix4 3 e k f) := by
  blk_simp [iblk]
  congr 1
  blk_ext
  · exact congrFun (win_2 m hO t) (0 : Fin 4)
  · exact (congrFun (win_2 m hO t) (1 : Fin 4)).trans he
  · exact (congrArg (· * 1024 + k.val) (congrFun (win_2 m hO t) (2 : Fin 4))).trans (by simp)
  · exact (congrArg (· * 512 + f.val) (congrFun (win_2 m hO t) (3 : Fin 4))).trans (by simp)
theorem first_down (t : Fin (cfgM m hO).N) (e : Fin 16) (he : firstOf (tbl m) (grid0.coords t) = e.val) (k : Fin 512) (f : Fin 1024) :
    iblk m hO c 3 t (ix4 0 0 k f) = V m c main_v4 (ix4 3 e k f) := by
  blk_simp [iblk]
  congr 1
  blk_ext
  · exact congrFun (win_3 m hO t) (0 : Fin 4)
  · exact (congrFun (win_3 m hO t) (1 : Fin 4)).trans he
  · exact (congrArg (· * 512 + k.val) (congrFun (win_3 m hO t) (2 : Fin 4))).trans (by simp)
  · exact (congrArg (· * 1024 + f.val) (congrFun (win_3 m hO t) (3 : Fin 4))).trans (by simp)
theorem second_gate (t : Fin (cfgM m hO).N) (e : Fin 16) (he : secondOf (tbl m) (grid0.coords t) = e.val) (k : Fin 1024) (f : Fin 512) :
    iblk m hO c 4 t (ix4 0 0 k f) = V m c main_v2 (ix4 3 e k f) := by
  blk_simp [iblk]
  congr 1
  blk_ext
  · exact congrFun (win_4 m hO t) (0 : Fin 4)
  · exact (congrFun (win_4 m hO t) (1 : Fin 4)).trans he
  · exact (congrArg (· * 1024 + k.val) (congrFun (win_4 m hO t) (2 : Fin 4))).trans (by simp)
  · exact (congrArg (· * 512 + f.val) (congrFun (win_4 m hO t) (3 : Fin 4))).trans (by simp)
theorem second_up (t : Fin (cfgM m hO).N) (e : Fin 16) (he : secondOf (tbl m) (grid0.coords t) = e.val) (k : Fin 1024) (f : Fin 512) :
    iblk m hO c 5 t (ix4 0 0 k f) = V m c main_v3 (ix4 3 e k f) := by
  blk_simp [iblk]
  congr 1
  blk_ext
  · exact congrFun (win_5 m hO t) (0 : Fin 4)
  · exact (congrFun (win_5 m hO t) (1 : Fin 4)).trans he
  · exact (congrArg (· * 1024 + k.val) (congrFun (win_5 m hO t) (2 : Fin 4))).trans (by simp)
  · exact (congrArg (· * 512 + f.val) (congrFun (win_5 m hO t) (3 : Fin 4))).trans (by simp)
theorem second_down (t : Fin (cfgM m hO).N) (e : Fin 16) (he : secondOf (tbl m) (grid0.coords t) = e.val) (k : Fin 512) (f : Fin 1024) :
    iblk m hO c 6 t (ix4 0 0 k f) = V m c main_v4 (ix4 3 e k f) := by
  blk_simp [iblk]
  congr 1
  blk_ext
  · exact congrFun (win_6 m hO t) (0 : Fin 4)
  · exact (congrFun (win_6 m hO t) (1 : Fin 4)).trans he
  · exact (congrArg (· * 512 + k.val) (congrFun (win_6 m hO t) (2 : Fin 4))).trans (by simp)
  · exact (congrArg (· * 1024 + f.val) (congrFun (win_6 m hO t) (3 : Fin 4))).trans (by simp)

/-- A tile follows another at another place. -/
theorem out_moves : ∀ t : Fin grid0.N, Pipeline.Window.flushOf grid0 true cc0_transform_7 t = true := by decide +kernel

/-- Every tile is a point of the grid. -/
theorem point_of : ∀ T : Fin 154, ∃ t : Fin grid0.N, cc0_transform_7 (grid0.coords t) = ![T.val, 0] := by decide +kernel

/-- Every block of results is some tile's. -/
theorem out_onto (β : (a : Fin 2) → Fin ((S39424x1024.size a + S256x1024.size a - 1) / S256x1024.size a)) :
    ∃ t : Fin grid0.N, Pipeline.Window.flushOf grid0 true cc0_transform_7 t = true ∧ ∀ a, cc0_transform_7 (grid0.coords t) a = (β a).val := by
  have h0 : (β 0).val < 154 := (β 0).isLt
  have h1 : (β 1).val < 1 := (β 1).isLt
  obtain ⟨t, ht⟩ := point_of ⟨(β 0).val, h0⟩
  refine ⟨t, out_moves t, fun a => ?_⟩
  rw [ht]
  match a with
  | 0 => rfl
  | 1 => show 0 = (β 1).val; omega

/-- The blocks of results cover the array of results. -/
theorem out_covers : ((cfgM m hO).win 7).Covers :=
  ⟨(by decide : ∀ a : Fin 2, 0 < S256x1024.size a), fun β =>
    let ⟨t, hf, h⟩ := out_onto β
    ⟨t, hf, fun a => ⟨h a, .inl rfl⟩⟩⟩

set_option maxHeartbeats 1000000 in
/-- THE ARRAY of results from the blocks of results. -/
theorem out_array (P : Fin 39424 → Fin 1024 → Elt F .f32 → Prop)
    (hP : ∀ (t : Fin (cfgM m hO).N) (T : Fin 154) (i : Fin 256) (l : Fin 1024), (grid0.coords t 0).val = T.val →
      P ⟨T.val * 256 + i.val, by omega⟩ l (result m hO c t (ix2 i l))) (r : Fin 39424) (l : Fin 1024) :
    P r l ((dats m hO 0 c).arrAt 7 (cfgM m hO).N (ix2 r l)) := by
  refine Pipeline.Dat.arrAt_forall_of_covers (dats m hO 0 c) 7 (fun x v => ∀ (r : Fin 39424) (l : Fin 1024),
    x = ix2 r l → P r l v) (out_covers m hO) (fun t hf y r l e => ?_) _
    (Memref.isWhole_whole _) r l rfl
  have e0 := congrArg Fin.val (congrFun e (0 : Fin 2))
  have e1 := congrArg Fin.val (congrFun e (1 : Fin 2))
  blk_simp at e0 e1
  blk_simp
  rw [after_7]
  have b0 : (y (0 : Fin 2)).val < 256 := (y (0 : Fin 2)).isLt
  have b1 : (y (1 : Fin 2)).val < 1024 := (y (1 : Fin 2)).isLt
  have hr := r.isLt
  have e0' : (grid0.coords t 0).val * 256 + (y (0 : Fin 2)).val = r.val :=
    (congrArg (· * 256 + (y (0 : Fin 2)).val) (congrFun (win_7 m hO t) (0 : Fin 2))).symm.trans e0
  have e1' : 0 * 1024 + (y (1 : Fin 2)).val = l.val :=
    (congrArg (· * 1024 + (y (1 : Fin 2)).val) (congrFun (win_7 m hO t) (1 : Fin 2))).symm.trans e1
  have hy : y = ix2 ⟨r.val % 256, by omega⟩ l := by
    funext a
    refine Fin.ext ?_
    match a with
    | ⟨0, _⟩ => show (y (0 : Fin 2)).val = r.val % 256; omega
    | ⟨1, _⟩ => show (y (1 : Fin 2)).val = l.val; omega
  have := hP t ⟨r.val / 256, by omega⟩ ⟨r.val % 256, by omega⟩ l (by show _ = r.val / 256; omega)
  rw [hy]
  rwa [show (⟨r.val / 256 * 256 + r.val % 256, by omega⟩ : Fin 39424) = r from Fin.ext (by
    show r.val / 256 * 256 + r.val % 256 = r.val; omega)] at this

end Cert.Kernel2Ideal.Experts

end
-- ==== Proof.ExpertsValue.lean ====
/-
  What a tile's block of results is, read at an index at the ideal values: the two experts' feed-forward networks, weighted.
-/
module

public import proofs.«01_k».proof.Proof.ExpertsBlock
public import Idealize.ShloMosaic.Lib.Pointwise

@[expose] public section

noncomputable section

namespace Cert.Kernel2Ideal.Experts

open Idealize.ShloMosaic Cert.Kernel2Ideal.Gen

/-- A token's features times a gate or up matrix. -/
def proj (x : FVec Ideal S256x1024 .f32) (w : FVec Ideal S1x1x1024x512 .bf16) (i : Fin 256) (f : Fin 512) : EReal :=
  ∑ k : Fin 1024, (x (ix2 i k) : EReal) * w (ix4 0 0 k f)

theorem pay6_at (x : FVec Ideal S256x1024 .f32) (w : FVec Ideal S1x1x1024x512 .bf16) (i : Fin 256) (f : Fin 512) :
    k0_pay6 (F := Ideal) x w (ix2 i f) = proj x w i f := by
  pointwise [k0_pay6, k0_pay3, proj]

theorem pay7_at (x : FVec Ideal S256x1024 .f32) (w : FVec Ideal S1x1x1024x512 .bf16) (i : Fin 256) (f : Fin 512) :
    k0_pay7 (F := Ideal) x w (ix2 i f) = proj x w i f := by
  pointwise [k0_pay7, k0_pay3, proj]

theorem pay8_at (x : FVec Ideal S256x1024 .f32) (w : FVec Ideal S1x1x1024x512 .bf16) (i : Fin 256) (f : Fin 512) :
    k0_pay8 (F := Ideal) x w (ix2 i f) = Ideal.logistic (proj x w i f) := by
  unfold k0_pay8
  show Ideal.logistic (k0_pay6 (F := Ideal) x w (ix2 i f)) = _
  rw [pay6_at]

/-- One expert's network of a token's features, the token's weight on its inner numbers. -/
def net (x : FVec Ideal S256x1024 .f32) (w : EReal) (g u : FVec Ideal S1x1x1024x512 .bf16) (d : FVec Ideal S1x1x512x1024 .bf16)
    (i : Fin 256) (l : Fin 1024) : EReal :=
  ∑ f : Fin 512, proj x g i f * Ideal.logistic (proj x g i f) * proj x u i f * w * d (ix4 0 0 f l)

theorem pay4_at (x : FVec Ideal S256x1024 .f32) (w : FVec Ideal S256x1 .f32) (g u : FVec Ideal S1x1x1024x512 .bf16)
    (d : FVec Ideal S1x1x512x1024 .bf16) (i : Fin 256) (l : Fin 1024) :
    k0_pay4 (F := Ideal) x w g u d (ix2 i l) = net x (w (ix2 i 0)) g u d i l := by
  pointwise [k0_pay4, k0_pay3, net, proj]

theorem pay2_at (a : FVec Ideal S256x1024 .f32) (w : FVec Ideal S256x1 .f32) (g u s : FVec Ideal S256x512 .f32)
    (d : FVec Ideal S1x1x512x1024 .bf16) (i : Fin 256) (l : Fin 1024) :
    k0_pay2 (F := Ideal) a w g u s d (ix2 i l) = (a (ix2 i l) : EReal)
      + ∑ f : Fin 512, (g (ix2 i f) : EReal) * s (ix2 i f) * u (ix2 i f) * w (ix2 i 0) * d (ix4 0 0 f l) := by
  pointwise [k0_pay2]

theorem pay5_at (w : FVec Ideal S256x1 .f32) (i : Fin 256) : k0_pay5 (F := Ideal) w (ix2 i 0) = w (ix2 i 0) := by
  pointwise [k0_pay5]

theorem pay1_at (i : Fin 256) (l : Fin 1024) : k0_pay1 (F := Ideal) (ix2 i l) = (0 : EReal) := by
  pointwise [k0_pay1]

/-- The block of a tile that holds tokens. -/
theorem mixed_at (x : FVec Ideal S256x1152 .f32) (ga ua : FVec Ideal S1x1x1024x512 .bf16) (da : FVec Ideal S1x1x512x1024 .bf16)
    (gb ub : FVec Ideal S1x1x1024x512 .bf16) (db : FVec Ideal S1x1x512x1024 .bf16) (i : Fin 256) (l : Fin 1024) :
    mixed (F := Ideal) x ga ua da gb ub db (ix2 i l) = net (features (F := Ideal) x) (x (ix2 i ⟨1024, by omega⟩)) ga ua da i l
      + net (features (F := Ideal) x) (x (ix2 i ⟨1025, by omega⟩)) gb ub db i l := by
  unfold mixed
  rw [pay2_at, pay4_at]
  simp only [pay5_at, pay6_at, pay7_at, pay8_at]
  rfl

end Cert.Kernel2Ideal.Experts

end
-- ==== Proof.ExpertsRef.lean ====
/-
  The experts' reference at an index: the routing weights, one expert's feed-forward network, and the sum over the experts.
-/
module

public import proofs.«01_k».proof.Proof.Gen.Reference2Ideal.Run
public import Idealize.ShloMosaic.Lib.Pointwise

@[expose] public section

noncomputable section

namespace Cert.Reference2Ideal.Experts

open Idealize.ShloMosaic Cert.Reference2Ideal.Gen Cert.Reference2Ideal Idealize.SL.Sem Idealize.ShloMosaic.TcCoe

/-- Every token's two experts: those of its tile. -/
def chosen (a2 a3 : IVec S154 32) : IVec S39424x2 32 :=
  shapeCast _ (broadcastInDim S154x256x2 ![0, 1, 2] bcast_S154x1x2_S154x256x2_0_1_2 (broadcastInDim S154x1x2 ![0, 2] bcast_S154x2_S154x1x2_0_2
    (concatenate S154x2 1 [⟨S154x1, (broadcastInDim S154x1 ![0] bcast_S154_S154x1_0 a2)⟩, ⟨S154x1, (broadcastInDim S154x1 ![0] bcast_S154_S154x1_0 a3)⟩]
      concatenates_S154x1_S154x1_S154x2_d1))) shapeCasts_S154x256x2_S39424x2

/-- Which tokens lie in a tile that holds any. -/
def held (a4 : IVec S154 32) : IVec S39424x1 1 :=
  shapeCast _ (broadcastInDim S154x256 ![0, 1] bcast_S154x1_S154x256_0_1 (broadcastInDim S154x1 ![0] bcast_S154_S154x1_0
    (cmpi .ne a4 (broadcastInDim S154 ![] bcast_S_S154 (constantI S_ 32 0#32))))) shapeCasts_S154x256_S39424x1

/-- The weights, those of the other tokens put to zero. -/
def kept (a1 : FVec Ideal S39424x2 .f32) (a4 : IVec S154 32) : FVec Ideal S39424x2 .f32 :=
  select (broadcastInDim S39424x2 ![0, 1] bcast_S39424x1_S39424x2_0_1 (held a4)) a1
    (broadcastInDim S39424x2 ![] bcast_S_S39424x2 (constant S_ .f32 0x00000000#32))

/-- Every token's weight of every expert. -/
def combine (a1 : FVec Ideal S39424x2 .f32) (a2 a3 a4 : IVec S154 32) : FVec Ideal S39424x16 .f32 :=
  Host.reduceAdd (mulf (uitofp .f32 (cmpi .eq (broadcastInDim S39424x2x16 ![0, 1, 2] bcast_S39424x2x1_S39424x2x16_0_1_2
      (broadcastInDim S39424x2x1 ![0, 1] bcast_S39424x2_S39424x2x1_0_1 (chosen a2 a3)))
      (broadcastInDim S39424x2x16 ![0, 1, 2] bcast_S1x1x16_S39424x2x16_0_1_2 (iotaInDim S1x1x16 32 2))))
    (broadcastInDim S39424x2x16 ![0, 1, 2] bcast_S39424x2x1_S39424x2x16_0_1_2
      (broadcastInDim S39424x2x1 ![0, 1] bcast_S39424x2_S39424x2x1_0_1 (kept a1 a4))))
    (constant S_ .f32 0x00000000#32) reducesTo_S39424x2x16_S39424x16_d1 h_S_

/-- An expert's matrices lie in the arrays of them. -/
theorem slices_wide (e : ℕ) (he : e < 16) : S4x16x1024x512.Slices ![3, e, 0, 0] S1x1x1024x512 := by
  interval_cases e <;> decide
theorem slices_tall (e : ℕ) (he : e < 16) : S4x16x512x1024.Slices ![3, e, 0, 0] S1x1x512x1024 := by
  interval_cases e <;> decide
theorem slices_column (e : ℕ) (he : e < 16) : S39424x16.Slices ![0, e] S39424x1 := by
  interval_cases e <;> decide

/-- The tokens' features times one expert's gate or up matrix. -/
def hidden (a0 : FVec Ideal S39424x1024 .f32) (w : FVec Ideal S4x16x1024x512 .f32) (e : ℕ) (he : e < 16) : FVec Ideal S39424x512 .f32 :=
  Host.dotGeneral dot_S39424x1024_S1024x512_S39424x512_1_0_0_1_n_n none a0
    (shapeCast _ (extractStridedSlice S1x1x1024x512 ![3, e, 0, 0] w (slices_wide e he)) shapeCasts_S1x1x1024x512_S1024x512)

/-- The gate's nonlinearity. -/
def silu (g : FVec Ideal S39424x512 .f32) : FVec Ideal S39424x512 .f32 :=
  mulf g (Host.divf (broadcastInDim S39424x512 ![] bcast_S_S39424x512 (constant S_ .f32 0x3F800000#32))
    (addf (broadcastInDim S39424x512 ![] bcast_S_S39424x512 (constant S_ .f32 0x3F800000#32)) (Host.exp (Host.negf g))))

/-- One expert's share of every token's result. -/
def part (cmb : FVec Ideal S39424x16 .f32) (a0 : FVec Ideal S39424x1024 .f32) (a5 a6 : FVec Ideal S4x16x1024x512 .f32)
    (a7 : FVec Ideal S4x16x512x1024 .f32) (e : ℕ) (he : e < 16) : FVec Ideal S39424x1024 .f32 :=
  mulf (broadcastInDim S39424x1024 ![0, 1] bcast_S39424x1_S39424x1024_0_1 (extractStridedSlice S39424x1 ![0, e] cmb (slices_column e he)))
    (Host.dotGeneral dot_S39424x512_S512x1024_S39424x1024_1_0_0_1_n_n none (mulf (silu (hidden a0 a5 e he)) (hidden a0 a6 e he))
      (shapeCast _ (extractStridedSlice S1x1x512x1024 ![3, e, 0, 0] a7 (slices_tall e he)) shapeCasts_S1x1x512x1024_S512x1024))

/-- The first experts' shares together. -/
def upTo (cmb : FVec Ideal S39424x16 .f32) (a0 : FVec Ideal S39424x1024 .f32) (a5 a6 : FVec Ideal S4x16x1024x512 .f32)
    (a7 : FVec Ideal S4x16x512x1024 .f32) : (n : ℕ) → n ≤ 16 → FVec Ideal S39424x1024 .f32
  | 0, _ => broadcastInDim S39424x1024 ![] bcast_S_S39424x1024 (constant S_ .f32 0x00000000#32)
  | n + 1, h => addf (upTo cmb a0 a5 a6 a7 n (Nat.le_of_succ_le h)) (part cmb a0 a5 a6 a7 n h)

/-- The whole result. -/
def out (a0 : FVec Ideal S39424x1024 .f32) (a1 : FVec Ideal S39424x2 .f32) (a2 a3 a4 : IVec S154 32)
    (a5 a6 : FVec Ideal S4x16x1024x512 .f32) (a7 : FVec Ideal S4x16x512x1024 .f32) : FVec Ideal S39424x1024 .f32 :=
  upTo (combine a1 a2 a3 a4) a0 a5 a6 a7 16 (le_refl 16)

set_option maxHeartbeats 1000000 in
/-- The reference's run ends with that result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v257) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

/-- A token by its tile and its place in it. -/
def row (t : Fin 154) (i : Fin 256) : Fin 39424 := ⟨t.val * 256 + i.val, by omega⟩

theorem chosen_at (a2 a3 : IVec S154 32) (t : Fin 154) (i : Fin 256) (k : Fin 2) :
    chosen a2 a3 (ix2 ⟨t.val * 256 + i.val, by omega⟩ k) = if k.val < 1 then a2 (ix1 t) else a3 (ix1 t) := by
  pointwise [chosen]
  rfl

theorem held_at (a4 : IVec S154 32) (t : Fin 154) (i : Fin 256) (k : Fin 1) :
    held a4 (ix2 ⟨t.val * 256 + i.val, by omega⟩ k) = IntOp.cmpi .ne (a4 (ix1 t)) 0#32 := by
  pointwise [held]

theorem kept_at (a1 : FVec Ideal S39424x2 .f32) (a4 : IVec S154 32) (r : Fin 39424) (k : Fin 2) :
    kept a1 a4 (ix2 r k) = if held a4 (ix2 r 0) = 1#1 then a1 (ix2 r k) else (0 : EReal) := by
  pointwise [kept]
  rfl

theorem combine_at (a1 : FVec Ideal S39424x2 .f32) (a2 a3 a4 : IVec S154 32) (r : Fin 39424) (e : Fin 16) :
    combine a1 a2 a3 a4 (ix2 r e) = ∑ k : Fin 2,
      (((IntOp.cmpi .eq (chosen a2 a3 (ix2 r k)) (BitVec.ofNat 32 e.val)).toNat : ℝ) : EReal) * kept a1 a4 (ix2 r k) := by
  pointwise [combine]
  rfl

theorem hidden_at (a0 : FVec Ideal S39424x1024 .f32) (w : FVec Ideal S4x16x1024x512 .f32) (e : ℕ) (he : e < 16) (r : Fin 39424) (f : Fin 512) :
    hidden a0 w e he (ix2 r f) = ∑ k : Fin 1024, a0 (ix2 r k) * w (ix4 3 ⟨e, he⟩ k f) := by
  pointwise [hidden]

theorem silu_at (g : FVec Ideal S39424x512 .f32) (r : Fin 39424) (f : Fin 512) :
    silu g (ix2 r f) = (g (ix2 r f) : EReal) * Ideal.div (Ideal.ofBits .f32 0x3F800000#32) (Ideal.ofBits .f32 0x3F800000#32 + Ideal.exp (-(g (ix2 r f) : EReal))) := by
  pointwise [silu]

theorem part_at (cmb : FVec Ideal S39424x16 .f32) (a0 : FVec Ideal S39424x1024 .f32) (a5 a6 : FVec Ideal S4x16x1024x512 .f32)
    (a7 : FVec Ideal S4x16x512x1024 .f32) (e : ℕ) (he : e < 16) (r : Fin 39424) (d : Fin 1024) :
    part cmb a0 a5 a6 a7 e he (ix2 r d) = cmb (ix2 r ⟨e, he⟩)
      * ∑ f : Fin 512, silu (hidden a0 a5 e he) (ix2 r f) * hidden a0 a6 e he (ix2 r f) * a7 (ix4 3 ⟨e, he⟩ f d) := by
  pointwise [part]

theorem upTo_at (cmb : FVec Ideal S39424x16 .f32) (a0 : FVec Ideal S39424x1024 .f32) (a5 a6 : FVec Ideal S4x16x1024x512 .f32)
    (a7 : FVec Ideal S4x16x512x1024 .f32) (r : Fin 39424) (d : Fin 1024) (n : ℕ) (h : n ≤ 16) :
    upTo cmb a0 a5 a6 a7 n h (ix2 r d) = ∑ e : Fin n, (part cmb a0 a5 a6 a7 e.val (by omega) (ix2 r d) : EReal) := by
  induction n with
  | zero => simp only [upTo]; pointwise; simp
  | succ n ih =>
    rw [Fin.sum_univ_castSucc]
    refine Eq.trans ?_ (congrArg (· + _) (ih (by omega)))
    rfl

end Cert.Reference2Ideal.Experts

end
-- ==== Proof.ExpertsMath.lean ====
/-
  The mathematics of the experts' sum: a sum over all the experts with one-hot weights is the sum over the chosen two.
-/
module

public import Mathlib.Data.EReal.Operations
public import Mathlib.Algebra.BigOperators.Fin

@[expose] public section

namespace Cert.Routing

/-- A finite weight that is not negative goes into a sum. -/
theorem mul_sum {n : ℕ} (w : EReal) (h0 : 0 ≤ w) (h1 : w ≠ ⊤) (f : Fin n → EReal) : w * ∑ i, f i = ∑ i, w * f i := by
  induction n with
  | zero => simp
  | succ n ih => rw [Fin.sum_univ_castSucc, Fin.sum_univ_castSucc, EReal.left_distrib_of_nonneg_of_ne_top h0 h1, ih]

/-- A number's one-hot encoding against an array picks the array's entry. -/
theorem pick {n : ℕ} (a : Fin n) (w : EReal) (Y : Fin n → EReal) :
    ∑ e, (if a = e then (1 : EReal) else 0) * w * Y e = w * Y a := by
  rw [Finset.sum_eq_single a]
  · rw [if_pos rfl, one_mul]
  · intro b _ hb
    rw [if_neg (Ne.symm hb), zero_mul, zero_mul]
  · intro h
    exact absurd (Finset.mem_univ a) h

/-- Two one-hot encodings with weights that are not negative pick two entries (of one expert, perhaps). -/
theorem pick_two {n : ℕ} (a b : Fin n) (wa wb : EReal) (ha : 0 ≤ wa) (hb : 0 ≤ wb) (Y : Fin n → EReal) :
    ∑ e, ((if a = e then (1 : EReal) else 0) * wa + (if b = e then (1 : EReal) else 0) * wb) * Y e = wa * Y a + wb * Y b := by
  rw [← pick a wa Y, ← pick b wb Y, ← Finset.sum_add_distrib]
  refine Finset.sum_congr rfl fun e _ => ?_
  refine EReal.right_distrib_of_nonneg ?_ ?_
  · split
    · rw [one_mul]; exact ha
    · rw [zero_mul]
  · split
    · rw [one_mul]; exact hb
    · rw [zero_mul]

end Cert.Routing
-- ==== Proof.ExpertsAgree.lean ====
/-
  The experts' reference in closed form: every token's result is its two experts' networks, weighted.
-/
module

public import proofs.«01_k».proof.Proof.ExpertsRef
public import proofs.«01_k».proof.Proof.ExpertsMath

@[expose] public section

noncomputable section

namespace Cert.Routing

open Idealize.ShloMosaic Cert.Reference2Ideal.Gen Cert.Reference2Ideal

/-- A token's features times a gate or up matrix of an expert. -/
def lift (a0 : FVec Ideal S39424x1024 .f32) (w : FVec Ideal S4x16x1024x512 .f32) (e : Fin 16) (r : Fin 39424) (f : Fin 512) : EReal :=
  ∑ k : Fin 1024, (a0 (ix2 r k) : EReal) * w (ix4 3 e k f)

/-- One inner number of an expert's network. -/
def inner (a0 : FVec Ideal S39424x1024 .f32) (a5 a6 : FVec Ideal S4x16x1024x512 .f32) (e : Fin 16) (r : Fin 39424) (f : Fin 512) : EReal :=
  lift a0 a5 e r f * Ideal.logistic (lift a0 a5 e r f) * lift a0 a6 e r f

/-- An expert's network of a token. -/
def expert (a0 : FVec Ideal S39424x1024 .f32) (a5 a6 : FVec Ideal S4x16x1024x512 .f32) (a7 : FVec Ideal S4x16x512x1024 .f32)
    (e : Fin 16) (r : Fin 39424) (l : Fin 1024) : EReal :=
  ∑ f : Fin 512, inner a0 a5 a6 e r f * a7 (ix4 3 e f l)

/-- A word that names an expert, against the number of one. -/
theorem onehot (v : BitVec 32) (hv : v.toNat < 16) (e : Fin 16) :
    (((IntOp.cmpi .eq v (BitVec.ofNat 32 e.val)).toNat : ℝ) : EReal) = if (⟨v.toNat, hv⟩ : Fin 16) = e then (1 : EReal) else 0 := by
  have he := e.isLt
  have h : v = BitVec.ofNat 32 e.val ↔ (⟨v.toNat, hv⟩ : Fin 16) = e := by
    rw [Fin.ext_iff]
    constructor
    · intro h
      show v.toNat = e.val
      rw [h, BitVec.toNat_ofNat]
      omega
    · intro h
      refine BitVec.eq_of_toNat_eq ?_
      rw [BitVec.toNat_ofNat]
      have h' : v.toNat = e.val := h
      omega
  by_cases hh : v = BitVec.ofNat 32 e.val
  · rw [if_pos (h.mp hh), ← hh]
    simp [IntOp.cmpi]
  · rw [if_neg (fun c => hh (h.mpr c))]
    simp [IntOp.cmpi, hh]

open Cert.Reference2Ideal.Experts

variable (a0 : FVec Ideal S39424x1024 .f32) (a1 : FVec Ideal S39424x2 .f32) (a2 a3 a4 : IVec S154 32)
  (a5 a6 : FVec Ideal S4x16x1024x512 .f32) (a7 : FVec Ideal S4x16x512x1024 .f32)

/-- One expert's share of a token's result. -/
theorem share_at (e : Fin 16) (r : Fin 39424) (l : Fin 1024) :
    (part (combine a1 a2 a3 a4) a0 a5 a6 a7 e.val e.isLt (ix2 r l) : EReal) = combine a1 a2 a3 a4 (ix2 r e) * expert a0 a5 a6 a7 e r l := by
  rw [part_at]
  unfold expert inner lift
  congr 1
  refine Finset.sum_congr rfl fun f _ => ?_
  rw [silu_at, hidden_at, hidden_at, Ideal.ofBits_one_f32]
  rfl

/-- A token's weight for its expert number `k`. -/
def weight (T : Fin 154) (i : Fin 256) (k : Fin 2) : EReal :=
  if a4 (ix1 T) = 0#32 then 0 else a1 (ix2 ⟨T.val * 256 + i.val, by omega⟩ k)

theorem kept_weight (T : Fin 154) (i : Fin 256) (k : Fin 2) :
    (kept a1 a4 (ix2 ⟨T.val * 256 + i.val, by omega⟩ k) : EReal) = weight a1 a4 T i k := by
  rw [kept_at, held_at]
  unfold weight
  by_cases h : a4 (ix1 T) = 0#32
  · rw [if_pos h, h, if_neg (by decide)]
  · have hb : (a4 (ix1 T) == 0#32) = false := by simpa using h
    rw [if_neg h, if_pos (by simp [IntOp.cmpi, bne, hb])]

/-- THE REFERENCE: a token's result is its two experts' networks, weighted. -/
theorem reference_at (hA : ∀ j, (a2 j).toNat < 16) (hB : ∀ j, (a3 j).toNat < 16) (hw : ∀ j, (0 : EReal) ≤ a1 j ∧ (a1 j : EReal) ≠ ⊤)
    (T : Fin 154) (i : Fin 256) (l : Fin 1024) :
    (out a0 a1 a2 a3 a4 a5 a6 a7 (ix2 ⟨T.val * 256 + i.val, by omega⟩ l) : EReal)
      = weight a1 a4 T i 0 * expert a0 a5 a6 a7 ⟨(a2 (ix1 T)).toNat, hA _⟩ ⟨T.val * 256 + i.val, by omega⟩ l
        + weight a1 a4 T i 1 * expert a0 a5 a6 a7 ⟨(a3 (ix1 T)).toNat, hB _⟩ ⟨T.val * 256 + i.val, by omega⟩ l := by
  have hk : ∀ k, 0 ≤ weight a1 a4 T i k := fun k => by
    unfold weight
    split
    · exact le_refl _
    · exact (hw _).1
  unfold out
  rw [upTo_at]
  refine Eq.trans (Finset.sum_congr rfl fun e _ => ?_) (pick_two _ _ _ _ (hk 0) (hk 1)
    (fun e => expert a0 a5 a6 a7 e ⟨T.val * 256 + i.val, by omega⟩ l))
  rw [share_at, combine_at, Fin.sum_univ_two, kept_weight, kept_weight, chosen_at, chosen_at, if_pos (by decide), if_neg (by decide),
    onehot _ (hA _), onehot _ (hB _)]

end Cert.Routing

end
-- ==== Proof.ExpertsResult.lean ====
/-
  The experts' run with its result read: the array of results, equal to the reference's result.
-/
module

public import proofs.«01_k».proof.Proof.ExpertsBlocks
public import proofs.«01_k».proof.Proof.ExpertsValue
public import proofs.«01_k».proof.Proof.ExpertsAgree

@[expose] public section

noncomputable section

namespace Cert.Kernel2Ideal.Experts

open Cert.Kernel2Ideal.Gen Cert.Routing
open Idealize.ShloMosaic Idealize.ShloMosaic.TcCoe Idealize.SL.Sem

variable (m : (ℓ : Loc nD τ sig) → Buf (Elt Ideal) ℓ) (hO : Ok m) (c : Dev nD)

/-- The word of a tile is its entry of the third table. -/
theorem word_eq (t : Fin grid0.N) (T : Fin 154) (ht : (grid0.coords t 0).val = T.val) :
    word c (tbl m 2) (grid0.coords t) = arg4 m c (ix1 T) := by
  obtain rfl : c = 0 := Subsingleton.elim _ _
  have hs : spot (grid0.coords t) = ix1 T := congrArg ix1 (Fin.ext ht)
  have h := congrFun (V_main_arg4 m 0) (ix1 T)
  unfold word
  rw [hs]
  exact h

/-- A tile's expert in range, as the tables name it. -/
theorem first_expert (hA : ∀ j, (arg2 m c j).toNat < 16) (t : Fin grid0.N) (T : Fin 154) (ht : (grid0.coords t 0).val = T.val) :
    firstOf (tbl m) (grid0.coords t) = (⟨(arg2 m c (ix1 T)).toNat, hA _⟩ : Fin 16).val := by
  obtain rfl : c = 0 := Subsingleton.elim _ _
  have hs : spot (grid0.coords t) = ix1 T := congrArg ix1 (Fin.ext ht)
  rw [firstOf_tbl, hs]
theorem second_expert (hB : ∀ j, (arg3 m c j).toNat < 16) (t : Fin grid0.N) (T : Fin 154) (ht : (grid0.coords t 0).val = T.val) :
    secondOf (tbl m) (grid0.coords t) = (⟨(arg3 m c (ix1 T)).toNat, hB _⟩ : Fin 16).val := by
  obtain rfl : c = 0 := Subsingleton.elim _ _
  have hs : spot (grid0.coords t) = ix1 T := congrArg ix1 (Fin.ext ht)
  rw [secondOf_tbl, hs]

/-- The blocks a tile is given, at their shapes: its rows, -/
def rowsOf (t : Fin (cfgM m hO).N) : FVec Ideal S256x1152 .f32 := iblk m hO c 0 t
def gateA (t : Fin (cfgM m hO).N) : FVec Ideal S1x1x1024x512 .bf16 := iblk m hO c 1 t
def upA (t : Fin (cfgM m hO).N) : FVec Ideal S1x1x1024x512 .bf16 := iblk m hO c 2 t
def downA (t : Fin (cfgM m hO).N) : FVec Ideal S1x1x512x1024 .bf16 := iblk m hO c 3 t
def gateB (t : Fin (cfgM m hO).N) : FVec Ideal S1x1x1024x512 .bf16 := iblk m hO c 4 t
def upB (t : Fin (cfgM m hO).N) : FVec Ideal S1x1x1024x512 .bf16 := iblk m hO c 5 t
def downB (t : Fin (cfgM m hO).N) : FVec Ideal S1x1x512x1024 .bf16 := iblk m hO c 6 t

/-- The block of results is the tile of them. -/
theorem result_tile (t : Fin (cfgM m hO).N) : result m hO c t = tile (word c (tbl m 2) (grid0.coords t)) (rowsOf m hO c t)
    (gateA m hO c t) (upA m hO c t) (downA m hO c t) (gateB m hO c t) (upB m hO c t) (downB m hO c t) := rfl

theorem rowsOf_at (t : Fin (cfgM m hO).N) (T : Fin 154) (ht : (grid0.coords t 0).val = T.val) (i : Fin 256) (k : Fin 1152) :
    (rowsOf m hO c t (ix2 i k) : EReal) = V m c main_v1 (ix2 ⟨T.val * 256 + i.val, by omega⟩ k) := rows_block m hO c t T ht i k
theorem gateA_at (t : Fin (cfgM m hO).N) (e : Fin 16) (he : firstOf (tbl m) (grid0.coords t) = e.val) (k : Fin 1024) (f : Fin 512) :
    (gateA m hO c t (ix4 0 0 k f) : EReal) = arg5 m c (ix4 3 e k f) := ((first_gate m hO c t e he k f).trans (congrFun (gates_eq m c) _))
theorem upA_at (t : Fin (cfgM m hO).N) (e : Fin 16) (he : firstOf (tbl m) (grid0.coords t) = e.val) (k : Fin 1024) (f : Fin 512) :
    (upA m hO c t (ix4 0 0 k f) : EReal) = arg6 m c (ix4 3 e k f) := ((first_up m hO c t e he k f).trans (congrFun (ups_eq m c) _))
theorem downA_at (t : Fin (cfgM m hO).N) (e : Fin 16) (he : firstOf (tbl m) (grid0.coords t) = e.val) (k : Fin 512) (f : Fin 1024) :
    (downA m hO c t (ix4 0 0 k f) : EReal) = arg7 m c (ix4 3 e k f) := ((first_down m hO c t e he k f).trans (congrFun (downs_eq m c) _))
theorem gateB_at (t : Fin (cfgM m hO).N) (e : Fin 16) (he : secondOf (tbl m) (grid0.coords t) = e.val) (k : Fin 1024) (f : Fin 512) :
    (gateB m hO c t (ix4 0 0 k f) : EReal) = arg5 m c (ix4 3 e k f) := ((second_gate m hO c t e he k f).trans (congrFun (gates_eq m c) _))
theorem upB_at (t : Fin (cfgM m hO).N) (e : Fin 16) (he : secondOf (tbl m) (grid0.coords t) = e.val) (k : Fin 1024) (f : Fin 512) :
    (upB m hO c t (ix4 0 0 k f) : EReal) = arg6 m c (ix4 3 e k f) := ((second_up m hO c t e he k f).trans (congrFun (ups_eq m c) _))
theorem downB_at (t : Fin (cfgM m hO).N) (e : Fin 16) (he : secondOf (tbl m) (grid0.coords t) = e.val) (k : Fin 512) (f : Fin 1024) :
    (downB m hO c t (ix4 0 0 k f) : EReal) = arg7 m c (ix4 3 e k f) := ((second_down m hO c t e he k f).trans (congrFun (downs_eq m c) _))

/-- A network over one tile's blocks is the expert's network, weighted. -/
theorem net_expert (a0 : FVec Ideal S39424x1024 .f32) (a5 a6 : FVec Ideal S4x16x1024x512 .f32) (a7 : FVec Ideal S4x16x512x1024 .f32)
    (x : FVec Ideal S256x1024 .f32) (w : EReal) (g u : FVec Ideal S1x1x1024x512 .bf16) (d : FVec Ideal S1x1x512x1024 .bf16)
    (e : Fin 16) (r : Fin 39424) (i : Fin 256) (l : Fin 1024) (hx : ∀ k, (x (ix2 i k) : EReal) = a0 (ix2 r k))
    (hg : ∀ k f, (g (ix4 0 0 k f) : EReal) = a5 (ix4 3 e k f)) (hu : ∀ k f, (u (ix4 0 0 k f) : EReal) = a6 (ix4 3 e k f))
    (hd : ∀ f l, (d (ix4 0 0 f l) : EReal) = a7 (ix4 3 e f l)) (h0 : 0 ≤ w) (h1 : w ≠ ⊤) :
    net x w g u d i l = w * expert a0 a5 a6 a7 e r l := by
  have pg : ∀ f, proj x g i f = lift a0 a5 e r f := fun f => Finset.sum_congr rfl fun k _ => by rw [hx, hg]
  have pu : ∀ f, proj x u i f = lift a0 a6 e r f := fun f => Finset.sum_congr rfl fun k _ => by rw [hx, hu]
  unfold net expert Routing.inner
  rw [mul_sum w h0 h1]
  refine Finset.sum_congr rfl fun f _ => ?_
  rw [pg, pu, hd, mul_comm _ w, mul_assoc w]

/-- A tile's block of results. -/
theorem tile_at (hA : ∀ j, (arg2 m c j).toNat < 16) (hB : ∀ j, (arg3 m c j).toNat < 16)
    (hw : ∀ j, (0 : EReal) ≤ arg1 m c j ∧ (arg1 m c j : EReal) ≠ ⊤) (t : Fin (cfgM m hO).N) (T : Fin 154) (i : Fin 256) (l : Fin 1024)
    (ht : (grid0.coords t 0).val = T.val) :
    (result m hO c t (ix2 i l) : EReal)
      = weight (arg1 m c) (arg4 m c) T i 0 * expert (arg0 m c) (arg5 m c) (arg6 m c) (arg7 m c) ⟨(arg2 m c (ix1 T)).toNat, hA _⟩ ⟨T.val * 256 + i.val, by omega⟩ l
        + weight (arg1 m c) (arg4 m c) T i 1 * expert (arg0 m c) (arg5 m c) (arg6 m c) (arg7 m c) ⟨(arg3 m c (ix1 T)).toNat, hB _⟩ ⟨T.val * 256 + i.val, by omega⟩ l := by
  rw [result_tile]
  unfold tile weight
  rw [word_eq m c t T ht]
  by_cases h : arg4 m c (ix1 T) = 0#32
  · rw [if_pos h, if_pos h, if_pos h, zero_mul, zero_mul, add_zero]
    exact pay1_at i l
  · rw [if_neg h, if_neg h, if_neg h]
    refine (mixed_at _ _ _ _ _ _ _ i l).trans ?_
    have hx : ∀ k, (features (F := Ideal) (rowsOf m hO c t) (ix2 i k) : EReal) = arg0 m c (ix2 ⟨T.val * 256 + i.val, by omega⟩ k) :=
      fun k => (rowsOf_at m hO c t T ht i ⟨k.val, by omega⟩).trans (row_feature m c _ k)
    have h0 := (rowsOf_at m hO c t T ht i ⟨1024, by omega⟩).trans (row_first m c _)
    have h1 := (rowsOf_at m hO c t T ht i ⟨1025, by omega⟩).trans (row_second m c _)
    have eA := first_expert m c hA t T ht
    have eB := second_expert m c hB t T ht
    refine congrArg₂ (· + ·) ?_ ?_
    · have h := net_expert (arg0 m c) (arg5 m c) (arg6 m c) (arg7 m c) (features (F := Ideal) (rowsOf m hO c t))
        (arg1 m c (ix2 ⟨T.val * 256 + i.val, by omega⟩ 0)) (gateA m hO c t) (upA m hO c t) (downA m hO c t)
        ⟨(arg2 m c (ix1 T)).toNat, hA _⟩ ⟨T.val * 256 + i.val, by omega⟩ i l hx (gateA_at m hO c t _ eA) (upA_at m hO c t _ eA)
        (downA_at m hO c t _ eA) (hw _).1 (hw _).2
      refine Eq.trans ?_ h
      exact congrArg (fun w : EReal => net (features (F := Ideal) (rowsOf m hO c t)) w (gateA m hO c t) (upA m hO c t) (downA m hO c t) i l) h0
    · have h := net_expert (arg0 m c) (arg5 m c) (arg6 m c) (arg7 m c) (features (F := Ideal) (rowsOf m hO c t))
        (arg1 m c (ix2 ⟨T.val * 256 + i.val, by omega⟩ 1)) (gateB m hO c t) (upB m hO c t) (downB m hO c t)
        ⟨(arg3 m c (ix1 T)).toNat, hB _⟩ ⟨T.val * 256 + i.val, by omega⟩ i l hx (gateB_at m hO c t _ eB) (upB_at m hO c t _ eB)
        (downB_at m hO c t _ eB) (hw _).1 (hw _).2
      refine Eq.trans ?_ h
      exact congrArg (fun w : EReal => net (features (F := Ideal) (rowsOf m hO c t)) w (gateB m hO c t) (upB m hO c t) (downB m hO c t) i l) h1

/-- The reference's result of the kernel's arguments. -/
abbrev want : FVec Ideal S39424x1024 .f32 :=
  Cert.Reference2Ideal.Experts.out (arg0 m c) (arg1 m c) (arg2 m c) (arg3 m c) (arg4 m c) (arg5 m c) (arg6 m c) (arg7 m c)

/-- THE RESULT: what the kernel leaves is the reference's result of its arguments. -/
theorem result_eq (hA : ∀ j, (arg2 m c j).toNat < 16) (hB : ∀ j, (arg3 m c j).toNat < 16)
    (hw : ∀ j, (0 : EReal) ≤ arg1 m c j ∧ (arg1 m c j : EReal) ≠ ⊤) :
    (dats m hO 0 c).arrAt 7 (cfgM m hO).N = want m c := by
  refine funext fun (x : S39424x1024.Idx) => ?_
  have hx : x = ix2 (⟨(x 0).val, (x 0).isLt⟩ : Fin 39424) (⟨(x 1).val, (x 1).isLt⟩ : Fin 1024) := by
    funext a
    match a with
    | ⟨0, _⟩ => rfl
    | ⟨1, _⟩ => rfl
  rw [hx]
  refine out_array m hO c (fun r l v => v = want m c (ix2 r l)) (fun t T i l ht => ?_) _ _
  exact (tile_at m hO c hA hB hw t T i l ht).trans (reference_at _ _ _ _ _ _ _ _ hA hB hw T i l).symm

/-- The kernel's run, its result read and its arguments unchanged. -/
theorem value_run (ρ : Dev nD → PrngReg) (hA : ∀ c j, (arg2 m c j).toNat < 16) (hB : ∀ c j, (arg3 m c j).toNat < 16)
    (hw : ∀ c j, (0 : EReal) ≤ arg1 m c j ∧ (arg1 m c j : EReal) ≠ ⊤) :
    θ_run defs (onTc (τ := τ) (main (F := Ideal))) ⟨m, fun _ => 0, ρ⟩ (fun r => ∀ c : Dev nD,
      r.2.mem ((c.tc : Thread nD τ).loc main_v5) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have hO : Ok m := ok_of_args m (hA 0) (hB 0)
  (θ_run defs _ _).mono (fun r h c => ⟨((h.1.1 c).1 7).trans (result_eq m hO c (hA c) (hB c) (hw c)), h.2.1 c⟩)
    (θ_run_and (run m ρ hO) (frame_run m ρ hO))

end Cert.Kernel2Ideal.Experts

end
-- ==== Proof.Final.lean ====
/-
  The last residual sum: the kernel's run with its result read. A row of the result is the stream's row plus the gate,
  lane by lane, times the experts' row.
-/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.StableHlo.ReadAt
public import Idealize.ShloMosaic.Lib.IdealHost
public import Idealize.ShloMosaic.Lib.KernelVsHost

@[expose] public section

noncomputable section

namespace Cert.Reference3Ideal.Final

open Idealize.ShloMosaic Idealize.ShloMosaic.TcCoe Cert.Reference3Ideal.Gen

/-- The reference's result. -/
def out (a0 : FVec Ideal S2x16384x1024 .f32) (a1 : FVec Ideal S32768x1024 .f32) (a2 : FVec Ideal S2x1x6144 .f32) :
    FVec Ideal S2x16384x1024 .f32 :=
  addf a0 (mulf (broadcastInDim S2x16384x1024 ![0, 1, 2] bcast_S2x1x1024_S2x16384x1024_0_1_2
    (extractStridedSlice S2x1x1024 ![0, 0, 5120] a2 slices_S2x1x6144_S2x1x1024_0_0_5120))
    (shapeCast _ a1 shapeCasts_S32768x1024_S2x16384x1024))

theorem out_at (a0 : FVec Ideal S2x16384x1024 .f32) (a1 : FVec Ideal S32768x1024 .f32) (a2 : FVec Ideal S2x1x6144 .f32)
    (b : Fin 2) (n : Fin 16384) (d : Fin 1024) :
    out a0 a1 a2 (ix3 b n d) = (a0 (ix3 b n d) : EReal)
      + a2 (ix3 b 0 ⟨5120 + d.val, by omega⟩) * a1 (ix2 ⟨b.val * 16384 + n.val, by omega⟩ d) := by
  pointwise [out]

end Cert.Reference3Ideal.Final

namespace Cert.Kernel3Ideal.Final

open Idealize.ShloMosaic Idealize.ShloMosaic.TcCoe Cert.Kernel3Ideal.Gen Idealize.SL.Sem

variable (m : (ℓ : Loc nD τ sig) → Buf (Elt Ideal) ℓ) (c : Dev nD)

/-- The three arguments. -/
def arg0 : FVec Ideal S2x16384x1024 .f32 := m ((c.tc : Thread nD τ).loc main_arg0)
def arg1 : FVec Ideal S32768x1024 .f32 := m ((c.tc : Thread nD τ).loc main_arg1)
def arg2 : FVec Ideal S2x1x6144 .f32 := m ((c.tc : Thread nD τ).loc main_arg2)

/-- The stream's rows as the pipeline reads them. -/
theorem stream_at (b : Fin 2) (n : Fin 16384) (d : Fin 1024) :
    V m c main_v3 (ix2 ⟨b.val * 16640 + n.val, by omega⟩ d) = arg0 m c (ix3 b n d) := by
  unfold V
  simp only [hostOps0, hostOps0_1, hostOps0_2, hostOps0_3, hostOps0_4, hostOps0_5, hostOps0_6, List.flatten_cons,
    List.flatten_nil, List.append_nil, List.cons_append, List.nil_append]
  after_reads_at
  try after_reads_simp
  rw [dif_pos (by omega)]
  exact congrArg (m ((c.tc : Thread nD τ).loc main_arg0)) (congrArg (fun k => ix3 b k d) (Fin.ext (by
    show (b.val * 16640 + n.val) % 16640 = n.val; omega)))

/-- The experts' rows. -/
theorem experts_at (b : Fin 2) (n : Fin 16384) (d : Fin 1024) :
    V m c main_v6 (ix2 ⟨b.val * 16640 + n.val, by omega⟩ d) = arg1 m c (ix2 ⟨b.val * 16384 + n.val, by omega⟩ d) := by
  unfold V
  simp only [hostOps0, hostOps0_1, hostOps0_2, hostOps0_3, hostOps0_4, hostOps0_5, hostOps0_6, List.flatten_cons,
    List.flatten_nil, List.append_nil, List.cons_append, List.nil_append]
  after_reads_simp
  refine (shapeCast_apply _ _ _ (ix3 b (⟨n.val, by omega⟩ : Fin 16640) d) (by
    refine (Shape.rowMajor_val_three _).trans (Eq.trans ?_ (Shape.rowMajor_val_two (d := ![33280, 1024])
      (ix2 (⟨b.val * 16640 + n.val, by omega⟩ : Fin 33280) d)).symm)
    rfl)).trans ?_
  show pad S2x16640x1024 ![0, 0, 0] ![0, 256, 0] ![0, 0, 0]
    (shapeCast S2x16384x1024 (arg1 m c) shapeCasts_S32768x1024_S2x16384x1024) (sitofp .f32 (constantI S_ 32 0#32))
    pads_S2x16384x1024_S2x16640x1024_000_02560_000 h_S_ (ix3 b (⟨n.val, by omega⟩ : Fin 16640) d) = _
  refine (pad_apply_of_inside _ _ _ _ _ _ _ _ (ix3 b n d) (fun a => ?_)).trans ?_
  · match a with
    | ⟨0, _⟩ => show b.val = 0 + b.val * (0 + 1); omega
    | ⟨1, _⟩ => show n.val = 0 + n.val * (0 + 1); omega
    | ⟨2, _⟩ => show d.val = 0 + d.val * (0 + 1); omega
  refine (shapeCast_apply _ _ _ (ix2 (⟨b.val * 16384 + n.val, by omega⟩ : Fin 32768) d) (by
    rw [Shape.rowMajor_val_two, Shape.rowMajor_val_three]
    rfl)).trans rfl

/-- The gate: the sixth modulation vector. -/
theorem gate_at (b : Fin 2) (d : Fin 1024) :
    V m c main_v1 (ix3 b 5 d) = arg2 m c (ix3 b 0 ⟨5120 + d.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_at
  try after_reads_simp
  try rfl

theorem index_0 : ∀ t : Fin cfg0.N, win0_0.index t = ![(grid0.coords t 0).val * 65 + (grid0.coords t 1).val, 0] :=
  (by decide +kernel : ∀ t : Fin grid0.N, _)
theorem index_1 : ∀ t : Fin cfg0.N, win0_1.index t = ![(grid0.coords t 0).val * 65 + (grid0.coords t 1).val, 0] :=
  (by decide +kernel : ∀ t : Fin grid0.N, _)
theorem index_2 : ∀ t : Fin cfg0.N, win0_2.index t = ![(grid0.coords t 0).val, 0, 0] :=
  (by decide +kernel : ∀ t : Fin grid0.N, _)
theorem index_3 : ∀ t : Fin cfg0.N, win0_3.index t = ![(grid0.coords t 0).val, (grid0.coords t 1).val, 0] :=
  (by decide +kernel : ∀ t : Fin grid0.N, _)

theorem covers_3 : (cfg0.win 3).Covers := by decide +kernel

/-- A block of results, from the blocks read. -/
theorem block_at (x y : Vec Ideal S256x1024 .f32) (g : Vec Ideal S1x8x1024 .f32) (i : Fin 256) (d : Fin 1024) :
    out0_3 x y g (ix3 0 i d) = (x (ix2 i d) : EReal) + g (ix3 0 5 d) * y (ix2 i d) := by
  unfold out0_3 k0_pay1
  rw [View.canon_unit_zero (by decide)]
  pointwise

/-- The stream's block. -/
theorem stream_block (t : Fin cfg0.N) (b : Fin 2) (j : Fin 64) (hb : (grid0.coords t 0).val = b.val)
    (hj : (grid0.coords t 1).val = j.val) (i : Fin 256) (d : Fin 1024) :
    iblk m c 0 t (ix2 i d) = V m c main_v3 (ix2 ⟨b.val * 16640 + (j.val * 256 + i.val), by omega⟩ d) := by
  blk_simp [iblk]
  congr 1
  blk_ext [index_0, hb, hj]

theorem experts_block (t : Fin cfg0.N) (b : Fin 2) (j : Fin 64) (hb : (grid0.coords t 0).val = b.val)
    (hj : (grid0.coords t 1).val = j.val) (i : Fin 256) (d : Fin 1024) :
    iblk m c 1 t (ix2 i d) = V m c main_v6 (ix2 ⟨b.val * 16640 + (j.val * 256 + i.val), by omega⟩ d) := by
  blk_simp [iblk]
  congr 1
  blk_ext [index_1, hb, hj]

theorem gate_block (t : Fin cfg0.N) (b : Fin 2) (hb : (grid0.coords t 0).val = b.val) (d : Fin 1024) :
    iblk m c 2 t (ix3 0 5 d) = V m c main_v1 (ix3 b 5 d) := by
  blk_simp [iblk]
  congr 1
  blk_ext [index_2, hb]

/-- THE RESULT, at an index. -/
theorem result_at (b : Fin 2) (n : Fin 16384) (d : Fin 1024) :
    (dats m 0 c).arrAt 3 cfg0.N (ix3 b n d) = Cert.Reference3Ideal.Final.out (arg0 m c) (arg1 m c) (arg2 m c) (ix3 b n d) := by
  refine Pipeline.Dat.arrAt_forall_of_covers (dats m 0 c) 3 (fun x v => ∀ (b : Fin 2) (n : Fin 16384) (d : Fin 1024),
    x = ix3 b n d → v = Cert.Reference3Ideal.Final.out (arg0 m c) (arg1 m c) (arg2 m c) (ix3 b n d)) covers_3
    (fun t hf y b n d e => ?_) _ (Memref.isWhole_whole _) b n d rfl
  have e0 := congrArg Fin.val (congrFun e 0)
  have e1 := congrArg Fin.val (congrFun e 1)
  have e2 := congrArg Fin.val (congrFun e 2)
  blk_simp [index_3] at e0 e1 e2
  blk_simp
  rw [after0_3]
  have b1 : (y 1).val < 256 := (y 1).isLt
  have hn := n.isLt
  have hy : y = ix3 0 ⟨n.val % 256, by omega⟩ d := by
    funext a
    refine Fin.ext ?_
    match a with
    | ⟨0, _⟩ =>
      have b0 : (y 0).val < 1 := (y 0).isLt
      show (y 0).val = 0
      omega
    | ⟨1, _⟩ =>
      show (y 1).val = n.val % 256
      omega
    | ⟨2, _⟩ =>
      show (y 2).val = d.val
      omega
  rw [hy, Cert.Reference3Ideal.Final.out_at]
  have hj : (grid0.coords t 1).val = (⟨n.val / 256, by omega⟩ : Fin 64).val := by show _ = n.val / 256; omega
  have hr : (⟨n.val / 256 * 256 + n.val % 256, by omega⟩ : Fin 16384) = n := Fin.ext (by
    show n.val / 256 * 256 + n.val % 256 = n.val; omega)
  refine (block_at _ _ _ _ _).trans ?_
  rw [stream_block m c t b ⟨n.val / 256, by omega⟩ e0 hj, experts_block m c t b ⟨n.val / 256, by omega⟩ e0 hj,
    gate_block m c t b e0, gate_at]
  have h0 := stream_at m c b ⟨n.val / 256 * 256 + n.val % 256, by omega⟩ d
  have h1 := experts_at m c b ⟨n.val / 256 * 256 + n.val % 256, by omega⟩ d
  rw [hr] at h0 h1
  refine congrArg₂ _ (Eq.trans ?_ h0) (congrArg₂ _ rfl (Eq.trans ?_ h1))
  · congr 2; exact Fin.ext (by show b.val * 16640 + (n.val / 256 * 256 + n.val % 256) = b.val * 16640 + n.val; omega)
  · congr 2; exact Fin.ext (by show b.val * 16640 + (n.val / 256 * 256 + n.val % 256) = b.val * 16640 + n.val; omega)

theorem index_eta (x : S2x16384x1024.Idx) : ∃ (b : Fin 2) (n : Fin 16384) (d : Fin 1024), x = ix3 b n d :=
  ⟨x 0, x 1, x 2, by
    funext a
    match a with
    | ⟨0, _⟩ => rfl
    | ⟨1, _⟩ => rfl
    | ⟨2, _⟩ => rfl⟩

theorem result_eq : (dats m 0 c).arrAt 3 cfg0.N = Cert.Reference3Ideal.Final.out (arg0 m c) (arg1 m c) (arg2 m c) := by
  refine funext fun (x : S2x16384x1024.Idx) => ?_
  obtain ⟨b, n, d, rfl⟩ := index_eta x
  exact result_at m c b n d

/-- The kernel's run, its result read and its arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v7) = Cert.Reference3Ideal.Final.out (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (result_eq m c), h.2 c⟩)
    (θ_run_and (run_main m ρ) (unchanged m ρ))

end Cert.Kernel3Ideal.Final

end
-- ==== Proof.WindowGroup.lean ====
/-
  One group of heads of a block of the windowed attention: three query heads stacked, their scores against three blocks
  of keys and the context's keys, the softmax with the sink, and the weighted sums; and what each piece is at an index.
-/
module

public import proofs.«01_k».proof.Proof.Gen.Kernel4Ideal.Skeleton
public import Idealize.ShloMosaic.Lib.Pointwise
public import Idealize.ShloMosaic.Lib.IdealHost

@[expose] public section

noncomputable section

namespace Cert.Kernel4Ideal.Window

open Idealize.ShloMosaic Idealize.ShloMosaic.TcCoe Cert.Kernel4Ideal.Gen Idealize.SL.Sem

/-- Three blocks, one below the other. -/
def cat (x0 x1 x2 : Vec Ideal S128x128 .bf16) : FVec Ideal S384x128 .bf16 :=
  concatenate S384x128 0 [⟨S128x128, shapeCast S128x128 x0 shapeCasts_S128x128_S128x128⟩,
    ⟨S128x128, shapeCast S128x128 x1 shapeCasts_S128x128_S128x128⟩,
    ⟨S128x128, shapeCast S128x128 x2 shapeCasts_S128x128_S128x128⟩] concatenates_S128x128_S128x128_S128x128_S384x128_d0

/-- The band's scores, masked. -/
def near (mask : IVec S384x384 1) (q k : FVec Ideal S384x128 .bf16) : FVec Ideal S384x384 .f32 :=
  select mask (matmul dot_S384x128_S384x128_S384x384_1_1_0_0_n_n none q k (constant S384x384 .f32 0x00000000#32))
    (broadcast S384x384 (Scalar.ofBits (F := Ideal) .f32 0xFF800000#32))

/-- The context's scores. -/
def far (q : FVec Ideal S384x128 .bf16) (kx : FVec Ideal S256x128 .bf16) : FVec Ideal S384x256 .f32 :=
  matmul dot_S384x128_S256x128_S384x256_1_1_0_0_n_n none q (shapeCast S256x128 kx shapeCasts_S256x128_S256x128)
    (constant S384x256 .f32 0x00000000#32)

def rows : IVec S384x1 32 := iota .tc S384x1 32 [0] iota_S384x1_d0_w32

/-- Which of the three heads a row is of. -/
def third : IVec S384x1 32 :=
  select (andi (cmpi .ne (subi (extui 32 (cmpi .sgt rows (broadcast S384x1 0#32)) natLt_1_32)
        (extui 32 (cmpi .slt rows (broadcast S384x1 0#32)) natLt_1_32))
      (broadcast S384x1 (Scalar.subi (Scalar.extui (Scalar.cmpi .sgt 128#32 0#32)) (Scalar.extui (Scalar.cmpi .slt 128#32 0#32)))))
      (cmpi .ne (remsi rows (broadcast S384x1 128#32)) (broadcast S384x1 0#32)))
    (subi (divsi rows (broadcast S384x1 128#32)) (broadcast S384x1 1#32)) (divsi rows (broadcast S384x1 128#32))

/-- The rows' sinks. -/
def column (s0 s1 s2 : Elt Ideal .f32) : FVec Ideal S384x1 .f32 :=
  select (cmpi .eq third (broadcast S384x1 2#32)) (broadcast S384x1 s2)
    (select (cmpi .eq third (broadcast S384x1 1#32)) (broadcast S384x1 s1)
      (select (cmpi .eq third (broadcast S384x1 0#32)) (broadcast S384x1 s0)
        (broadcast S384x1 (Scalar.ofBits (F := Ideal) .f32 0x00000000#32))))

/-- The rows' maxima. -/
def peak (a : FVec Ideal S384x384 .f32) (b : FVec Ideal S384x256 .f32) (s : FVec Ideal S384x1 .f32) : FVec Ideal S384x1 .f32 :=
  maximumf (maximumf (shapeCast S384x1 (multiReduction .maximumf [1] S384 a 0xFF800000#32 reduces_S384x384_S384 (.inl rfl) rfl)
      shapeCasts_S384_S384x1)
    (shapeCast S384x1 (multiReduction .maximumf [1] S384 b 0xFF800000#32 reduces_S384x256_S384 (.inl rfl) rfl)
      shapeCasts_S384_S384x1)) s

/-- The weighted sums. -/
def sums (a : FVec Ideal S384x384 .f32) (b : FVec Ideal S384x256 .f32) (p : FVec Ideal S384x1 .f32)
    (v : FVec Ideal S384x128 .bf16) (vx : FVec Ideal S256x128 .bf16) : FVec Ideal S384x128 .f32 :=
  addf (matmul dot_S384x384_S384x128_S384x128_1_0_0_1_n_n none
      (truncf .bf16 (exp (subf a (broadcastTo S384x384 p broadcasts_S384x1_S384x384))) bitsLt_bf16_f32) v
      (constant S384x128 .f32 0x00000000#32))
    (matmul dot_S384x256_S256x128_S384x128_1_0_0_1_n_n none
      (truncf .bf16 (exp (subf b (broadcastTo S384x256 p broadcasts_S384x1_S384x256))) bitsLt_bf16_f32)
      (shapeCast S256x128 vx shapeCasts_S256x128_S256x128) (constant S384x128 .f32 0x00000000#32))

/-- The division by the sum of the weights. -/
def finish (n : FVec Ideal S384x128 .f32) (s p : FVec Ideal S384x1 .f32) : FVec Ideal S384x128 .bf16 :=
  truncf .bf16 (divf n (select
      (broadcastTo S384x128 (shapeCast S1x128 (cmpi .slt (iota .tc S1x128 32 [1] iota_S1x128_d1_w32) (broadcast S1x128 64#32))
        shapeCasts_S1x128_S1x128) broadcasts_S1x128_S384x128)
      (addf (dynamicRotate 1 64#32 none n rotates_S384x128_d1) (broadcastTo S384x128 (exp (subf s p)) broadcasts_S384x1_S384x128))
      (broadcast S384x128 (Scalar.ofBits (F := Ideal) .f32 0x3F800000#32)))) bitsLt_bf16_f32

/-- The group's result from its stacked queries, keys and values. -/
def attend (mask : IVec S384x384 1) (q k v : FVec Ideal S384x128 .bf16) (kx vx : FVec Ideal S256x128 .bf16)
    (s : FVec Ideal S384x1 .f32) : FVec Ideal S384x128 .bf16 :=
  finish (sums (near mask q k) (far q kx) (peak (near mask q k) (far q kx) s) v vx) s (peak (near mask q k) (far q kx) s)

theorem ofBits_bot : Ideal.ofBits .f32 0xFF800000#32 = (⊥ : EReal) := by simp [Ideal.ofBits, Ideal.ieee]

theorem cat_at (x : Fin 3 → Vec Ideal S128x128 .bf16) (t : Fin 3) (r l : Fin 128) :
    cat (x 0) (x 1) (x 2) (ix2 ⟨128 * t.val + r.val, by omega⟩ l) = x t (ix2 r l) := by
  pointwise [cat]
  fin_cases t
  · rw [dif_pos (by simp)]; congr 2; exact Fin.ext (by simp)
  · rw [dif_neg (by simp), dif_pos (by simp)]; congr 2; exact Fin.ext (by simp)
  · rw [dif_neg (by simp; omega), dif_neg (by simp; omega)]; congr 2; exact Fin.ext (by simp; omega)

theorem near_at (mask : IVec S384x384 1) (q k : FVec Ideal S384x128 .bf16) (R j : Fin 384) :
    near mask q k (ix2 R j) = if mask (ix2 R j) = 1#1 then ∑ d : Fin 128, q (ix2 R d) * k (ix2 j d) else ⊥ := by
  pointwise [near]
  rw [ofBits_bot]
  rfl

theorem far_at (q : FVec Ideal S384x128 .bf16) (kx : FVec Ideal S256x128 .bf16) (R : Fin 384) (x : Fin 256) :
    far q kx (ix2 R x) = ∑ d : Fin 128, q (ix2 R d) * kx (ix2 x d) := by
  pointwise [far]

theorem peak_at (a : FVec Ideal S384x384 .f32) (b : FVec Ideal S384x256 .f32) (s : FVec Ideal S384x1 .f32) (R : Fin 384) :
    peak a b s (ix2 R 0) = max (max (Finset.univ.fold max (⊥ : EReal) fun j : Fin 384 => (a (ix2 R j) : EReal))
      (Finset.univ.fold max (⊥ : EReal) fun x : Fin 256 => (b (ix2 R x) : EReal))) (s (ix2 R 0)) := by
  pointwise [peak]
  rw [ofBits_bot]

theorem sums_at (a : FVec Ideal S384x384 .f32) (b : FVec Ideal S384x256 .f32) (p : FVec Ideal S384x1 .f32)
    (v : FVec Ideal S384x128 .bf16) (vx : FVec Ideal S256x128 .bf16) (R : Fin 384) (l : Fin 128) :
    sums a b p v vx (ix2 R l) = (∑ j : Fin 384, Ideal.exp (a (ix2 R j) - p (ix2 R 0)) * v (ix2 j l))
      + ∑ x : Fin 256, Ideal.exp (b (ix2 R x) - p (ix2 R 0)) * vx (ix2 x l) := by
  pointwise [sums]

theorem finish_at (n : FVec Ideal S384x128 .f32) (s p : FVec Ideal S384x1 .f32) (R : Fin 384) (l : Fin 64) :
    finish n s p (ix2 R ⟨l.val, by omega⟩) = Ideal.div (n (ix2 R ⟨l.val, by omega⟩))
      (n (ix2 R ⟨l.val + 64, by omega⟩) + Ideal.exp (s (ix2 R 0) - p (ix2 R 0))) := by
  pointwise [finish]
  have hc : IntOp.cmpi CmpIPredicate.slt (BitVec.ofNat 32 l.val) 64#32 = 1#1 := by
    revert l; decide
  have hm : ∀ h, (⟨(l.val + 128 - 64) % 128, h⟩ : Fin 128) = ⟨l.val + 64, by omega⟩ := fun h => Fin.ext (by
    show (l.val + 128 - 64) % 128 = l.val + 64
    have := l.isLt; omega)
  rw [hc, hm]
  rfl

theorem third_at (t : Fin 3) (r : Fin 128) : third (ix2 ⟨128 * t.val + r.val, by omega⟩ 0) = BitVec.ofNat 32 t.val := by
  pointwise [third, rows]
  revert t r
  decide

theorem column_at (s : Fin 3 → EReal) (t : Fin 3) (r : Fin 128) :
    column (s 0) (s 1) (s 2) (ix2 ⟨128 * t.val + r.val, by omega⟩ 0) = s t := by
  pointwise [column]
  rw [third_at]
  fin_cases t <;> rfl

end Cert.Kernel4Ideal.Window

end
-- ==== Proof.WindowMask.lean ====
/-
  Which keys the kernel's mask lets a row see: the band, and within the tokens.
-/
module

public import proofs.«01_k».proof.Proof.WindowGroup
public import Idealize.ShloMosaic.Lib.WordCmp

@[expose] public section

noncomputable section

namespace Cert.Kernel4Ideal.Window

open Idealize.ShloMosaic Idealize.ShloMosaic.TcCoe Cert.Kernel4Ideal.Gen Idealize.SL.Sem Idealize.ShloMosaic.WordCmp

/-- The mask of a block of queries. -/
def mask (i : BitVec 32) : IVec S384x384 1 := k0_pay9 i k0_pay5 k0_pay6 k0_pay7 k0_pay8 0#32

theorem both (a b : BitVec 1) : IntOp.andi a b = 1#1 ↔ a = 1#1 ∧ b = 1#1 := by revert a b; decide

theorem either (a b : BitVec 1) : IntOp.ori a b = 1#1 ↔ a = 1#1 ∨ b = 1#1 := by revert a b; decide

/-- The divisor, as the program picks it. -/
def divisor : BitVec 32 := Scalar.select (Scalar.cmpi .eq 128#32 0#32) 1#32 128#32

/-- A row's place in its block. -/
def rest (n : BitVec 32) : BitVec 32 :=
  Scalar.select (IntOp.andi (IntOp.xori (IntOp.cmpi .slt (IntOp.remsi .vector n divisor) 0#32) (Scalar.cmpi .slt divisor 0#32))
    (IntOp.cmpi .ne (IntOp.remsi .vector n divisor) 0#32)) (IntOp.addi (IntOp.remsi .vector n divisor) divisor)
    (IntOp.remsi .vector n divisor)

theorem rest_at : ∀ (t : Fin 3) (r : Fin 128), rest (BitVec.ofNat 32 (128 * t.val + r.val)) = BitVec.ofNat 32 r.val := by decide

/-- A key's block. -/
def quotient (n : BitVec 32) : BitVec 32 :=
  Scalar.select (IntOp.andi (IntOp.cmpi .ne (IntOp.subi (BitVec.setWidth 32 (IntOp.cmpi .sgt n 0#32))
        (BitVec.setWidth 32 (IntOp.cmpi .slt n 0#32)))
      (Scalar.subi (Scalar.extui (Scalar.cmpi .sgt 128#32 0#32)) (Scalar.extui (Scalar.cmpi .slt 128#32 0#32))))
    (IntOp.cmpi .ne (IntOp.remsi .vector n 128#32) 0#32)) (IntOp.subi (IntOp.divsi .vector n 128#32) 1#32)
    (IntOp.divsi .vector n 128#32)

theorem quotient_at : ∀ (u : Fin 3) (s : Fin 128), quotient (BitVec.ofNat 32 (128 * u.val + s.val)) = BitVec.ofNat 32 u.val := by
  decide

theorem band_at (t : Fin 3) (r : Fin 128) (j : Fin 384) :
    k0_pay5 (ix2 ⟨128 * t.val + r.val, by omega⟩ j) = 1#1 ↔ r.val ≤ j.val ∧ j.val ≤ r.val + 256 := by
  pointwise [k0_pay5]
  change IntOp.andi (IntOp.cmpi .sge (BitVec.ofNat 32 j.val) (rest (BitVec.ofNat 32 (128 * t.val + r.val))))
    (IntOp.cmpi .sle (BitVec.ofNat 32 j.val) (IntOp.addi (rest (BitVec.ofNat 32 (128 * t.val + r.val))) 256#32)) = 1#1 ↔ _
  have e : IntOp.addi (BitVec.ofNat 32 r.val) 256#32 = BitVec.ofNat 32 (r.val + 256) := (BitVec.ofNat_add r.val 256).symm
  have hr := r.isLt
  have hj := j.isLt
  rw [rest_at, both, e, cmpi_sge_ofNat_eq_one_iff (by norm_num; omega) (by norm_num; omega),
    cmpi_sle_ofNat_eq_one_iff (by norm_num; omega) (by norm_num; omega)]

theorem mask_at (i : ℕ) (hi : i < 130) (t : Fin 3) (r : Fin 128) (u : Fin 3) (s : Fin 128) :
    mask (BitVec.ofNat 32 i) (ix2 ⟨128 * t.val + r.val, by omega⟩ ⟨128 * u.val + s.val, by omega⟩) = 1#1
      ↔ (r.val ≤ 128 * u.val + s.val ∧ 128 * u.val + s.val ≤ r.val + 256) ∧ (u.val ≠ 0 ∨ 0 < i) ∧ (u.val ≠ 2 ∨ i < 127) ∧ i < 128 := by
  have hb := band_at t r ⟨128 * u.val + s.val, by omega⟩
  have hu := u.isLt
  pointwise [mask, k0_pay9, k0_pay6, k0_pay7, k0_pay8]
  change IntOp.andi (IntOp.andi (IntOp.andi (k0_pay5 (ix2 ⟨128 * t.val + r.val, by omega⟩ ⟨128 * u.val + s.val, by omega⟩))
      (IntOp.ori (IntOp.cmpi .ne (quotient (BitVec.ofNat 32 (128 * u.val + s.val))) (BitVec.ofNat 32 0))
        (IntOp.cmpi .sgt (BitVec.ofNat 32 i) (BitVec.ofNat 32 0))))
      (IntOp.ori (IntOp.cmpi .ne (quotient (BitVec.ofNat 32 (128 * u.val + s.val))) (BitVec.ofNat 32 2))
        (IntOp.cmpi .slt (BitVec.ofNat 32 i) (BitVec.ofNat 32 127))))
      (IntOp.cmpi .slt (BitVec.ofNat 32 i) (BitVec.ofNat 32 128)) = 1#1 ↔ _
  rw [quotient_at, both, both, both, either, either, hb, cmpi_ne_ofNat_eq_one_iff (by norm_num; omega) (by norm_num),
    cmpi_ne_ofNat_eq_one_iff (by norm_num; omega) (by norm_num), cmpi_sgt_ofNat_eq_one_iff (by norm_num; omega) (by norm_num),
    cmpi_slt_ofNat_eq_one_iff (by norm_num; omega) (by norm_num), cmpi_slt_ofNat_eq_one_iff (by norm_num; omega) (by norm_num)]
  exact ⟨fun ⟨⟨⟨a, b⟩, c⟩, d⟩ => ⟨a, b, c, d⟩, fun ⟨a, b, c, d⟩ => ⟨⟨⟨a, b⟩, c⟩, d⟩⟩

end Cert.Kernel4Ideal.Window

end
-- ==== Proof.WindowBlock.lean ====
/-
  A block of results of the windowed attention: twelve heads, three to a group.
-/
module

public import proofs.«01_k».proof.Proof.WindowMask
public import proofs.«01_k».proof.Proof.Gen.Kernel4Ideal.Frame
public import Idealize.ShloMosaic.Lib.Pipeline.ValueKit

@[expose] public section

noncomputable section

namespace Cert.Kernel4Ideal.Window

open Idealize.ShloMosaic Idealize.ShloMosaic.TcCoe Cert.Kernel4Ideal.Gen Idealize.SL.Sem

/-- A query head of a block. -/
def qhead (x : Vec Ideal S128x1536 .bf16) (h : ℕ) (hh : h < 12) : Vec Ideal S128x128 .bf16 :=
  View.ld x (Rect.unit ![0, h * 128] ![128, 128] (fun a => match a with
    | 0 => by show 0 + 128 ≤ 128; omega
    | 1 => by show h * 128 + 128 ≤ 1536; omega))

/-- A key head of a block. -/
def khead (x : Vec Ideal S128x512 .bf16) (g : ℕ) (hg : g < 4) : Vec Ideal S128x128 .bf16 :=
  View.ld x (Rect.unit ![0, g * 128] ![128, 128] (fun a => match a with
    | 0 => by show 0 + 128 ≤ 128; omega
    | 1 => by show g * 128 + 128 ≤ 512; omega))

/-- A head of the context's block. -/
def xhead (x : Vec Ideal S256x512 .bf16) (g : ℕ) (hg : g < 4) : FVec Ideal S256x128 .bf16 :=
  View.ld x (Rect.unit ![0, g * 128] ![256, 128] (fun a => match a with
    | 0 => by show 0 + 256 ≤ 256; omega
    | 1 => by show g * 128 + 128 ≤ 512; omega))

/-- A head's sink. -/
def sink (x : Vec Ideal S12 .f32) (h : ℕ) (hh : h < 12) : Elt Ideal .f32 :=
  View.ld x (Rect.unit ![h] ![1] (fun a => match a with
    | 0 => by show h + 1 ≤ 12; omega)) (Shape.Idx.first (by show 0 < Shape.numel ⟨1, ![1]⟩; decide))

/-- A group's results. -/
def group (i : BitVec 32) (x0 : Vec Ideal S12 .f32) (x1 : Vec Ideal S128x1536 .bf16) (x2 x3 x4 : Vec Ideal S128x512 .bf16)
    (x5 : Vec Ideal S256x512 .bf16) (x6 x7 x8 : Vec Ideal S128x512 .bf16) (x9 : Vec Ideal S256x512 .bf16) (g : ℕ) (hg : g < 4) :
    FVec Ideal S384x128 .bf16 :=
  attend (mask i) (cat (qhead x1 (g * 3) (by omega)) (qhead x1 (g * 3 + 1) (by omega)) (qhead x1 (g * 3 + 2) (by omega)))
    (cat (khead x2 g hg) (khead x3 g hg) (khead x4 g hg)) (cat (khead x6 g hg) (khead x7 g hg) (khead x8 g hg))
    (xhead x5 g hg) (xhead x9 g hg)
    (column (sink x0 (g * 3) (by omega)) (sink x0 (g * 3 + 1) (by omega)) (sink x0 (g * 3 + 2) (by omega)))

variable (m : (ℓ : Loc nD τ sig) → Buf (Elt Ideal) ℓ) (c : Dev nD)

/-- A group of a grid point. -/
def groupAt (t : Fin cfg0.N) (g : ℕ) (hg : g < 4) : FVec Ideal S384x128 .bf16 :=
  group (BitVec.ofNat 32 (grid0.coords t 1).val) (iblk m c 0 t) (iblk m c 1 t) (iblk m c 2 t) (iblk m c 3 t) (iblk m c 4 t)
    (iblk m c 5 t) (iblk m c 6 t) (iblk m c 7 t) (iblk m c 8 t) (iblk m c 9 t) g hg

theorem slice_at (x : FVec Ideal S384x128 .bf16) (o : ℕ) (hs : Shape.Slices S384x128 ![o, 0] S128x128) (y : S128x128.Idx)
    (R : Fin 384) (l : Fin 128) (h0 : R.val = o + (y 0).val) (h1 : l.val = (y 1).val) :
    extractStridedSlice S128x128 ![o, 0] x hs y = x (ix2 R l) := by
  show x _ = x _
  congr 1
  refine funext fun a => Fin.ext ?_
  match a with
  | 0 => show o + (y 0).val = R.val; omega
  | 1 => show 0 + (y 1).val = l.val; omega

theorem slices (U : ℕ) (hU : U < 3) : Shape.Slices S384x128 ![128 * U, 0] S128x128 := by
  match U, hU with
  | 0, _ => decide
  | 1, _ => decide
  | 2, _ => decide

/-- One store: a head of a group. -/
theorem store_at (t : Fin cfg0.N) (G U : ℕ) (hG : G < 4) (hU : U < 3) (P : FVec Ideal S128x128 .bf16)
    (hP : P = extractStridedSlice S128x128 ![128 * U, 0] (groupAt m c t G hG) (slices U hU)) (g : Fin 4) (u : Fin 3)
    (r l : Fin 128) (x : S128x128.Idx) (h0 : r.val = (x 0).val)
    (h1 : (g.val * 3 + u.val) * 128 + l.val = (G * 3 + U) * 128 + (x 1).val) (hx : (x 1).val < 128) :
    P x = groupAt m c t g.val g.isLt (ix2 ⟨128 * u.val + r.val, by omega⟩ l) := by
  have hu := u.isLt
  have hl := l.isLt
  obtain rfl : g.val = G := by omega
  obtain rfl : u.val = U := by omega
  rw [hP]
  exact slice_at _ _ _ x _ _ (by show 128 * u.val + r.val = 128 * u.val + (x 0).val; omega) (by omega)

set_option maxHeartbeats 6400000 in
/-- The block's value at a row and a lane of a head. -/
theorem outs_at (t : Fin cfg0.N) (r : Fin 128) (g : Fin 4) (u : Fin 3) (l : Fin 128) :
    outsAt0 m c t (ix2 r ⟨(g.val * 3 + u.val) * 128 + l.val, by omega⟩)
      = groupAt m c t g.val g.isLt (ix2 ⟨128 * u.val + r.val, by omega⟩ l) := by
  unfold outsAt0
  frame_out
  canon_tiles x h
  · exact store_at m c t 3 2 (by decide) (by decide) _ rfl g u r l x h0 h1 x1_lt
  · exact store_at m c t 3 1 (by decide) (by decide) _ rfl g u r l x h0 h1 x1_lt
  · exact store_at m c t 3 0 (by decide) (by decide) _ rfl g u r l x h0 h1 x1_lt
  · exact store_at m c t 2 2 (by decide) (by decide) _ rfl g u r l x h0 h1 x1_lt
  · exact store_at m c t 2 1 (by decide) (by decide) _ rfl g u r l x h0 h1 x1_lt
  · exact store_at m c t 2 0 (by decide) (by decide) _ rfl g u r l x h0 h1 x1_lt
  · exact store_at m c t 1 2 (by decide) (by decide) _ rfl g u r l x h0 h1 x1_lt
  · exact store_at m c t 1 1 (by decide) (by decide) _ rfl g u r l x h0 h1 x1_lt
  · exact store_at m c t 1 0 (by decide) (by decide) _ rfl g u r l x h0 h1 x1_lt
  · exact store_at m c t 0 2 (by decide) (by decide) _ rfl g u r l x h0 h1 x1_lt
  · exact store_at m c t 0 1 (by decide) (by decide) _ rfl g u r l x h0 h1 x1_lt
  · exact store_at m c t 0 0 (by decide) (by decide) _ rfl g u r l x h0 (h1.trans (Nat.zero_add _).symm) x1_lt

end Cert.Kernel4Ideal.Window

end
-- ==== Proof.WindowArrays.lean ====
/-
  The arrays the windowed attention's pipeline reads, at an index, and the blocks of them a grid point holds.
-/
module

public import proofs.«01_k».proof.Proof.WindowBlock
public import Idealize.ShloMosaic.Lib.StableHlo.ReadAt

@[expose] public section

noncomputable section

namespace Cert.Kernel4Ideal.Window

open Idealize.ShloMosaic Idealize.ShloMosaic.TcCoe Cert.Kernel4Ideal.Gen Idealize.SL.Sem

variable (m : (ℓ : Loc nD τ sig) → Buf (Elt Ideal) ℓ) (c : Dev nD)

def arg0 : FVec Ideal S2x16384x12x64 .f32 := m ((c.tc : Thread nD τ).loc main_arg0)
def arg1 : FVec Ideal S2x16384x4x64 .f32 := m ((c.tc : Thread nD τ).loc main_arg1)
def arg2 : FVec Ideal S2x16384x4x64 .f32 := m ((c.tc : Thread nD τ).loc main_arg2)
def arg3 : FVec Ideal S2x256x4x64 .f32 := m ((c.tc : Thread nD τ).loc main_arg3)
def arg4 : FVec Ideal S2x256x4x64 .f32 := m ((c.tc : Thread nD τ).loc main_arg4)
def arg5 : FVec Ideal S12 .f32 := m ((c.tc : Thread nD τ).loc main_arg5)

theorem zero_i32 : FloatOps.sitofp (F := Ideal) .f32 (0#32) = (0 : EReal) := by
  show ((((0#32 : BitVec 32).toInt : ℤ) : ℝ) : EReal) = 0
  simp

theorem zero_f32 : id (constant (F := Ideal) S_ .f32 0x00000000#32) (Shape.Idx.first h_S_) = (0 : EReal) := by
  show Ideal.ofBits .f32 0x00000000#32 = 0
  exact Ideal.ofBits_zero_f32

theorem one_f32 : id (constant (F := Ideal) S_ .f32 0x3F800000#32) (Shape.Idx.first h_S_) = (1 : EReal) := by
  show Ideal.ofBits .f32 0x3F800000#32 = 1
  exact Ideal.ofBits_one_f32

/-- Indices with equal coordinates are equal. -/
theorem ix4_eq {n0 n1 n2 n3 : ℕ} {a a' : Fin n0} {b b' : Fin n1} {c c' : Fin n2} {d d' : Fin n3} (ha : a.val = a'.val)
    (hb : b.val = b'.val) (hc : c.val = c'.val) (hd : d.val = d'.val) : ix4 a b c d = ix4 a' b' c' d' := by
  obtain rfl := Fin.ext ha
  obtain rfl := Fin.ext hb
  obtain rfl := Fin.ext hc
  obtain rfl := Fin.ext hd
  rfl

/-- The queries, scaled, in lanes below 64 of a head's 128; the others are zero. -/
theorem queries_at (b : Fin 2) (n : Fin 16384) (h : Fin 12) (d : Fin 128) :
    V m c main_v5 (ix2 ⟨b.val * 16640 + n.val, by omega⟩ ⟨h.val * 128 + d.val, by omega⟩)
      = if hd : d.val < 64 then (arg0 m c (ix4 b n h ⟨d.val, hd⟩) : EReal) * Ideal.ofBits .f32 0x3E000000#32 else (0 : EReal) := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  try after_reads_simp
  have hn' := n.isLt
  have hh := h.isLt
  have hd' := d.isLt
  have e0 : (b.val * 16640 + n.val) / 16640 = b.val := by omega
  have e1 : (b.val * 16640 + n.val) % 16640 = n.val := by omega
  have e2 : (h.val * 128 + d.val) / 128 = h.val := by omega
  have e3 : (h.val * 128 + d.val) % 128 = d.val := by omega
  have hb := b.isLt
  by_cases hd : d.val < 64
  · refine (dif_pos ⟨e0.trans_lt hb, e1.trans_lt (by omega), e2.trans_lt hh, e3.trans_lt hd⟩).trans
      ((dif_pos ⟨e0.trans_lt hb, e1.trans_lt hn', e2.trans_lt hh, e3.trans_lt hd⟩).trans (Eq.trans ?_ (dif_pos hd).symm))
    exact congrArg (fun z => (arg0 m c z : EReal) * Ideal.ofBits .f32 0x3E000000#32) (ix4_eq e0 e1 e2 e3)
  · refine (dif_neg fun h => hd (e3.symm.trans_lt h.2.2.2)).trans (Eq.trans ?_ (dif_neg hd).symm)
    exact zero_f32

/-- The keys, latent then context, in lanes below 64 of a head's 128; the others are zero. -/
theorem keys_at (b : Fin 2) (n : Fin 16640) (h : Fin 4) (d : Fin 128) :
    V m c main_v9 (ix2 ⟨b.val * 16640 + n.val, by omega⟩ ⟨h.val * 128 + d.val, by omega⟩)
      = if hd : d.val < 64 then (if hn : n.val < 16384 then (arg1 m c (ix4 b ⟨n.val, hn⟩ h ⟨d.val, hd⟩) : EReal)
          else (arg3 m c (ix4 b ⟨n.val - 16384, by omega⟩ h ⟨d.val, hd⟩) : EReal)) else (0 : EReal) := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  try after_reads_simp
  have hn' := n.isLt
  have hh := h.isLt
  have hd' := d.isLt
  have e0 : (b.val * 16640 + n.val) / 16640 = b.val := by omega
  have e1 : (b.val * 16640 + n.val) % 16640 = n.val := by omega
  have e2 : (h.val * 128 + d.val) / 128 = h.val := by omega
  have e3 : (h.val * 128 + d.val) % 128 = d.val := by omega
  have hb := b.isLt
  by_cases hd : d.val < 64
  · refine (dif_pos ⟨e0.trans_lt hb, e1.trans_lt hn', e2.trans_lt hh, e3.trans_lt hd⟩).trans (Eq.trans ?_ (dif_pos hd).symm)
    by_cases hn : n.val < 16384
    · refine (dif_pos (e1.trans_lt hn)).trans (Eq.trans ?_ (dif_pos hn).symm)
      exact congrArg (arg1 m c) (ix4_eq e0 e1 e2 e3)
    · refine (dif_neg fun h => hn (e1.symm.trans_lt h)).trans (Eq.trans ?_ (dif_neg hn).symm)
      exact congrArg (arg3 m c) (ix4_eq e0 (congrArg (· - 16384) e1) e2 e3)
  · refine (dif_neg fun h => hd (e3.symm.trans_lt h.2.2.2)).trans (Eq.trans ?_ (dif_neg hd).symm)
    exact zero_f32

/-- The values, latent then context, in lanes below 64 of a head's 128; the others are one. -/
theorem values_at (b : Fin 2) (n : Fin 16640) (h : Fin 4) (d : Fin 128) :
    V m c main_v13 (ix2 ⟨b.val * 16640 + n.val, by omega⟩ ⟨h.val * 128 + d.val, by omega⟩)
      = if hd : d.val < 64 then (if hn : n.val < 16384 then (arg2 m c (ix4 b ⟨n.val, hn⟩ h ⟨d.val, hd⟩) : EReal)
          else (arg4 m c (ix4 b ⟨n.val - 16384, by omega⟩ h ⟨d.val, hd⟩) : EReal)) else (1 : EReal) := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  try after_reads_simp
  have hn' := n.isLt
  have hh := h.isLt
  have hd' := d.isLt
  have e0 : (b.val * 16640 + n.val) / 16640 = b.val := by omega
  have e1 : (b.val * 16640 + n.val) % 16640 = n.val := by omega
  have e2 : (h.val * 128 + d.val) / 128 = h.val := by omega
  have e3 : (h.val * 128 + d.val) % 128 = d.val := by omega
  have hb := b.isLt
  by_cases hd : d.val < 64
  · refine (dif_pos ⟨e0.trans_lt hb, e1.trans_lt hn', e2.trans_lt hh, e3.trans_lt hd⟩).trans (Eq.trans ?_ (dif_pos hd).symm)
    by_cases hn : n.val < 16384
    · refine (dif_pos (e1.trans_lt hn)).trans (Eq.trans ?_ (dif_pos hn).symm)
      exact congrArg (arg2 m c) (ix4_eq e0 e1 e2 e3)
    · refine (dif_neg fun h => hn (e1.symm.trans_lt h)).trans (Eq.trans ?_ (dif_neg hn).symm)
      exact congrArg (arg4 m c) (ix4_eq e0 (congrArg (· - 16384) e1) e2 e3)
  · refine (dif_neg fun h => hd (e3.symm.trans_lt h.2.2.2)).trans (Eq.trans ?_ (dif_neg hd).symm)
    exact one_f32

/-- The sinks are the argument. -/
theorem sinks_at (h : Fin 12) : V m c main_arg5 (ix1 h) = arg5 m c (ix1 h) := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  try after_reads_simp
  rfl

theorem index_1 : ∀ t : Fin cfg0.N, win0_1.index t = ![(grid0.coords t 0).val * 130 + (grid0.coords t 1).val, 0] :=
  (by decide +kernel : ∀ t : Fin grid0.N, _)
theorem index_2 : ∀ t : Fin cfg0.N, win0_2.index t = ![(grid0.coords t 0).val * 130 + min ((grid0.coords t 1).val - 1) 127, 0] :=
  (by decide +kernel : ∀ t : Fin grid0.N, _)
theorem index_3 : ∀ t : Fin cfg0.N, win0_3.index t = ![(grid0.coords t 0).val * 130 + min ((grid0.coords t 1).val) 127, 0] :=
  (by decide +kernel : ∀ t : Fin grid0.N, _)
theorem index_4 : ∀ t : Fin cfg0.N, win0_4.index t = ![(grid0.coords t 0).val * 130 + min ((grid0.coords t 1).val + 1) 127, 0] :=
  (by decide +kernel : ∀ t : Fin grid0.N, _)
theorem index_5 : ∀ t : Fin cfg0.N, win0_5.index t = ![(grid0.coords t 0).val * 65 + 64, 0] :=
  (by decide +kernel : ∀ t : Fin grid0.N, _)
theorem index_6 : ∀ t : Fin cfg0.N, win0_6.index t = ![(grid0.coords t 0).val * 130 + min ((grid0.coords t 1).val - 1) 127, 0] :=
  (by decide +kernel : ∀ t : Fin grid0.N, _)
theorem index_7 : ∀ t : Fin cfg0.N, win0_7.index t = ![(grid0.coords t 0).val * 130 + min ((grid0.coords t 1).val) 127, 0] :=
  (by decide +kernel : ∀ t : Fin grid0.N, _)
theorem index_8 : ∀ t : Fin cfg0.N, win0_8.index t = ![(grid0.coords t 0).val * 130 + min ((grid0.coords t 1).val + 1) 127, 0] :=
  (by decide +kernel : ∀ t : Fin grid0.N, _)
theorem index_9 : ∀ t : Fin cfg0.N, win0_9.index t = ![(grid0.coords t 0).val * 65 + 64, 0] :=
  (by decide +kernel : ∀ t : Fin grid0.N, _)
theorem index_10 : ∀ t : Fin cfg0.N, win0_10.index t = ![(grid0.coords t 0).val * 130 + (grid0.coords t 1).val, 0] :=
  (by decide +kernel : ∀ t : Fin grid0.N, _)

theorem covers_10 : (cfg0.win 10).Covers := by decide +kernel

end Cert.Kernel4Ideal.Window

end
-- ==== Proof.WindowBlocks.lean ====
/-
  The windowed attention's blocks at coordinates, and its array of results.
-/
module

public import proofs.«01_k».proof.Proof.WindowArrays

@[expose] public section

noncomputable section

namespace Cert.Kernel4Ideal.Window

open Idealize.ShloMosaic Idealize.ShloMosaic.TcCoe Cert.Kernel4Ideal.Gen Idealize.SL.Sem

theorem qhead_at (x : Vec Ideal S128x1536 .bf16) (h : ℕ) (hh : h < 12) (r l : Fin 128) :
    qhead x h hh (ix2 r l) = x (ix2 r ⟨h * 128 + l.val, by omega⟩) := by
  unfold qhead
  refine congrArg x (funext fun a => Fin.ext ?_)
  match a with
  | ⟨0, _⟩ => exact (Nat.zero_add _).trans (Nat.one_mul _)
  | ⟨1, _⟩ => exact congrArg (h * 128 + ·) (Nat.one_mul _)

theorem khead_at (x : Vec Ideal S128x512 .bf16) (h : ℕ) (hh : h < 4) (r l : Fin 128) :
    khead x h hh (ix2 r l) = x (ix2 r ⟨h * 128 + l.val, by omega⟩) := by
  unfold khead
  refine congrArg x (funext fun a => Fin.ext ?_)
  match a with
  | ⟨0, _⟩ => exact (Nat.zero_add _).trans (Nat.one_mul _)
  | ⟨1, _⟩ => exact congrArg (h * 128 + ·) (Nat.one_mul _)

theorem xhead_at (x : Vec Ideal S256x512 .bf16) (h : ℕ) (hh : h < 4) (r : Fin 256) (l : Fin 128) :
    xhead x h hh (ix2 r l) = x (ix2 r ⟨h * 128 + l.val, by omega⟩) := by
  unfold xhead
  refine congrArg x (funext fun a => Fin.ext ?_)
  match a with
  | ⟨0, _⟩ => exact (Nat.zero_add _).trans (Nat.one_mul _)
  | ⟨1, _⟩ => exact congrArg (h * 128 + ·) (Nat.one_mul _)

theorem sink_at (x : Vec Ideal S12 .f32) (h : ℕ) (hh : h < 12) : sink x h hh = x (ix1 ⟨h, hh⟩) := by
  unfold sink
  refine congrArg x (funext fun a => Fin.ext ?_)
  match a with
  | ⟨0, _⟩ => rfl

variable (m : (ℓ : Loc nD τ sig) → Buf (Elt Ideal) ℓ) (c : Dev nD) (t : Fin cfg0.N) (b : Fin 2) (i : Fin 128)

theorem index_0 : ∀ t : Fin cfg0.N, win0_0.index t = ![0] := (by decide +kernel : ∀ t : Fin grid0.N, _)

/-- The sinks' block. -/
theorem sinks_block (h : Fin 12) : iblk m c 0 t (ix1 h) = V m c main_arg5 (ix1 h) := by
  blk_simp [iblk]
  congr 1
  blk_ext [index_0]

/-- The queries' block. -/
theorem queries_block (hb : (grid0.coords t 0).val = b.val) (hi : (grid0.coords t 1).val = i.val) (r : Fin 128) (k : Fin 1536) :
    iblk m c 1 t (ix2 r k) = V m c main_v5 (ix2 ⟨b.val * 16640 + (i.val * 128 + r.val), by omega⟩ k) := by
  blk_simp [iblk]
  congr 1
  blk_ext [index_1, hb, hi]

/-- A block of a window of the keys' array, for any index map. -/
theorem keys_any (f : grid0.Coords → Fin 2 → Nat) (h1 h2 h3) (t : Fin grid0.N) (A : Vec Ideal S33280x512 .bf16)
    (q : ℕ) (hq : f (grid0.coords t) = ![q, 0]) (s : Fin 128) (k : Fin 512) (n : Fin 33280) (hn : n.val = q * 128 + s.val) :
    ((Pipeline.Window.ofSpec (G := grid0) (sig := sig) (Memref.whole main_v9) S128x512.size f reads0_2 false false 2 stage0_2 sem0_2
      hrank0 h1 h2 nbuf0_2 (Memref.isWhole_whole _) h3 hstage0_2).blk t).view.read (Elt Ideal) A (ix2 s k) = A (ix2 n k) := by
  refine congrArg A (funext fun a => Fin.ext ?_)
  match a with
  | ⟨0, _⟩ =>
    show f (grid0.coords t) 0 * 128 + 1 * s.val = n.val
    rw [hq]
    show q * 128 + 1 * s.val = n.val
    omega
  | ⟨1, _⟩ =>
    show f (grid0.coords t) 1 * 512 + 1 * k.val = k.val
    rw [hq]
    show 0 * 512 + 1 * k.val = k.val
    omega

/-- The band's block 0 of keys. -/
theorem keys_block_0 (hb : (grid0.coords t 0).val = b.val) (hi : (grid0.coords t 1).val = i.val) (h0 : 1 ≤ i.val) (s : Fin 128) (k : Fin 512)
    (n : Fin 33280) (hn : n.val + 128 = b.val * 16640 + (i.val * 128 + s.val)) :
    iblk m c 2 t (ix2 s k) = V m c main_v9 (ix2 n k) := by
  obtain ⟨p, hp⟩ : ∃ p, i.val = p + 1 := ⟨i.val - 1, by omega⟩
  have hx : win0_2.index t = ![b.val * 130 + p, 0] := by
    have e : (grid0.coords t 0).val * 130 + min ((grid0.coords t 1).val - 1) 127 = b.val * 130 + p := by omega
    rw [index_2, e]
  exact keys_any cc0_transform_2 hreads0_2 hinb0_2 hwx0_2 t (V m c main_v9) (b.val * 130 + p) hx s k n (by omega)

/-- The band's block 1 of keys. -/
theorem keys_block_1 (hb : (grid0.coords t 0).val = b.val) (hi : (grid0.coords t 1).val = i.val) (s : Fin 128) (k : Fin 512) :
    iblk m c 3 t (ix2 s k) = V m c main_v9 (ix2 ⟨b.val * 16640 + (i.val * 128 + s.val), by omega⟩ k) := by
  have hm : min i.val 127 = i.val := by omega
  blk_simp [iblk]
  congr 1
  blk_ext [index_3, hb, hi, hm]

/-- The band's block 2 of keys. -/
theorem keys_block_2 (hb : (grid0.coords t 0).val = b.val) (hi : (grid0.coords t 1).val = i.val) (h1 : i.val < 127) (s : Fin 128) (k : Fin 512) :
    iblk m c 4 t (ix2 s k) = V m c main_v9 (ix2 ⟨b.val * 16640 + (i.val * 128 + (128 + s.val)), by omega⟩ k) := by
  have hm : min (i.val + 1) 127 = i.val + 1 := by omega
  blk_simp [iblk]
  congr 1
  blk_ext [index_4, hb, hi, hm]

/-- The three blocks of keys of a band. -/
theorem keys_block (hb : (grid0.coords t 0).val = b.val) (hi : (grid0.coords t 1).val = i.val) (u : Fin 3) (s : Fin 128) (k : Fin 512)
    (h0 : 1 ≤ i.val + u.val) (h1 : i.val + u.val < 129) (X : Fin 3 → Vec Ideal S128x512 .bf16) (X0 : X 0 = iblk m c 2 t)
    (X1 : X 1 = iblk m c 3 t) (X2 : X 2 = iblk m c 4 t) (n : Fin 33280)
    (hn : n.val + 128 = b.val * 16640 + (i.val * 128 + (128 * u.val + s.val))) :
    X u (ix2 s k) = V m c main_v9 (ix2 n k) := by
  match u with
  | ⟨0, _⟩ =>
    have h0' : 1 ≤ i.val := h0
    have hn' : n.val + 128 = b.val * 16640 + (i.val * 128 + (128 * 0 + s.val)) := hn
    exact (congrFun X0 _).trans (keys_block_0 m c t b i hb hi h0' s k n (by omega))
  | ⟨1, _⟩ =>
    have hn' : n.val + 128 = b.val * 16640 + (i.val * 128 + (128 * 1 + s.val)) := hn
    exact (congrFun X1 _).trans ((keys_block_1 m c t b i hb hi s k).trans
      (congrArg (fun z : Fin 33280 => V m c main_v9 (ix2 z k)) (Fin.ext (by show b.val * 16640 + _ = n.val; omega))))
  | ⟨2, _⟩ =>
    have h1' : i.val + 2 < 129 := h1
    have hn' : n.val + 128 = b.val * 16640 + (i.val * 128 + (128 * 2 + s.val)) := hn
    exact (congrFun X2 _).trans ((keys_block_2 m c t b i hb hi (by omega) s k).trans
      (congrArg (fun z : Fin 33280 => V m c main_v9 (ix2 z k)) (Fin.ext (by show b.val * 16640 + _ = n.val; omega))))

/-- A block of a window of the values' array, for any index map. -/
theorem values_any (f : grid0.Coords → Fin 2 → Nat) (h1 h2 h3) (t : Fin grid0.N) (A : Vec Ideal S33280x512 .bf16)
    (q : ℕ) (hq : f (grid0.coords t) = ![q, 0]) (s : Fin 128) (k : Fin 512) (n : Fin 33280) (hn : n.val = q * 128 + s.val) :
    ((Pipeline.Window.ofSpec (G := grid0) (sig := sig) (Memref.whole main_v13) S128x512.size f reads0_6 false false 2 stage0_6 sem0_6
      hrank0 h1 h2 nbuf0_6 (Memref.isWhole_whole _) h3 hstage0_6).blk t).view.read (Elt Ideal) A (ix2 s k) = A (ix2 n k) := by
  refine congrArg A (funext fun a => Fin.ext ?_)
  match a with
  | ⟨0, _⟩ =>
    show f (grid0.coords t) 0 * 128 + 1 * s.val = n.val
    rw [hq]
    show q * 128 + 1 * s.val = n.val
    omega
  | ⟨1, _⟩ =>
    show f (grid0.coords t) 1 * 512 + 1 * k.val = k.val
    rw [hq]
    show 0 * 512 + 1 * k.val = k.val
    omega

/-- The band's block 0 of values. -/
theorem values_block_0 (hb : (grid0.coords t 0).val = b.val) (hi : (grid0.coords t 1).val = i.val) (h0 : 1 ≤ i.val) (s : Fin 128) (k : Fin 512)
    (n : Fin 33280) (hn : n.val + 128 = b.val * 16640 + (i.val * 128 + s.val)) :
    iblk m c 6 t (ix2 s k) = V m c main_v13 (ix2 n k) := by
  obtain ⟨p, hp⟩ : ∃ p, i.val = p + 1 := ⟨i.val - 1, by omega⟩
  have hx : win0_6.index t = ![b.val * 130 + p, 0] := by
    have e : (grid0.coords t 0).val * 130 + min ((grid0.coords t 1).val - 1) 127 = b.val * 130 + p := by omega
    rw [index_6, e]
  exact values_any cc0_transform_6 hreads0_6 hinb0_6 hwx0_6 t (V m c main_v13) (b.val * 130 + p) hx s k n (by omega)

/-- The band's block 1 of values. -/
theorem values_block_1 (hb : (grid0.coords t 0).val = b.val) (hi : (grid0.coords t 1).val = i.val) (s : Fin 128) (k : Fin 512) :
    iblk m c 7 t (ix2 s k) = V m c main_v13 (ix2 ⟨b.val * 16640 + (i.val * 128 + s.val), by omega⟩ k) := by
  have hm : min i.val 127 = i.val := by omega
  blk_simp [iblk]
  congr 1
  blk_ext [index_7, hb, hi, hm]

/-- The band's block 2 of values. -/
theorem values_block_2 (hb : (grid0.coords t 0).val = b.val) (hi : (grid0.coords t 1).val = i.val) (h1 : i.val < 127) (s : Fin 128) (k : Fin 512) :
    iblk m c 8 t (ix2 s k) = V m c main_v13 (ix2 ⟨b.val * 16640 + (i.val * 128 + (128 + s.val)), by omega⟩ k) := by
  have hm : min (i.val + 1) 127 = i.val + 1 := by omega
  blk_simp [iblk]
  congr 1
  blk_ext [index_8, hb, hi, hm]

/-- The three blocks of values of a band. -/
theorem values_block (hb : (grid0.coords t 0).val = b.val) (hi : (grid0.coords t 1).val = i.val) (u : Fin 3) (s : Fin 128) (k : Fin 512)
    (h0 : 1 ≤ i.val + u.val) (h1 : i.val + u.val < 129) (X : Fin 3 → Vec Ideal S128x512 .bf16) (X0 : X 0 = iblk m c 6 t)
    (X1 : X 1 = iblk m c 7 t) (X2 : X 2 = iblk m c 8 t) (n : Fin 33280)
    (hn : n.val + 128 = b.val * 16640 + (i.val * 128 + (128 * u.val + s.val))) :
    X u (ix2 s k) = V m c main_v13 (ix2 n k) := by
  match u with
  | ⟨0, _⟩ =>
    have h0' : 1 ≤ i.val := h0
    have hn' : n.val + 128 = b.val * 16640 + (i.val * 128 + (128 * 0 + s.val)) := hn
    exact (congrFun X0 _).trans (values_block_0 m c t b i hb hi h0' s k n (by omega))
  | ⟨1, _⟩ =>
    have hn' : n.val + 128 = b.val * 16640 + (i.val * 128 + (128 * 1 + s.val)) := hn
    exact (congrFun X1 _).trans ((values_block_1 m c t b i hb hi s k).trans
      (congrArg (fun z : Fin 33280 => V m c main_v13 (ix2 z k)) (Fin.ext (by show b.val * 16640 + _ = n.val; omega))))
  | ⟨2, _⟩ =>
    have h1' : i.val + 2 < 129 := h1
    have hn' : n.val + 128 = b.val * 16640 + (i.val * 128 + (128 * 2 + s.val)) := hn
    exact (congrFun X2 _).trans ((values_block_2 m c t b i hb hi (by omega) s k).trans
      (congrArg (fun z : Fin 33280 => V m c main_v13 (ix2 z k)) (Fin.ext (by show b.val * 16640 + _ = n.val; omega))))

/-- The context's keys. -/
theorem xkeys_block (hb : (grid0.coords t 0).val = b.val) (x : Fin 256) (k : Fin 512) :
    iblk m c 5 t (ix2 x k) = V m c main_v9 (ix2 ⟨b.val * 16640 + (16384 + x.val), by omega⟩ k) := by
  blk_simp [iblk]
  congr 1
  blk_ext [index_5, hb]

/-- The context's values. -/
theorem xvalues_block (hb : (grid0.coords t 0).val = b.val) (x : Fin 256) (k : Fin 512) :
    iblk m c 9 t (ix2 x k) = V m c main_v13 (ix2 ⟨b.val * 16640 + (16384 + x.val), by omega⟩ k) := by
  blk_simp [iblk]
  congr 1
  blk_ext [index_9, hb]

/-- THE ARRAY of results from the blocks of results, at the latent tokens. -/
theorem out_array (P : Fin 2 → Fin 128 → Fin 128 → Fin 1536 → EReal → Prop)
    (hP : ∀ (t : Fin cfg0.N) (b : Fin 2) (i r : Fin 128) (k : Fin 1536),
      (grid0.coords t 0).val = b.val → (grid0.coords t 1).val = i.val → P b i r k (outsAt0 m c t (ix2 r k)))
    (b : Fin 2) (i r : Fin 128) (k : Fin 1536) :
    P b i r k ((dats m 0 c).arrAt 10 cfg0.N (ix2 ⟨b.val * 16640 + (i.val * 128 + r.val), by omega⟩ k)) := by
  refine Pipeline.Dat.arrAt_forall_of_covers (dats m 0 c) 10 (fun x v => ∀ (b : Fin 2) (i r : Fin 128) (k : Fin 1536),
    x = ix2 ⟨b.val * 16640 + (i.val * 128 + r.val), by omega⟩ k → P b i r k v) covers_10 (fun t hf y b i r k e => ?_) _
    (Memref.isWhole_whole _) b i r k rfl
  have e0 := congrArg Fin.val (congrFun e 0)
  have e1 := congrArg Fin.val (congrFun e 1)
  blk_simp [index_10] at e0 e1
  blk_simp
  rw [after0_10]
  have e0' : ((grid0.coords t 0).val * 130 + (grid0.coords t 1).val) * 128 + (y 0).val = b.val * 16640 + (i.val * 128 + r.val) := e0
  have e1' : (y 1).val = k.val := e1
  have b0 : (y 0).val < 128 := (y 0).isLt
  have b1 : (y 1).val < 1536 := (y 1).isLt
  have hi := i.isLt
  have hr := r.isLt
  have c1 : (grid0.coords t 1).val < 130 := (grid0.coords t 1).isLt
  have hy : y = ix2 r k := by
    funext a
    refine Fin.ext ?_
    match a with
    | ⟨0, _⟩ =>
      show (y 0).val = r.val
      omega
    | ⟨1, _⟩ =>
      show (y 1).val = k.val
      omega
  rw [hy]
  exact hP t b i r k (by omega) (by omega)

end Cert.Kernel4Ideal.Window

end
-- ==== Proof.WindowRef.lean ====
/-
  The windowed attention's reference, its result read at an index: the band of keys, the scores with the mask, the
  context's scores and the sink, and the weighted sums.
-/
module

public import proofs.«01_k».proof.Proof.Gen.Reference4Ideal.Run
public import Idealize.ShloMosaic.Lib.Pointwise
public import Idealize.ShloMosaic.Lib.IdealHost
public import Idealize.ShloMosaic.Lib.WordCmp

@[expose] public section

noncomputable section

namespace Cert.Reference4Ideal.Window

open Idealize.ShloMosaic Cert.Reference4Ideal.Gen Cert.Reference4Ideal Idealize.SL.Sem Idealize.ShloMosaic.TcCoe
  Idealize.ShloMosaic.WordCmp

/-- A block of zeros before the tokens and one behind, cut into blocks. -/
def padded (x : FVec Ideal S2x16384x4x64 .f32) : FVec Ideal S2x130x128x4x64 .f32 :=
  shapeCast _ (pad S2x16640x4x64 ![0, 128, 0, 0] ![0, 128, 0, 0] ![0, 0, 0, 0] x (sitofp .f32 (constantI S_ 32 0#32))
    pads_S2x16384x4x64_S2x16640x4x64_000_1281280_000_000 h_S_) shapeCasts_S2x16640x4x64_S2x130x128x4x64

/-- Each block's three blocks of keys. -/
def band (x : FVec Ideal S2x16384x4x64 .f32) : FVec Ideal S2x128x384x4x64 .f32 :=
  concatenate S2x128x384x4x64 2
    [⟨S2x128x128x4x64, extractStridedSlice S2x128x128x4x64 ![0, 0, 0, 0, 0] (padded x) slices_S2x130x128x4x64_S2x128x128x4x64_0_0_0_0_0⟩,
     ⟨S2x128x128x4x64, extractStridedSlice S2x128x128x4x64 ![0, 1, 0, 0, 0] (padded x) slices_S2x130x128x4x64_S2x128x128x4x64_0_1_0_0_0⟩,
     ⟨S2x128x128x4x64, extractStridedSlice S2x128x128x4x64 ![0, 2, 0, 0, 0] (padded x) slices_S2x130x128x4x64_S2x128x128x4x64_0_2_0_0_0⟩]
    concatenates_S2x128x128x4x64_S2x128x128x4x64_S2x128x128x4x64_S2x128x384x4x64_d2

/-- The queries in blocks, their heads in groups. -/
def blocks (x : FVec Ideal S2x16384x12x64 .f32) : FVec Ideal S2x128x128x4x3x64 .f32 :=
  shapeCast _ x shapeCasts_S2x16384x12x64_S2x128x128x4x3x64

/-- A block's first position. -/
def starts : IVec S128x1x1 32 :=
  muli (broadcastInDim S128x1x1 ![0] bcast_S128_S128x1x1_0 (iotaInDim S128 32 0))
    (broadcastInDim S128x1x1 ![] bcast_S_S128x1x1 (constantI S_ 32 128#32))

/-- The keys' positions. -/
def kpos : IVec S128x1x384 32 :=
  addi (broadcastInDim S128x1x384 ![0, 1, 2] bcast_S128x1x1_S128x1x384_0_1_2
      (subi starts (broadcastInDim S128x1x1 ![] bcast_S_S128x1x1 (constantI S_ 32 128#32))))
    (broadcastInDim S128x1x384 ![0, 1, 2] bcast_S1x1x384_S128x1x384_0_1_2
      (broadcastInDim S1x1x384 ![2] bcast_S384_S1x1x384_2 (iotaInDim S384 32 0)))

/-- The queries' positions. -/
def qpos : IVec S128x128x1 32 :=
  addi (broadcastInDim S128x128x1 ![0, 1, 2] bcast_S128x1x1_S128x128x1_0_1_2 starts)
    (broadcastInDim S128x128x1 ![0, 1, 2] bcast_S1x128x1_S128x128x1_0_1_2
      (broadcastInDim S1x128x1 ![1] bcast_S128_S1x128x1_1 (iotaInDim S128 32 0)))

/-- Which keys a query sees. -/
def seen : IVec S128x128x384 1 :=
  andi (andi (cmpi .sle (absi (subi (broadcastInDim S128x128x384 ![0, 1, 2] bcast_S128x1x384_S128x128x384_0_1_2 kpos)
        (broadcastInDim S128x128x384 ![0, 1, 2] bcast_S128x128x1_S128x128x384_0_1_2 qpos)))
      (broadcastInDim S128x128x384 ![] bcast_S_S128x128x384 (constantI S_ 32 128#32)))
    (broadcastInDim S128x128x384 ![0, 1, 2] bcast_S128x1x384_S128x128x384_0_1_2
      (cmpi .sge kpos (broadcastInDim S128x1x384 ![] bcast_S_S128x1x384 (constantI S_ 32 0#32)))))
    (broadcastInDim S128x128x384 ![0, 1, 2] bcast_S128x1x384_S128x128x384_0_1_2
      (cmpi .slt kpos (broadcastInDim S128x1x384 ![] bcast_S_S128x1x384 (constantI S_ 32 16384#32))))

/-- The band's scores, masked. -/
def near (q : FVec Ideal S2x128x128x4x3x64 .f32) (k : FVec Ideal S2x128x384x4x64 .f32) : FVec Ideal S2x4x3x128x128x384 .f32 :=
  select (broadcastInDim S2x4x3x128x128x384 ![3, 4, 5] bcast_S128x128x384_S2x4x3x128x128x384_3_4_5 seen)
    (mulf (transpose S2x4x3x128x128x384 [0, 1, 5, 2, 4, 3]
        (Host.dotGeneral dot_S2x128x384x4x64_S2x128x128x4x3x64_S2x4x128x384x128x3_4_5_2_24_031_031 none k q)
        transposes_S2x4x128x384x128x3_S2x4x3x128x128x384_0_1_5_2_4_3)
      (broadcastInDim S2x4x3x128x128x384 ![] bcast_S_S2x4x3x128x128x384 (constant S_ .f32 0x3E000000#32)))
    (broadcastInDim S2x4x3x128x128x384 ![] bcast_S_S2x4x3x128x128x384 (id (constant S_ .f32 0xFF800000#32)))

/-- The context's scores. -/
def far (q : FVec Ideal S2x128x128x4x3x64 .f32) (kc : FVec Ideal S2x256x4x64 .f32) : FVec Ideal S2x4x3x128x128x256 .f32 :=
  mulf (transpose S2x4x3x128x128x256 [0, 1, 5, 3, 4, 2]
      (Host.dotGeneral dot_S2x256x4x64_S2x128x128x4x3x64_S2x4x256x128x128x3_3_5_1_124_02_03 none kc q)
      transposes_S2x4x256x128x128x3_S2x4x3x128x128x256_0_1_5_3_4_2)
    (broadcastInDim S2x4x3x128x128x256 ![] bcast_S_S2x4x3x128x128x256 (constant S_ .f32 0x3E000000#32))

/-- The sinks, one for every query. -/
def sinks (x : FVec Ideal S12 .f32) : FVec Ideal S2x4x3x128x128x1 .f32 :=
  broadcastInDim S2x4x3x128x128x1 ![0, 1, 2, 3, 4, 5] bcast_S1x4x3x1x1x1_S2x4x3x128x128x1_0_1_2_3_4_5
    (broadcastInDim S1x4x3x1x1x1 ![1, 2] bcast_S4x3_S1x4x3x1x1x1_1_2 (shapeCast _ x shapeCasts_S12_S4x3))

/-- All of a query's scores. -/
def joined (a : FVec Ideal S2x4x3x128x128x384 .f32) (b : FVec Ideal S2x4x3x128x128x256 .f32) (s : FVec Ideal S2x4x3x128x128x1 .f32) :
    FVec Ideal S2x4x3x128x128x641 .f32 :=
  concatenate S2x4x3x128x128x641 5 [⟨S2x4x3x128x128x384, a⟩, ⟨S2x4x3x128x128x256, b⟩, ⟨S2x4x3x128x128x1, s⟩]
    concatenates_S2x4x3x128x128x384_S2x4x3x128x128x256_S2x4x3x128x128x1_S2x4x3x128x128x641_d5

def top (s : FVec Ideal S2x4x3x128x128x641 .f32) : FVec Ideal S2x4x3x128x128 .f32 :=
  maximumf (broadcastInDim S2x4x3x128x128 ![] bcast_S_S2x4x3x128x128 (constant S_ .f32 0xFF800000#32))
    (Host.reduce FloatOps.maximumf s (constant S_ .f32 0xFF800000#32) reducesTo_S2x4x3x128x128x641_S2x4x3x128x128_d5 h_S_)

def spread (x : FVec Ideal S2x4x3x128x128 .f32) : FVec Ideal S2x4x3x128x128x641 .f32 :=
  broadcastInDim S2x4x3x128x128x641 ![0, 1, 2, 3, 4, 5] bcast_S2x4x3x128x128x1_S2x4x3x128x128x641_0_1_2_3_4_5
    (broadcastInDim S2x4x3x128x128x1 ![0, 1, 2, 3, 4] bcast_S2x4x3x128x128_S2x4x3x128x128x1_0_1_2_3_4 x)

def expo (s : FVec Ideal S2x4x3x128x128x641 .f32) : FVec Ideal S2x4x3x128x128x641 .f32 := Host.exp (subf s (spread (top s)))

def soft (s : FVec Ideal S2x4x3x128x128x641 .f32) : FVec Ideal S2x4x3x128x128x641 .f32 :=
  Host.divf (expo s) (spread (Host.reduceAdd (expo s) (constant S_ .f32 0x00000000#32)
    reducesTo_S2x4x3x128x128x641_S2x4x3x128x128_d5 h_S_))

/-- The result from the values and the weights. -/
def weighted (v : FVec Ideal S2x128x384x4x64 .f32) (vc : FVec Ideal S2x256x4x64 .f32) (p : FVec Ideal S2x4x3x128x128x641 .f32) :
    FVec Ideal S2x16384x768 .bf16 :=
  truncf .bf16 (shapeCast _ (addf
    (transpose S2x128x128x4x3x64 [0, 1, 5, 2, 4, 3]
      (Host.dotGeneral dot_S2x128x384x4x64_S2x4x3x128x128x384_S2x128x4x64x3x128_2_5_4_24_013_031 none v
        (extractStridedSlice S2x4x3x128x128x384 ![0, 0, 0, 0, 0, 0] p slices_S2x4x3x128x128x641_S2x4x3x128x128x384_0_0_0_0_0_0))
      transposes_S2x128x4x64x3x128_S2x128x128x4x3x64_0_1_5_2_4_3)
    (transpose S2x128x128x4x3x64 [0, 4, 5, 1, 3, 2]
      (Host.dotGeneral dot_S2x256x4x64_S2x4x3x128x128x256_S2x4x64x3x128x128_1_5_3_234_02_01 none vc
        (extractStridedSlice S2x4x3x128x128x256 ![0, 0, 0, 0, 0, 384] p slices_S2x4x3x128x128x641_S2x4x3x128x128x256_0_0_0_0_0_384))
      transposes_S2x4x64x3x128x128_S2x128x128x4x3x64_0_4_5_1_3_2)) shapeCasts_S2x128x128x4x3x64_S2x16384x768) bitsLt_bf16_f32

/-- The whole result. -/
def out (a0 : FVec Ideal S2x16384x12x64 .f32) (a1 a2 : FVec Ideal S2x16384x4x64 .f32) (a3 a4 : FVec Ideal S2x256x4x64 .f32)
    (a5 : FVec Ideal S12 .f32) : FVec Ideal S2x16384x768 .bf16 :=
  weighted (band a2) a4 (soft (joined (near (blocks a0) (band a1)) (far (blocks a0) a3) (sinks a5)))

/-- The reference's run ends with that result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

theorem ofBits_bot : Ideal.ofBits .f32 0xFF800000#32 = (⊥ : EReal) := by simp [Ideal.ofBits, Ideal.ieee]

theorem blocks_at (x : FVec Ideal S2x16384x12x64 .f32) (b : Fin 2) (i r : Fin 128) (g : Fin 4) (u : Fin 3) (d : Fin 64) :
    blocks x (ix6 b i r g u d) = x (ix4 b ⟨i.val * 128 + r.val, by omega⟩ ⟨g.val * 3 + u.val, by omega⟩ d) := by
  pointwise [blocks]

theorem padded_at (x : FVec Ideal S2x16384x4x64 .f32) (b : Fin 2) (i : Fin 130) (r : Fin 128) (g : Fin 4) (d : Fin 64) :
    padded x (ix5 b i r g d) = if h : 128 ≤ i.val * 128 + r.val ∧ i.val * 128 + r.val - 128 < 16384
      then x (ix4 b ⟨i.val * 128 + r.val - 128, by omega⟩ g d) else 0 := by
  pointwise [padded]
  have z : (FloatOps.sitofp .f32 0#32 : Ideal .f32) = (0 : EReal) := by
    show (((0#32 : BitVec 32).toInt : ℝ) : EReal) = 0
    simp
  rw [z]

theorem band_at (x : FVec Ideal S2x16384x4x64 .f32) (b : Fin 2) (i : Fin 128) (u : Fin 3) (s : Fin 128) (g : Fin 4) (d : Fin 64) :
    band x (ix5 b i ⟨128 * u.val + s.val, by omega⟩ g d) = padded x (ix5 b ⟨i.val + u.val, by omega⟩ s g d) := by
  pointwise [band]
  have hs := s.isLt
  fin_cases u
  · rw [dif_pos (by simp)]; congr 2; exact Fin.ext (by simp)
  · rw [dif_neg (by simp), dif_pos (by simp)]
    congr 2
    · exact Fin.ext (by simp; omega)
    · exact Fin.ext (by simp)
  · rw [dif_neg (by simp; omega), dif_neg (by simp; omega)]
    congr 2
    · exact Fin.ext (by simp; omega)
    · exact Fin.ext (by simp; omega)

theorem near_at (q : FVec Ideal S2x128x128x4x3x64 .f32) (k : FVec Ideal S2x128x384x4x64 .f32) (b : Fin 2) (g : Fin 4) (u : Fin 3)
    (i r : Fin 128) (j : Fin 384) : near q k (ix6 b g u i r j) = if seen (ix3 i r j) = 1#1
      then (∑ d : Fin 64, k (ix5 b i j g d) * q (ix6 b i r g u d)) * Ideal.ofBits .f32 0x3E000000#32 else ⊥ := by
  pointwise [near]
  have z : (id (constant (F := Ideal) S_ .f32 0xFF800000#32) ix0 : EReal) = ⊥ := by
    show Ideal.ofBits .f32 0xFF800000#32 = ⊥
    exact ofBits_bot
  rw [z]
  rfl

theorem far_at (q : FVec Ideal S2x128x128x4x3x64 .f32) (kc : FVec Ideal S2x256x4x64 .f32) (b : Fin 2) (g : Fin 4) (u : Fin 3)
    (i r : Fin 128) (x : Fin 256) : far q kc (ix6 b g u i r x)
      = (∑ d : Fin 64, kc (ix4 b x g d) * q (ix6 b i r g u d)) * Ideal.ofBits .f32 0x3E000000#32 := by
  pointwise [far]

theorem sinks_at (x : FVec Ideal S12 .f32) (b : Fin 2) (g : Fin 4) (u : Fin 3) (i r : Fin 128) :
    sinks x (ix6 b g u i r 0) = x (ix1 ⟨g.val * 3 + u.val, by omega⟩) := by
  pointwise [sinks]

theorem joined_near (a : FVec Ideal S2x4x3x128x128x384 .f32) (c : FVec Ideal S2x4x3x128x128x256 .f32)
    (s : FVec Ideal S2x4x3x128x128x1 .f32) (b : Fin 2) (g : Fin 4) (u : Fin 3) (i r : Fin 128) (j : Fin 384) :
    joined a c s (ix6 b g u i r ⟨j.val, by omega⟩) = a (ix6 b g u i r j) := by
  pointwise [joined]

theorem joined_far (a : FVec Ideal S2x4x3x128x128x384 .f32) (c : FVec Ideal S2x4x3x128x128x256 .f32)
    (s : FVec Ideal S2x4x3x128x128x1 .f32) (b : Fin 2) (g : Fin 4) (u : Fin 3) (i r : Fin 128) (x : Fin 256) :
    joined a c s (ix6 b g u i r ⟨384 + x.val, by omega⟩) = c (ix6 b g u i r x) := by
  pointwise [joined]

theorem joined_sink (a : FVec Ideal S2x4x3x128x128x384 .f32) (c : FVec Ideal S2x4x3x128x128x256 .f32)
    (s : FVec Ideal S2x4x3x128x128x1 .f32) (b : Fin 2) (g : Fin 4) (u : Fin 3) (i r : Fin 128) :
    joined a c s (ix6 b g u i r ⟨640, by omega⟩) = s (ix6 b g u i r 0) := by
  pointwise [joined]

/-- The indices one entry of a reduction along the last of six axes comes from. -/
theorem fiber {n0 n1 n2 n3 n4 n5 : ℕ}
    (hr : (⟨6, ![n0, n1, n2, n3, n4, n5]⟩ : Shape).ReducesTo [5] ⟨5, ![n0, n1, n2, n3, n4]⟩)
    (b : Fin n0) (g : Fin n1) (u : Fin n2) (i : Fin n3) (r : Fin n4) (z : (⟨6, ![n0, n1, n2, n3, n4, n5]⟩ : Shape).Idx) :
    hr.drop z = ix5 b g u i r ↔ ∃ k : Fin n5, ix6 b g u i r k = z := by
  constructor
  · intro e
    refine ⟨z 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    refine funext fun a => Fin.ext ?_
    match a with
    | ⟨0, _⟩ => rfl
    | ⟨1, _⟩ => rfl
    | ⟨2, _⟩ => rfl
    | ⟨3, _⟩ => rfl
    | ⟨4, _⟩ => rfl

theorem sum_any {n0 n1 n2 n3 n4 n5 : ℕ} (s : FVec Ideal ⟨6, ![n0, n1, n2, n3, n4, n5]⟩ .f32)
    (hr : (⟨6, ![n0, n1, n2, n3, n4, n5]⟩ : Shape).ReducesTo [5] ⟨5, ![n0, n1, n2, n3, n4]⟩)
    (b : Fin n0) (g : Fin n1) (u : Fin n2) (i : Fin n3) (r : Fin n4) :
    Ideal.hostReduceAdd hr s 0 (ix5 b g u i r) = ∑ j : Fin n5, s (ix6 b g u i r j) := by
  unfold Ideal.hostReduceAdd
  rw [Finset.sum_filter_eq_sum_of_fiber _ (fun k : Fin n5 => ix6 b g u i r k) (fun _ _ e => congrFun e 5) (fiber hr b g u i r)]
  exact zero_add _

/-- A row's maximum, at any sizes. -/
theorem top_any {n0 n1 n2 n3 n4 n5 : ℕ} (s : FVec Ideal ⟨6, ![n0, n1, n2, n3, n4, n5]⟩ .f32)
    (hb : Shape.BroadcastsInDim S_ ⟨5, ![n0, n1, n2, n3, n4]⟩ ![])
    (hr : (⟨6, ![n0, n1, n2, n3, n4, n5]⟩ : Shape).ReducesTo [5] ⟨5, ![n0, n1, n2, n3, n4]⟩)
    (b : Fin n0) (g : Fin n1) (u : Fin n2) (i : Fin n3) (r : Fin n4) :
    maximumf (broadcastInDim ⟨5, ![n0, n1, n2, n3, n4]⟩ ![] hb (constant (F := Ideal) S_ .f32 0xFF800000#32))
      (Host.reduce FloatOps.maximumf s (constant S_ .f32 0xFF800000#32) hr h_S_) (ix5 b g u i r)
      = max (⊥ : EReal) (Finset.univ.fold max (⊥ : EReal) fun j : Fin n5 => (s (ix6 b g u i r j) : EReal)) := by
  pointwise
  rw [ofBits_bot, Finset.fold_filter_eq_fold_of_fiber max _ (fun k : Fin n5 => ix6 b g u i r k) (fun _ _ e => congrFun e 5)
    (fiber hr b g u i r)]

theorem top_at (s : FVec Ideal S2x4x3x128x128x641 .f32) (b : Fin 2) (g : Fin 4) (u : Fin 3) (i r : Fin 128) :
    top s (ix5 b g u i r) = max (⊥ : EReal) (Finset.univ.fold max (⊥ : EReal) fun j : Fin 641 => (s (ix6 b g u i r j) : EReal)) :=
  top_any s bcast_S_S2x4x3x128x128 reducesTo_S2x4x3x128x128x641_S2x4x3x128x128_d5 b g u i r

theorem expo_at (s : FVec Ideal S2x4x3x128x128x641 .f32) (b : Fin 2) (g : Fin 4) (u : Fin 3) (i r : Fin 128) (j : Fin 641) :
    expo s (ix6 b g u i r j) = Ideal.exp (s (ix6 b g u i r j) - top s (ix5 b g u i r)) := by
  pointwise [expo, spread]

theorem soft_at (s : FVec Ideal S2x4x3x128x128x641 .f32) (b : Fin 2) (g : Fin 4) (u : Fin 3) (i r : Fin 128) (j : Fin 641) :
    soft s (ix6 b g u i r j) = Ideal.div (expo s (ix6 b g u i r j)) (∑ j' : Fin 641, expo s (ix6 b g u i r j')) := by
  pointwise [soft, spread]
  exact congrArg _ (sum_any (expo s) reducesTo_S2x4x3x128x128x641_S2x4x3x128x128_d5 b g u i r)

theorem weighted_at (v : FVec Ideal S2x128x384x4x64 .f32) (vc : FVec Ideal S2x256x4x64 .f32)
    (p : FVec Ideal S2x4x3x128x128x641 .f32) (b : Fin 2) (i r : Fin 128) (g : Fin 4) (u : Fin 3) (l : Fin 64) :
    weighted v vc p (ix3 b ⟨i.val * 128 + r.val, by omega⟩ ⟨(g.val * 3 + u.val) * 64 + l.val, by omega⟩)
      = (∑ j : Fin 384, v (ix5 b i j g l) * p (ix6 b g u i r ⟨j.val, by omega⟩))
        + ∑ x : Fin 256, vc (ix4 b x g l) * p (ix6 b g u i r ⟨384 + x.val, by omega⟩) := by
  pointwise [weighted]

/-- A key's position, as a word. -/
theorem kpos_at (i : Fin 128) (j : Fin 384) : kpos (ix3 i 0 j) = BitVec.ofInt 32 ((i.val : ℤ) * 128 - 128 + j.val) := by
  pointwise [kpos, starts]
  show BitVec.ofNat 32 i.val * 128#32 - 128#32 + BitVec.ofNat 32 j.val = _
  apply BitVec.eq_of_toNat_eq
  have := i.isLt
  have := j.isLt
  simp [BitVec.toNat_ofInt]
  omega

theorem qpos_at (i r : Fin 128) : qpos (ix3 i r 0) = BitVec.ofInt 32 ((i.val : ℤ) * 128 + r.val) := by
  pointwise [qpos, starts]
  show BitVec.ofNat 32 i.val * 128#32 + BitVec.ofNat 32 r.val = _
  apply BitVec.eq_of_toNat_eq
  have := i.isLt
  have := r.isLt
  simp [BitVec.toNat_ofInt]
  omega

theorem diff (i r : Fin 128) (j : Fin 384) : IntOp.subi (BitVec.ofInt 32 ((i.val : ℤ) * 128 - 128 + j.val))
    (BitVec.ofInt 32 ((i.val : ℤ) * 128 + r.val)) = BitVec.ofInt 32 (((j.val + 128 - r.val : ℕ) : ℤ) - 256) := by
  show BitVec.ofInt 32 _ - BitVec.ofInt 32 _ = _
  have := i.isLt
  have := j.isLt
  have := r.isLt
  apply BitVec.eq_of_toNat_eq
  simp [BitVec.toNat_ofInt]
  omega

theorem close : ∀ d : Fin 512, IntOp.cmpi .sle (IntOp.absi (BitVec.ofInt 32 ((d.val : ℤ) - 256))) 128#32 = 1#1
    ↔ 128 ≤ d.val ∧ d.val ≤ 384 := by decide

theorem both (a b : BitVec 1) : IntOp.andi a b = 1#1 ↔ a = 1#1 ∧ b = 1#1 := by revert a b; decide

theorem toInt_small (n : ℤ) (h : -2147483648 ≤ n) (h' : n < 2147483648) : (BitVec.ofInt 32 n).toInt = n := by
  rw [BitVec.toInt_ofInt]
  exact Int.bmod_eq_of_le (by norm_num; omega) (by norm_num; omega)

/-- The mask: within the band, and within the tokens. -/
theorem seen_at (i r : Fin 128) (j : Fin 384) : seen (ix3 i r j) = 1#1
    ↔ (r.val ≤ j.val ∧ j.val ≤ r.val + 256) ∧ 128 ≤ i.val * 128 + j.val ∧ i.val * 128 + j.val < 16512 := by
  have hi := i.isLt
  have hj := j.isLt
  have hr := r.isLt
  pointwise [seen]
  rw [kpos_at, qpos_at, diff, both, both, close ⟨j.val + 128 - r.val, by omega⟩, cmpi_sge_eq, cmpi_slt_eq,
    toInt_small _ (by omega) (by omega), ofBool_decide_eq_one_iff, ofBool_decide_eq_one_iff]
  have e0 : (0#32 : BitVec 32).toInt = 0 := by decide
  have e1 : (16384#32 : BitVec 32).toInt = 16384 := by decide
  rw [e0, e1]
  constructor
  · rintro ⟨⟨⟨a, b⟩, c⟩, d⟩
    have a' : 128 ≤ j.val + 128 - r.val := a
    have b' : j.val + 128 - r.val ≤ 384 := b
    omega
  · rintro ⟨⟨a, b⟩, c, d⟩
    exact ⟨⟨⟨show 128 ≤ j.val + 128 - r.val by omega, show j.val + 128 - r.val ≤ 384 by omega⟩, by omega⟩, by omega⟩

/-- The sum over all of a query's keys. -/
theorem sum_joined (f : Fin 641 → EReal) : ∑ j : Fin 641, f j
    = (∑ j : Fin 384, f ⟨j.val, by omega⟩) + (∑ x : Fin 256, f ⟨384 + x.val, by omega⟩) + f ⟨640, by omega⟩ := by
  rw [Fin.sum_univ_castSucc (n := 640) f]
  congr 1
  exact Fin.sum_univ_add (a := 384) (b := 256) fun j : Fin (384 + 256) => f (Fin.castSucc (n := 640) j)

end Cert.Reference4Ideal.Window

end
-- ==== Proof.WindowMath.lean ====
/-
  The windowed softmax at one query, over the extended reals: masked scores weigh nothing, the sink only adds to the
  denominator, and the sums may be divided at the end or every weight before.
-/
module

public import proofs.«01_k».proof.Proof.Softmax

@[expose] public section

noncomputable section

namespace Cert.Windowed

open Idealize.ShloMosaic Cert.Softmax
open scoped BigOperators

/-- A score's weight before it is made relative to a maximum: zero for a masked one. -/
def wt (e : EReal) : ℝ := if e = ⊥ then 0 else Real.exp e.toReal

theorem wt_nonneg (e : EReal) : 0 ≤ wt e := by
  unfold wt
  split_ifs
  · exact le_rfl
  · exact (Real.exp_pos _).le

theorem wt_coe (r : ℝ) : wt (r : EReal) = Real.exp r := by
  unfold wt
  rw [if_neg (EReal.coe_ne_bot r), EReal.toReal_coe]

/-- The weight relative to a real number. -/
theorem exp_sub (e : EReal) (h : e ≠ ⊤) (M : ℝ) : Ideal.exp (e - (M : EReal)) = ((wt e * Real.exp (-M) : ℝ) : EReal) := by
  induction e using EReal.rec with
  | bot => simp [wt]
  | top => exact absurd rfl h
  | coe r => rw [← EReal.coe_sub, Ideal.exp_coe, wt_coe, ← Real.exp_add]; rfl

/-- A maximum of scores none of which is infinite and one of which is real is real. -/
theorem fold_real {ι : Type*} (T : Finset ι) (f : ι → EReal) (h : ∀ i ∈ T, f i ≠ ⊤) (a : ι) (ha : a ∈ T) (r : ℝ)
    (hr : f a = (r : EReal)) : ∃ M : ℝ, T.fold max (⊥ : EReal) f = (M : EReal) := by
  have hne : T.fold max (⊥ : EReal) f ≠ ⊤ := by
    have : T.fold max (⊥ : EReal) f < ⊤ := (Finset.fold_max_lt (c := ⊤)).2 ⟨bot_lt_top, fun i hi => lt_top_iff_ne_top.2 (h i hi)⟩
    exact this.ne
  have hge : (r : EReal) ≤ T.fold max (⊥ : EReal) f := (Finset.le_fold_max (r : EReal)).2 (Or.inr ⟨a, ha, hr.ge⟩)
  exact ⟨(T.fold max (⊥ : EReal) f).toReal, (EReal.coe_toReal hne (fun e => by rw [e] at hge; exact absurd hge (by simp))).symm⟩

/-- So is a maximum without a real one, when it is then taken with a real number. -/
theorem fold_ne_top {ι : Type*} (T : Finset ι) (f : ι → EReal) (h : ∀ i ∈ T, f i ≠ ⊤) : T.fold max (⊥ : EReal) f ≠ ⊤ := by
  have : T.fold max (⊥ : EReal) f < ⊤ := (Finset.fold_max_lt (c := ⊤)).2 ⟨bot_lt_top, fun i hi => lt_top_iff_ne_top.2 (h i hi)⟩
  exact this.ne

theorem max_real (a b s : EReal) (ha : a ≠ ⊤) (r : ℝ) (hb : b = (r : EReal)) (hs : s ≠ ⊤) :
    ∃ M : ℝ, max (max a b) s = (M : EReal) := by
  have hne : max (max a b) s ≠ ⊤ := by
    subst hb
    have : max (max a (r : EReal)) s < ⊤ := max_lt (max_lt (lt_top_iff_ne_top.2 ha) (EReal.coe_lt_top r)) (lt_top_iff_ne_top.2 hs)
    exact this.ne
  have hge : (r : EReal) ≤ max (max a b) s := hb ▸ le_max_of_le_left (le_max_right a b)
  exact ⟨(max (max a b) s).toReal, (EReal.coe_toReal hne (fun e => by rw [e] at hge; exact absurd hge (by simp))).symm⟩

theorem div_real (x : EReal) (r : ℝ) (hr : 0 < r) : Ideal.div x (r : EReal) = x * ((r⁻¹ : ℝ) : EReal) := by
  unfold Ideal.div
  rw [if_neg (by exact_mod_cast hr.ne'), EReal.coe_inv]

section
variable {n₁ n₂ : ℕ} (e₁ : Fin n₁ → EReal) (e₂ : Fin n₂ → EReal) (s : EReal)

/-- The sum of the weights. -/
def total : ℝ := (∑ j, wt (e₁ j)) + (∑ j, wt (e₂ j)) + wt s

theorem total_pos (x : Fin n₂) (r : ℝ) (h : e₂ x = (r : EReal)) : 0 < total e₁ e₂ s := by
  unfold total
  have h1 : 0 ≤ ∑ j, wt (e₁ j) := Finset.sum_nonneg fun j _ => wt_nonneg _
  have h2 : 0 < ∑ j, wt (e₂ j) := Finset.sum_pos' (fun j _ => wt_nonneg _) ⟨x, Finset.mem_univ _, by rw [h, wt_coe]; exact Real.exp_pos _⟩
  have h3 := wt_nonneg s
  linarith

/-- The weighted sum of the values, divided by the sum of the weights. -/
def mean (v₁ : Fin n₁ → EReal) (v₂ : Fin n₂ → EReal) : EReal :=
  (((total e₁ e₂ s)⁻¹ : ℝ) : EReal) * ((∑ j, ((wt (e₁ j) : ℝ) : EReal) * v₁ j) + ∑ j, ((wt (e₂ j) : ℝ) : EReal) * v₂ j)

/-- A sum of weighted values, the weights relative to `M`. -/
theorem sum_sub {n : ℕ} (e : Fin n → EReal) (h : ∀ j, e j ≠ ⊤) (v : Fin n → EReal) (M : ℝ) :
    ∑ j, Ideal.exp (e j - (M : EReal)) * v j = ((Real.exp (-M) : ℝ) : EReal) * ∑ j, ((wt (e j) : ℝ) : EReal) * v j := by
  rw [coe_mul_sum _ _ (Real.exp_pos _).le]
  refine Finset.sum_congr rfl fun j _ => ?_
  rw [exp_sub _ (h j), mul_comm (wt (e j)), EReal.coe_mul, mul_assoc]

theorem sum_one {n : ℕ} (e : Fin n → EReal) (h : ∀ j, e j ≠ ⊤) (M : ℝ) :
    ∑ j, Ideal.exp (e j - (M : EReal)) * 1 = ((Real.exp (-M) * ∑ j, wt (e j) : ℝ) : EReal) := by
  rw [sum_sub e h, EReal.coe_mul, coe_sum]
  simp only [mul_one]

/-- The kernel's form: the sums, then one division by the ones' lane plus the sink's weight. -/
theorem late (h₁ : ∀ j, e₁ j ≠ ⊤) (h₂ : ∀ j, e₂ j ≠ ⊤) (hs : s ≠ ⊤) (x : Fin n₂) (r : ℝ) (hx : e₂ x = (r : EReal))
    (v₁ : Fin n₁ → EReal) (v₂ : Fin n₂ → EReal) (M : ℝ) :
    Ideal.div ((∑ j, Ideal.exp (e₁ j - (M : EReal)) * v₁ j) + ∑ j, Ideal.exp (e₂ j - (M : EReal)) * v₂ j)
      (((∑ j, Ideal.exp (e₁ j - (M : EReal)) * 1) + ∑ j, Ideal.exp (e₂ j - (M : EReal)) * 1) + Ideal.exp (s - (M : EReal)))
      = mean e₁ e₂ s v₁ v₂ := by
  have ht := total_pos e₁ e₂ s x r hx
  have hk := Real.exp_pos (-M)
  rw [sum_one e₁ h₁, sum_one e₂ h₂, exp_sub s hs, ← EReal.coe_add, ← EReal.coe_add]
  have hd : Real.exp (-M) * ∑ j, wt (e₁ j) + Real.exp (-M) * ∑ j, wt (e₂ j) + wt s * Real.exp (-M)
      = Real.exp (-M) * total e₁ e₂ s := by unfold total; ring
  rw [hd, div_real _ _ (mul_pos hk ht), sum_sub e₁ h₁, sum_sub e₂ h₂,
    ← EReal.left_distrib_of_nonneg_of_ne_top (by exact_mod_cast hk.le) (EReal.coe_ne_top _), mul_comm, ← mul_assoc, ← EReal.coe_mul]
  unfold mean
  congr 2
  field_simp

/-- The reference's form: every weight divided. -/
theorem early (h₁ : ∀ j, e₁ j ≠ ⊤) (h₂ : ∀ j, e₂ j ≠ ⊤) (hs : s ≠ ⊤) (x : Fin n₂) (r : ℝ) (hx : e₂ x = (r : EReal))
    (v₁ : Fin n₁ → EReal) (v₂ : Fin n₂ → EReal) (M : ℝ) (D : EReal)
    (hD : D = (∑ j, Ideal.exp (e₁ j - (M : EReal))) + (∑ j, Ideal.exp (e₂ j - (M : EReal))) + Ideal.exp (s - (M : EReal))) :
    (∑ j, v₁ j * Ideal.div (Ideal.exp (e₁ j - (M : EReal))) D) + (∑ j, v₂ j * Ideal.div (Ideal.exp (e₂ j - (M : EReal))) D)
      = mean e₁ e₂ s v₁ v₂ := by
  have ht := total_pos e₁ e₂ s x r hx
  have hk := Real.exp_pos (-M)
  have hD' : D = ((Real.exp (-M) * total e₁ e₂ s : ℝ) : EReal) := by
    have a1 := sum_one e₁ h₁ M
    have a2 := sum_one e₂ h₂ M
    simp only [mul_one] at a1 a2
    rw [hD, a1, a2, exp_sub s hs, ← EReal.coe_add, ← EReal.coe_add]
    congr 1
    unfold total; ring
  have hw : ∀ e : EReal, e ≠ ⊤ → ∀ v : EReal, v * Ideal.div (Ideal.exp (e - (M : EReal))) D
      = (((total e₁ e₂ s)⁻¹ : ℝ) : EReal) * (((wt e : ℝ) : EReal) * v) := fun e he v => by
    rw [hD', div_real _ _ (mul_pos hk ht), exp_sub e he, ← EReal.coe_mul, ← mul_assoc, ← EReal.coe_mul, mul_comm]
    congr 2
    field_simp
  have ht' : (0 : ℝ) ≤ (total e₁ e₂ s)⁻¹ := (inv_pos.2 ht).le
  rw [Finset.sum_congr rfl fun j _ => hw _ (h₁ j) (v₁ j), Finset.sum_congr rfl fun j _ => hw _ (h₂ j) (v₂ j),
    ← coe_mul_sum _ _ ht', ← coe_mul_sum _ _ ht',
    ← EReal.left_distrib_of_nonneg_of_ne_top (by exact_mod_cast ht') (EReal.coe_ne_top _)]
  rfl

/-- A masked key's value does not matter. -/
theorem mean_congr (v₁ v₁' : Fin n₁ → EReal) (v₂ : Fin n₂ → EReal) (h : ∀ j, e₁ j = ⊥ ∨ v₁ j = v₁' j) :
    mean e₁ e₂ s v₁ v₂ = mean e₁ e₂ s v₁' v₂ := by
  unfold mean
  congr 2
  refine Finset.sum_congr rfl fun j _ => ?_
  rcases h j with h | h
  · rw [h]; simp [wt]
  · rw [h]

end

/-- The scale goes into the product's first factor, for real vectors. -/
theorem scaled (n : ℕ) (q k : Fin n → EReal) (hq : ∀ d, ∃ r : ℝ, q d = (r : EReal)) (hk : ∀ d, ∃ r : ℝ, k d = (r : EReal)) (c : ℝ) :
    ∃ r : ℝ, (∑ d, (q d * (c : EReal)) * k d) = (r : EReal) ∧ (∑ d, k d * q d) * (c : EReal) = (r : EReal) := by
  choose q' hq' using hq
  choose k' hk' using hk
  refine ⟨∑ d, q' d * c * k' d, ?_, ?_⟩
  · rw [coe_sum]
    refine Finset.sum_congr rfl fun d _ => ?_
    rw [hq', hk', EReal.coe_mul, EReal.coe_mul]
  · have : ∑ d, k d * q d = ((∑ d, k' d * q' d : ℝ) : EReal) := by
      rw [coe_sum]
      refine Finset.sum_congr rfl fun d _ => ?_
      rw [hq', hk', EReal.coe_mul]
    rw [this, ← EReal.coe_mul, Finset.sum_mul]
    congr 1
    exact Finset.sum_congr rfl fun d _ => by ring

end Cert.Windowed

end
-- ==== Proof.WindowMean.lean ====
/-
  The windowed attention in plain sums, and that the reference's result is it.
-/
module

public import proofs.«01_k».proof.Proof.WindowRef
public import proofs.«01_k».proof.Proof.WindowMath

@[expose] public section

noncomputable section

namespace Cert.Reference4Ideal.Window

open Idealize.ShloMosaic Idealize.ShloMosaic.TcCoe Idealize.SL.Sem

/-- The score's scale. -/
theorem scale : Ideal.ofBits .f32 0x3E000000#32 = (((1 / 8 : ℝ)) : EReal) := by
  simp [Ideal.ofBits, Ideal.ieee]
  rw [← EReal.coe_mul]
  norm_num

/-- A token's row, zero past the tokens. -/
def row (x : FVec Ideal S2x16384x4x64 .f32) (b : Fin 2) (n : ℕ) (g : Fin 4) (d : Fin 64) : EReal :=
  if h : n < 16384 then x (ix4 b ⟨n, h⟩ g d) else 0

variable (a0 : FVec Ideal S2x16384x12x64 .f32) (a1 a2 : FVec Ideal S2x16384x4x64 .f32) (a3 a4 : FVec Ideal S2x256x4x64 .f32)
  (a5 : FVec Ideal S12 .f32) (b : Fin 2) (i r : Fin 128) (g : Fin 4) (u : Fin 3) (l : Fin 64)

/-- The query's lane. -/
def query (d : Fin 64) : EReal := a0 (ix4 b ⟨i.val * 128 + r.val, by omega⟩ ⟨g.val * 3 + u.val, by omega⟩ d)

/-- Whether a key of the band is seen. -/
def Sees (j : Fin 384) : Prop := (r.val ≤ j.val ∧ j.val ≤ r.val + 256) ∧ 128 ≤ i.val * 128 + j.val ∧ i.val * 128 + j.val < 16512

instance (j : Fin 384) : Decidable (Sees i r j) := by unfold Sees; infer_instance

/-- The band's scores. -/
def bandScore (j : Fin 384) : EReal := if Sees i r j
  then ∑ d : Fin 64, (query a0 b i r g u d * ((1 / 8 : ℝ) : EReal)) * row a1 b (i.val * 128 + j.val - 128) g d else ⊥

/-- The context's scores. -/
def ctxScore (x : Fin 256) : EReal := ∑ d : Fin 64, (query a0 b i r g u d * ((1 / 8 : ℝ) : EReal)) * (a3 (ix4 b x g d) : EReal)

/-- The result at a token, a head and a lane. -/
def attended : EReal :=
  Cert.Windowed.mean (bandScore a0 a1 b i r g u) (ctxScore a0 a3 b i r g u) (a5 (ix1 ⟨g.val * 3 + u.val, by omega⟩))
    (fun j => row a2 b (i.val * 128 + j.val - 128) g l) (fun x => a4 (ix4 b x g l))

theorem band_row (x : FVec Ideal S2x16384x4x64 .f32) (j : Fin 384) (h : Sees i r j) (d : Fin 64) :
    band x (ix5 b i j g d) = row x b (i.val * 128 + j.val - 128) g d := by
  have hi := i.isLt
  obtain ⟨u, s, rfl⟩ : ∃ (u : Fin 3) (s : Fin 128), j = ⟨128 * u.val + s.val, by omega⟩ := have hj := j.isLt
    ⟨⟨j.val / 128, by omega⟩, ⟨j.val % 128, by omega⟩, Fin.ext (by show j.val = 128 * (j.val / 128) + j.val % 128; omega)⟩
  have h3 : 128 ≤ i.val * 128 + (128 * u.val + s.val) := h.2.1
  have h4 : i.val * 128 + (128 * u.val + s.val) < 16512 := h.2.2
  have e : (i.val + u.val) * 128 + s.val - 128 = i.val * 128 + (128 * u.val + s.val) - 128 := by omega
  rw [band_at, padded_at]
  have c : 128 ≤ (i.val + u.val) * 128 + s.val ∧ (i.val + u.val) * 128 + s.val - 128 < 16384 := ⟨by omega, by omega⟩
  have c' : i.val * 128 + (128 * u.val + s.val) - 128 < 16384 := by omega
  refine (dif_pos c).trans (Eq.trans ?_ (dif_pos c').symm)
  exact congrArg (fun z : Fin 16384 => (x (ix4 b z g d) : EReal)) (Fin.ext e)

/-- Every place of the joined scores is the band's, the context's or the sink's. -/
theorem places (j : Fin 641) : (∃ j' : Fin 384, j = ⟨j'.val, by omega⟩) ∨ (∃ x : Fin 256, j = ⟨384 + x.val, by omega⟩)
    ∨ j = ⟨640, by omega⟩ := by
  have := j.isLt
  by_cases h : j.val < 384
  · exact .inl ⟨⟨j.val, h⟩, rfl⟩
  · by_cases h' : j.val < 640
    · exact .inr (.inl ⟨⟨j.val - 384, by omega⟩, Fin.ext (by show j.val = 384 + (j.val - 384); omega)⟩)
    · exact .inr (.inr (Fin.ext (by show j.val = 640; omega)))

variable (h0 : ∀ b n h d, ∃ r : ℝ, a0 (ix4 b n h d) = ((r : ℝ) : EReal)) (h1 : ∀ b n h d, ∃ r : ℝ, a1 (ix4 b n h d) = ((r : ℝ) : EReal))
  (h3 : ∀ b n h d, ∃ r : ℝ, a3 (ix4 b n h d) = ((r : ℝ) : EReal)) (h5 : ∀ h, a5 (ix1 h) ≠ (⊤ : EReal))

include h1 in
theorem row_real (n : ℕ) (d : Fin 64) : ∃ z : ℝ, row a1 b n g d = (z : EReal) := by
  unfold row
  split_ifs with h
  · exact h1 _ _ _ _
  · exact ⟨0, by simp⟩

include h0 h1 in
theorem bandScore_ne_top (j : Fin 384) : bandScore a0 a1 b i r g u j ≠ ⊤ := by
  unfold bandScore
  split_ifs with h
  · obtain ⟨z, hz, -⟩ := Cert.Windowed.scaled 64 (query a0 b i r g u) (row a1 b (i.val * 128 + j.val - 128) g)
      (fun d => h0 _ _ _ _) (fun d => row_real a1 b g h1 _ d) (1 / 8)
    rw [hz]
    exact EReal.coe_ne_top _
  · exact bot_ne_top

include h0 h3 in
theorem ctxScore_real (x : Fin 256) : ∃ z : ℝ, ctxScore a0 a3 b i r g u x = (z : EReal) := by
  obtain ⟨z, hz, -⟩ := Cert.Windowed.scaled 64 (query a0 b i r g u) (fun d => a3 (ix4 b x g d))
    (fun d => h0 _ _ _ _) (fun d => h3 _ _ _ _) (1 / 8)
  exact ⟨z, hz⟩

include h0 h1 in
theorem near_score (j : Fin 384) : near (blocks a0) (band a1) (ix6 b g u i r j) = bandScore a0 a1 b i r g u j := by
  rw [near_at]
  unfold bandScore
  by_cases h : Sees i r j
  · rw [if_pos ((seen_at i r j).2 h), if_pos h, scale]
    obtain ⟨z, hz, hz'⟩ := Cert.Windowed.scaled 64 (query a0 b i r g u) (row a1 b (i.val * 128 + j.val - 128) g)
      (fun d => h0 _ _ _ _) (fun d => row_real a1 b g h1 _ d) (1 / 8)
    rw [hz, ← hz']
    congr 1
    refine Finset.sum_congr rfl fun d _ => ?_
    rw [band_row b i r g a1 j h, blocks_at]
    rfl
  · rw [if_neg (fun h' => h ((seen_at i r j).1 h')), if_neg h]

include h0 h3 in
theorem far_score (x : Fin 256) : far (blocks a0) a3 (ix6 b g u i r x) = ctxScore a0 a3 b i r g u x := by
  rw [far_at, scale]
  unfold ctxScore
  obtain ⟨z, hz, hz'⟩ := Cert.Windowed.scaled 64 (query a0 b i r g u) (fun d => a3 (ix4 b x g d))
    (fun d => h0 _ _ _ _) (fun d => h3 _ _ _ _) (1 / 8)
  rw [hz, ← hz']
  congr 1
  refine Finset.sum_congr rfl fun d _ => ?_
  rw [blocks_at]
  rfl

include h0 h1 h3 h5 in
/-- THE REFERENCE at an index. -/
theorem reference_at : out a0 a1 a2 a3 a4 a5 (ix3 b ⟨i.val * 128 + r.val, by omega⟩ ⟨(g.val * 3 + u.val) * 64 + l.val, by omega⟩)
    = attended a0 a1 a2 a3 a4 a5 b i r g u l := by
  unfold out attended
  rw [weighted_at]
  generalize hJ : joined (near (blocks a0) (band a1)) (far (blocks a0) a3) (sinks a5) = J
  have jn : ∀ j : Fin 384, (J (ix6 b g u i r ⟨j.val, by omega⟩) : EReal) = bandScore a0 a1 b i r g u j := fun j => by
    rw [← hJ, joined_near, near_score a0 a1 b i r g u h0 h1]
  have jf : ∀ x : Fin 256, (J (ix6 b g u i r ⟨384 + x.val, by omega⟩) : EReal) = ctxScore a0 a3 b i r g u x := fun x => by
    rw [← hJ, joined_far, far_score a0 a3 b i r g u h0 h3]
  have js : (J (ix6 b g u i r ⟨640, by omega⟩) : EReal) = a5 (ix1 ⟨g.val * 3 + u.val, by omega⟩) := by
    rw [← hJ, joined_sink, sinks_at]
  have nt : ∀ j ∈ (Finset.univ : Finset (Fin 641)), (J (ix6 b g u i r j) : EReal) ≠ ⊤ := fun j _ => by
    rcases places j with ⟨j', rfl⟩ | ⟨x, rfl⟩ | rfl
    · rw [jn]; exact bandScore_ne_top a0 a1 b i r g u h0 h1 j'
    · rw [jf]
      obtain ⟨z, hz⟩ := ctxScore_real a0 a3 b i r g u h0 h3 x
      rw [hz]
      exact EReal.coe_ne_top _
    · rw [js]; exact h5 _
  obtain ⟨z, hz⟩ := ctxScore_real a0 a3 b i r g u h0 h3 0
  obtain ⟨M, hM⟩ := Cert.Windowed.fold_real Finset.univ (fun j : Fin 641 => (J (ix6 b g u i r j) : EReal)) nt
    ⟨384 + (0 : Fin 256).val, by decide⟩ (Finset.mem_univ _) z ((jf 0).trans hz)
  have ht : top J (ix5 b g u i r) = (M : EReal) := by rw [top_at, hM, max_eq_right bot_le]
  have hsum := sum_joined fun j => expo J (ix6 b g u i r j)
  simp only [soft_at, hsum]
  simp only [expo_at, ht, jn, jf, js]
  refine (Cert.Windowed.early _ _ _ (bandScore_ne_top a0 a1 b i r g u h0 h1) (fun x => ?_) (h5 _) 0 z hz _ _ M _ rfl).trans ?_
  · obtain ⟨z, hz⟩ := ctxScore_real a0 a3 b i r g u h0 h3 x
    rw [hz]
    exact EReal.coe_ne_top _
  · refine Cert.Windowed.mean_congr _ _ _ _ _ _ fun j => ?_
    by_cases h : Sees i r j
    · exact .inr (band_row b i r g a2 j h l)
    · exact .inl (if_neg h)

end Cert.Reference4Ideal.Window

end
-- ==== Proof.WindowValue.lean ====
/-
  A block of the kernel's results is the windowed attention in plain sums.
-/
module

public import proofs.«01_k».proof.Proof.WindowBlocks
public import proofs.«01_k».proof.Proof.WindowMean

@[expose] public section

noncomputable section

namespace Cert.Kernel4Ideal.Window

open Idealize.ShloMosaic Idealize.ShloMosaic.TcCoe Cert.Kernel4Ideal.Gen Idealize.SL.Sem
open Cert.Reference4Ideal.Window (row query Sees bandScore ctxScore attended)

/-- A group's result, from its scores and its values: lanes 64 and up of the values being one, they sum the weights. -/
theorem attend_at (mask : IVec S384x384 1) (q k v : FVec Ideal S384x128 .bf16) (kx vx : FVec Ideal S256x128 .bf16)
    (s : FVec Ideal S384x1 .f32) (R : Fin 384) (l : Fin 64) (e₁ : Fin 384 → EReal) (e₂ : Fin 256 → EReal) (z : EReal)
    (v₁ : Fin 384 → EReal) (v₂ : Fin 256 → EReal) (hn : ∀ j, near mask q k (ix2 R j) = e₁ j)
    (hf : ∀ x, far q kx (ix2 R x) = e₂ x) (hs : s (ix2 R 0) = z) (n₁ : ∀ j, e₁ j ≠ ⊤) (n₂ : ∀ x, ∃ r : ℝ, e₂ x = (r : EReal))
    (n₃ : z ≠ ⊤) (hv : ∀ j, e₁ j = ⊥ ∨ v (ix2 j ⟨l.val, by omega⟩) = v₁ j)
    (hw : ∀ j, e₁ j = ⊥ ∨ v (ix2 j ⟨l.val + 64, by omega⟩) = (1 : EReal)) (hx : ∀ x, vx (ix2 x ⟨l.val, by omega⟩) = v₂ x)
    (hy : ∀ x, vx (ix2 x ⟨l.val + 64, by omega⟩) = (1 : EReal)) :
    attend mask q k v kx vx s (ix2 R ⟨l.val, by omega⟩) = Cert.Windowed.mean e₁ e₂ z v₁ v₂ := by
  have n₂' : ∀ x, e₂ x ≠ ⊤ := fun x => by
    obtain ⟨r, hr⟩ := n₂ x
    rw [hr]
    exact EReal.coe_ne_top _
  obtain ⟨r, hr⟩ := n₂ 0
  obtain ⟨N, hN⟩ := Cert.Windowed.fold_real Finset.univ e₂ (fun x _ => n₂' x) 0 (Finset.mem_univ _) r hr
  obtain ⟨M, hM⟩ := Cert.Windowed.max_real (Finset.univ.fold max (⊥ : EReal) e₁) (Finset.univ.fold max (⊥ : EReal) e₂) z
    (Cert.Windowed.fold_ne_top Finset.univ e₁ fun j _ => n₁ j) N hN n₃
  unfold attend
  generalize hP : peak (near mask q k) (far q kx) s = p
  have hp : p (ix2 R 0) = (M : EReal) := by
    rw [← hP, peak_at]
    simp only [hn, hf, hs]
    exact hM
  rw [finish_at, sums_at, sums_at]
  simp only [hn, hf, hs, hp, hx, hy]
  have one : ∑ j : Fin 384, Ideal.exp (e₁ j - (M : EReal)) * v (ix2 j ⟨l.val + 64, by omega⟩)
      = ∑ j : Fin 384, Ideal.exp (e₁ j - (M : EReal)) * 1 := Finset.sum_congr rfl fun j _ => by
    rcases hw j with h | h
    · rw [h, Cert.Windowed.exp_sub ⊥ bot_ne_top]
      simp [Cert.Windowed.wt]
    · rw [h]
  rw [one]
  refine (Cert.Windowed.late e₁ e₂ z n₁ n₂' n₃ 0 r hr (fun j => v (ix2 j ⟨l.val, by omega⟩)) v₂ M).trans ?_
  exact Cert.Windowed.mean_congr e₁ e₂ z _ v₁ v₂ hv

theorem row_of (x : FVec Ideal S2x16384x4x64 .f32) (b : Fin 2) (n : ℕ) (g : Fin 4) (d : Fin 64) (h : n < 16384) :
    row x b n g d = x (ix4 b ⟨n, h⟩ g d) := dif_pos h

/-- A product over 128 lanes, those from 64 on zero. -/
theorem halves (q k : Fin 64 → EReal) (Q K : Fin 128 → EReal)
    (hQ : ∀ d, Q d = if h : d.val < 64 then q ⟨d.val, h⟩ else 0) (hK : ∀ d, K d = if h : d.val < 64 then k ⟨d.val, h⟩ else 0) :
    ∑ d, Q d * K d = ∑ d, q d * k d := by
  refine (Fin.sum_univ_add (a := 64) (b := 64) fun d => Q d * K d).trans ?_
  have z : ∑ d : Fin 64, Q (Fin.natAdd 64 d) * K (Fin.natAdd 64 d) = 0 := Finset.sum_eq_zero fun d _ => by
    have h : ¬ (Fin.natAdd 64 d).val < 64 := by simp
    rw [hQ, dif_neg h, zero_mul]
  rw [z, add_zero]
  refine Finset.sum_congr rfl fun d _ => ?_
  rw [hQ, hK, dif_pos (show (Fin.castAdd 64 d).val < 64 from d.isLt), dif_pos (show (Fin.castAdd 64 d).val < 64 from d.isLt)]
  rfl

/-- A place of the band is a block and a row of it. -/
theorem place (j : Fin 384) : ∃ (w : Fin 3) (s : Fin 128), j = ⟨128 * w.val + s.val, by omega⟩ :=
  ⟨⟨j.val / 128, by omega⟩, ⟨j.val % 128, by omega⟩, Fin.ext (by show j.val = 128 * (j.val / 128) + j.val % 128; omega)⟩

theorem mask_sees (i r : Fin 128) (u : Fin 3) (j : Fin 384) : mask (BitVec.ofNat 32 i.val) (ix2 ⟨128 * u.val + r.val, by omega⟩ j) = 1#1 ↔ Sees i r j := by
  obtain ⟨w, s, rfl⟩ := place j
  refine (mask_at i.val (by omega) u r w s).trans ?_
  have hw := w.isLt
  have hs := s.isLt
  have hi' := i.isLt
  have hr := r.isLt
  show _ ↔ (r.val ≤ 128 * w.val + s.val ∧ 128 * w.val + s.val ≤ r.val + 256)
    ∧ 128 ≤ i.val * 128 + (128 * w.val + s.val) ∧ i.val * 128 + (128 * w.val + s.val) < 16512
  constructor <;> intro h <;> omega

/-- The sinks of a group. -/
theorem group_sink (m : (ℓ : Loc nD τ sig) → Buf (Elt Ideal) ℓ) (c : Dev nD) (t : Fin cfg0.N) (r : Fin 128) (g : Fin 4) (u : Fin 3) : column (sink (iblk m c 0 t) (g.val * 3) (by omega)) (sink (iblk m c 0 t) (g.val * 3 + 1) (by omega))
    (sink (iblk m c 0 t) (g.val * 3 + 2) (by omega)) (ix2 ⟨128 * u.val + r.val, by omega⟩ 0)
    = arg5 m c (ix1 ⟨g.val * 3 + u.val, by omega⟩) := by
  refine (column_at (fun w : Fin 3 => sink (iblk m c 0 t) (g.val * 3 + w.val) (by omega)) u r).trans ?_
  exact (sink_at _ _ _).trans ((sinks_block m c t _).trans (sinks_at m c _))

variable (m : (ℓ : Loc nD τ sig) → Buf (Elt Ideal) ℓ) (c : Dev nD) (t : Fin cfg0.N) (b : Fin 2) (i : Fin 128)
  (hb : (grid0.coords t 0).val = b.val) (hi : (grid0.coords t 1).val = i.val) (r : Fin 128) (g : Fin 4) (u : Fin 3)

include hb hi in
/-- A group's queries. -/
theorem group_queries (d : Fin 128) :
    cat (qhead (iblk m c 1 t) (g.val * 3) (by omega)) (qhead (iblk m c 1 t) (g.val * 3 + 1) (by omega))
      (qhead (iblk m c 1 t) (g.val * 3 + 2) (by omega)) (ix2 ⟨128 * u.val + r.val, by omega⟩ d)
      = if h : d.val < 64 then query (arg0 m c) b i r g u ⟨d.val, h⟩ * ((1 / 8 : ℝ) : EReal) else 0 := by
  refine (cat_at (fun w : Fin 3 => qhead (iblk m c 1 t) (g.val * 3 + w.val) (by omega)) u r d).trans ?_
  refine (qhead_at _ _ _ r d).trans ((queries_block m c t b i hb hi r _).trans ?_)
  refine (queries_at m c b ⟨i.val * 128 + r.val, by omega⟩ ⟨g.val * 3 + u.val, by omega⟩ d).trans ?_
  rw [Cert.Reference4Ideal.Window.scale]
  rfl

include hb hi in
/-- A group's keys, where seen. -/
theorem group_keys (j : Fin 384) (hj : Sees i r j) (d : Fin 128) :
    cat (khead (iblk m c 2 t) g.val g.isLt) (khead (iblk m c 3 t) g.val g.isLt) (khead (iblk m c 4 t) g.val g.isLt) (ix2 j d)
      = if h : d.val < 64 then row (arg1 m c) b (i.val * 128 + j.val - 128) g ⟨d.val, h⟩ else 0 := by
  obtain ⟨w, s, rfl⟩ := place j
  have h1 : 128 ≤ i.val * 128 + (128 * w.val + s.val) := hj.2.1
  have h2 : i.val * 128 + (128 * w.val + s.val) < 16512 := hj.2.2
  have hn : i.val * 128 + (128 * w.val + s.val) - 128 < 16384 := by omega
  refine (cat_at (fun w : Fin 3 => khead ((![iblk m c 2 t, iblk m c 3 t, iblk m c 4 t] : Fin 3 → Vec Ideal S128x512 .bf16) w)
    g.val g.isLt) w s d).trans ?_
  refine (khead_at _ _ _ s d).trans ((keys_block m c t b i hb hi w s ⟨g.val * 128 + d.val, by omega⟩ (by omega) (by omega) _ rfl rfl rfl
    ⟨b.val * 16640 + (i.val * 128 + (128 * w.val + s.val) - 128), by omega⟩
    (by show b.val * 16640 + (i.val * 128 + (128 * w.val + s.val) - 128) + 128 = _; omega)).trans ?_)
  refine (keys_at m c b ⟨i.val * 128 + (128 * w.val + s.val) - 128, by omega⟩ g d).trans ?_
  by_cases hd : d.val < 64
  · refine (dif_pos hd).trans ((dif_pos hn).trans (Eq.trans ?_ (dif_pos hd).symm))
    exact (row_of _ b _ g _ hn).symm
  · refine (dif_neg hd).trans ?_
    rw [dif_neg hd]

include hb hi in
/-- A group's values, where seen. -/
theorem group_values (j : Fin 384) (hj : Sees i r j) (d : Fin 128) :
    cat (khead (iblk m c 6 t) g.val g.isLt) (khead (iblk m c 7 t) g.val g.isLt) (khead (iblk m c 8 t) g.val g.isLt) (ix2 j d)
      = if h : d.val < 64 then row (arg2 m c) b (i.val * 128 + j.val - 128) g ⟨d.val, h⟩ else 1 := by
  obtain ⟨w, s, rfl⟩ := place j
  have h1 : 128 ≤ i.val * 128 + (128 * w.val + s.val) := hj.2.1
  have h2 : i.val * 128 + (128 * w.val + s.val) < 16512 := hj.2.2
  have hn : i.val * 128 + (128 * w.val + s.val) - 128 < 16384 := by omega
  refine (cat_at (fun w : Fin 3 => khead ((![iblk m c 6 t, iblk m c 7 t, iblk m c 8 t] : Fin 3 → Vec Ideal S128x512 .bf16) w)
    g.val g.isLt) w s d).trans ?_
  refine (khead_at _ _ _ s d).trans ((values_block m c t b i hb hi w s ⟨g.val * 128 + d.val, by omega⟩ (by omega) (by omega) _ rfl rfl rfl
    ⟨b.val * 16640 + (i.val * 128 + (128 * w.val + s.val) - 128), by omega⟩
    (by show b.val * 16640 + (i.val * 128 + (128 * w.val + s.val) - 128) + 128 = _; omega)).trans ?_)
  refine (values_at m c b ⟨i.val * 128 + (128 * w.val + s.val) - 128, by omega⟩ g d).trans ?_
  by_cases hd : d.val < 64
  · refine (dif_pos hd).trans ((dif_pos hn).trans (Eq.trans ?_ (dif_pos hd).symm))
    exact (row_of _ b _ g _ hn).symm
  · refine (dif_neg hd).trans ?_
    rw [dif_neg hd]

include hb in
/-- The context's keys of a group. -/
theorem group_xkeys (x : Fin 256) (d : Fin 128) : xhead (iblk m c 5 t) g.val g.isLt (ix2 x d)
    = if h : d.val < 64 then (arg3 m c (ix4 b x g ⟨d.val, h⟩) : EReal) else 0 := by
  refine (xhead_at _ _ _ x d).trans ((xkeys_block m c t b hb x ⟨g.val * 128 + d.val, by omega⟩).trans ?_)
  refine (keys_at m c b ⟨16384 + x.val, by omega⟩ g d).trans ?_
  by_cases hd : d.val < 64
  · refine (dif_pos hd).trans ((dif_neg (Nat.not_lt.2 (Nat.le_add_right _ _))).trans (Eq.trans ?_ (dif_pos hd).symm))
    exact congrArg (fun z : Fin 256 => (arg3 m c (ix4 b z g ⟨d.val, hd⟩) : EReal)) (Fin.ext (Nat.add_sub_cancel_left ..))
  · refine (dif_neg hd).trans ?_
    rw [dif_neg hd]

include hb in
/-- The context's values of a group. -/
theorem group_xvalues (x : Fin 256) (d : Fin 128) : xhead (iblk m c 9 t) g.val g.isLt (ix2 x d)
    = if h : d.val < 64 then (arg4 m c (ix4 b x g ⟨d.val, h⟩) : EReal) else 1 := by
  refine (xhead_at _ _ _ x d).trans ((xvalues_block m c t b hb x ⟨g.val * 128 + d.val, by omega⟩).trans ?_)
  refine (values_at m c b ⟨16384 + x.val, by omega⟩ g d).trans ?_
  by_cases hd : d.val < 64
  · refine (dif_pos hd).trans ((dif_neg (Nat.not_lt.2 (Nat.le_add_right _ _))).trans (Eq.trans ?_ (dif_pos hd).symm))
    exact congrArg (fun z : Fin 256 => (arg4 m c (ix4 b z g ⟨d.val, hd⟩) : EReal)) (Fin.ext (Nat.add_sub_cancel_left ..))
  · refine (dif_neg hd).trans ?_
    rw [dif_neg hd]

variable (h0 : ∀ b n h d, ∃ r : ℝ, arg0 m c (ix4 b n h d) = ((r : ℝ) : EReal)) (h1 : ∀ b n h d, ∃ r : ℝ, arg1 m c (ix4 b n h d) = ((r : ℝ) : EReal))
  (h3 : ∀ b n h d, ∃ r : ℝ, arg3 m c (ix4 b n h d) = ((r : ℝ) : EReal)) (h5 : ∀ h, arg5 m c (ix1 h) ≠ (⊤ : EReal))

include hb hi h0 h1 h3 h5 in
/-- THE BLOCK's value at a row, a head and a lane. -/
theorem block_at (l : Fin 64) : outsAt0 m c t (ix2 r ⟨(g.val * 3 + u.val) * 128 + l.val, by omega⟩)
    = attended (arg0 m c) (arg1 m c) (arg2 m c) (arg3 m c) (arg4 m c) (arg5 m c) b i r g u l := by
  refine (outs_at m c t r g u ⟨l.val, by omega⟩).trans ?_
  unfold groupAt group attended
  rw [hi]
  refine attend_at _ _ _ _ _ _ _ _ l _ _ _ _ _ (fun j => ?_) (fun x => ?_) (group_sink m c t r g u)
    (Cert.Reference4Ideal.Window.bandScore_ne_top (arg0 m c) (arg1 m c) b i r g u h0 h1)
    (Cert.Reference4Ideal.Window.ctxScore_real (arg0 m c) (arg3 m c) b i r g u h0 h3) (h5 _) (fun j => ?_) (fun j => ?_)
    (fun x => ?_) (fun x => ?_)
  · rw [near_at]
    unfold bandScore
    by_cases h : Sees i r j
    · rw [if_pos ((mask_sees i r u j).2 h), if_pos h]
      exact halves _ _ _ _ (group_queries m c t b i hb hi r g u) (group_keys m c t b i hb hi r g j h)
    · rw [if_neg (fun h' => h ((mask_sees i r u j).1 h')), if_neg h]
  · rw [far_at]
    exact halves _ _ _ _ (group_queries m c t b i hb hi r g u) (group_xkeys m c t b hb g x)
  · by_cases h : Sees i r j
    · exact .inr ((group_values m c t b i hb hi r g j h _).trans (dif_pos l.isLt))
    · exact .inl (if_neg h)
  · by_cases h : Sees i r j
    · exact .inr ((group_values m c t b i hb hi r g j h _).trans (dif_neg (Nat.not_lt.2 (Nat.le_add_left _ _))))
    · exact .inl (if_neg h)
  · exact (group_xvalues m c t b hb g x _).trans (dif_pos l.isLt)
  · exact (group_xvalues m c t b hb g x _).trans (dif_neg (Nat.not_lt.2 (Nat.le_add_left _ _)))

end Cert.Kernel4Ideal.Window

end
-- ==== Proof.WindowResult.lean ====
/-
  The windowed attention's run with its result read, equal to the reference's result.
-/
module

public import proofs.«01_k».proof.Proof.WindowValue
public import Idealize.ShloMosaic.Lib.Pipeline.FrameSuffix

@[expose] public section

noncomputable section

namespace Cert.Kernel4Ideal.Window

open Idealize.ShloMosaic Idealize.ShloMosaic.TcCoe Cert.Kernel4Ideal.Gen Idealize.SL.Sem
open Cert.Reference4Ideal.Window (attended)

variable (m : (ℓ : Loc nD τ sig) → Buf (Elt Ideal) ℓ) (c : Dev nD)

/-- What is kept of the array of results: the latent tokens, the heads' lanes below 64. -/
def kept (x : FVec Ideal S33280x1536 .bf16) : FVec Ideal S2x16384x768 .bf16 :=
  shapeCast S2x16384x768 (extractStridedSlice S2x16384x12x64 ![0, 0, 0, 0]
    (shapeCast S2x16640x12x128 x shapeCasts_S33280x1536_S2x16640x12x128) slices_S2x16640x12x128_S2x16384x12x64_0_0_0_0)
    shapeCasts_S2x16384x12x64_S2x16384x768

theorem kept_at (x : FVec Ideal S33280x1536 .bf16) (b : Fin 2) (n : Fin 16384) (h : Fin 12) (l : Fin 64) :
    kept x (ix3 b n ⟨h.val * 64 + l.val, by omega⟩) = x (ix2 ⟨b.val * 16640 + n.val, by omega⟩ ⟨h.val * 128 + l.val, by omega⟩) := by
  pointwise [kept]

/-- Two windows on one array are windows of arguments. -/
theorem input_of_shared : ∀ w w' : Fin cfg0.W, w ≠ w' → Pipeline.arrRef spec0 w = Pipeline.arrRef spec0 w' → (cfg0.win w).isOut = false := by
  decide

/-- The kernel's result at an index: the array of results at the token's row and the head's lane. -/
theorem suffix_at (b : Fin 2) (n : Fin 16384) (h : Fin 12) (l : Fin 64) :
    Pipeline.afterTail₀ cfgs (dats m) 0 (V0 m) [hostOps1] c main_v17 (ix3 b n ⟨h.val * 64 + l.val, by omega⟩)
      = (dats m 0 c).arrAt 10 cfg0.N (ix2 ⟨b.val * 16640 + n.val, by omega⟩ ⟨h.val * 128 + l.val, by omega⟩) := by
  unfold Pipeline.afterTail₀
  simp only [hostOps1, List.flatten_cons, List.flatten_nil, List.append_nil, List.cons_append, List.nil_append]
  have e : Pipeline.withArrays spec0 c (V0 m c) (fun w => (dats m 0 c).arrAt w cfg0.N) (Proc.devRef .tc main_v14)
      = (dats m 0 c).arrAt 10 cfg0.N := Pipeline.withArrays_arr_shared spec0 c (V0 m c) _
        (fun w w' hne e => ((dats m 0 c).arrAt_in w (input_of_shared w w' hne e) _).trans (A_eq m c w)) 10
  after_reads_simp
  show kept (Pipeline.withArrays spec0 c (V0 m c) (fun w => (dats m 0 c).arrAt w cfg0.N) (Proc.devRef .tc main_v14)) _ = _
  exact (kept_at _ b n h l).trans (congrFun e _)

/-- Every index of a result is a token's head's lane. -/
theorem result_index (x : S2x16384x768.Idx) : ∃ (b : Fin 2) (i r : Fin 128) (g : Fin 4) (u : Fin 3) (l : Fin 64),
    x = ix3 b ⟨i.val * 128 + r.val, by omega⟩ ⟨(g.val * 3 + u.val) * 64 + l.val, by omega⟩ := by
  have h0 : (x 0).val < 2 := (x 0).isLt
  have h1 : (x 1).val < 16384 := (x 1).isLt
  have h2 : (x 2).val < 768 := (x 2).isLt
  refine ⟨⟨(x 0).val, h0⟩, ⟨(x 1).val / 128, by omega⟩, ⟨(x 1).val % 128, by omega⟩, ⟨(x 2).val / 192, by omega⟩,
    ⟨(x 2).val / 64 % 3, by omega⟩, ⟨(x 2).val % 64, by omega⟩, funext fun a => Fin.ext ?_⟩
  match a with
  | ⟨0, _⟩ => rfl
  | ⟨1, _⟩ =>
    show (x 1).val = (x 1).val / 128 * 128 + (x 1).val % 128
    omega
  | ⟨2, _⟩ =>
    show (x 2).val = ((x 2).val / 192 * 3 + (x 2).val / 64 % 3) * 64 + (x 2).val % 64
    omega

/-- The lanes below 64 of a head's 128, as three numbers. -/
theorem lane_eq (k : Fin 1536) (g g' : Fin 4) (u u' : Fin 3) (l l' : Fin 64) (h : k.val = (g.val * 3 + u.val) * 128 + l.val)
    (h' : k.val = (g'.val * 3 + u'.val) * 128 + l'.val) : g = g' ∧ u = u' ∧ l = l' := by
  refine ⟨Fin.ext ?_, Fin.ext ?_, Fin.ext ?_⟩ <;> omega

/-- THE RESULT: what the kernel leaves is the reference's result of its arguments. -/
theorem result_eq (h0 : ∀ b n h d, ∃ r : ℝ, arg0 m c (ix4 b n h d) = ((r : ℝ) : EReal))
    (h1 : ∀ b n h d, ∃ r : ℝ, arg1 m c (ix4 b n h d) = ((r : ℝ) : EReal))
    (h3 : ∀ b n h d, ∃ r : ℝ, arg3 m c (ix4 b n h d) = ((r : ℝ) : EReal)) (h5 : ∀ h, arg5 m c (ix1 h) ≠ (⊤ : EReal)) :
    Pipeline.afterTail₀ cfgs (dats m) 0 (V0 m) [hostOps1] c main_v17
      = Cert.Reference4Ideal.Window.out (arg0 m c) (arg1 m c) (arg2 m c) (arg3 m c) (arg4 m c) (arg5 m c) := by
  refine funext fun (x : S2x16384x768.Idx) => ?_
  obtain ⟨b, i, r, g, u, l, rfl⟩ := result_index x
  refine (suffix_at m c b ⟨i.val * 128 + r.val, by omega⟩ ⟨g.val * 3 + u.val, by omega⟩ l).trans (Eq.trans ?_
    (Cert.Reference4Ideal.Window.reference_at (arg0 m c) (arg1 m c) (arg2 m c) (arg3 m c) (arg4 m c) (arg5 m c) b i r g u l h0 h1 h3 h5).symm)
  refine out_array m c (fun b i r k v => ∀ (g : Fin 4) (u : Fin 3) (l : Fin 64), k.val = (g.val * 3 + u.val) * 128 + l.val →
    v = attended (arg0 m c) (arg1 m c) (arg2 m c) (arg3 m c) (arg4 m c) (arg5 m c) b i r g u l)
    (fun t b i r k hb hi g u l hk => ?_) b i r ⟨(g.val * 3 + u.val) * 128 + l.val, by omega⟩ g u l rfl
  have e : k = ⟨(g.val * 3 + u.val) * 128 + l.val, hk.symm.trans_lt k.isLt⟩ := Fin.ext hk
  rw [e]
  exact block_at m c t b i hb hi r g u h0 h1 h3 h5 l

/-- The kernel's run, its result read and its arguments unchanged. -/
theorem value_run (m : (ℓ : Loc nD τ sig) → Buf (Elt Ideal) ℓ) (ρ : Dev nD → PrngReg) (h0 : ∀ c b n h d, ∃ r : ℝ, arg0 m c (ix4 b n h d) = ((r : ℝ) : EReal))
    (h1 : ∀ c b n h d, ∃ r : ℝ, arg1 m c (ix4 b n h d) = ((r : ℝ) : EReal))
    (h3 : ∀ c b n h d, ∃ r : ℝ, arg3 m c (ix4 b n h d) = ((r : ℝ) : EReal)) (h5 : ∀ c h, arg5 m c (ix1 h) ≠ (⊤ : EReal)) :
    θ_run defs (onTc (τ := τ) (main (F := Ideal))) ⟨m, fun _ => 0, ρ⟩ (fun r => ∀ c : Dev nD,
      r.2.mem ((c.tc : Thread nD τ).loc main_v17)
        = Cert.Reference4Ideal.Window.out (arg0 m c) (arg1 m c) (arg2 m c) (arg3 m c) (arg4 m c) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v17 (by decide)).trans (result_eq m c (h0 c) (h1 c) (h3 c) (h5 c)), h.2 c⟩)
    (θ_run_and (run_main m ρ) (unchanged m ρ))

end Cert.Kernel4Ideal.Window

end
-- ==== Proof.WindowPre.lean ====
/-
  The windowed attention's precondition, read: its queries and its keys are real numbers, and no sink is plus infinity.
-/
module

public import proofs.«01_k».proof.Proof.Pre
public import proofs.«01_k».proof.Pre_finite_scores

@[expose] public section

noncomputable section

namespace Cert.Pre_finite_scores

open Idealize.ShloMosaic

/-- Sinks that pass the test are below infinity. -/
theorem sink_of_test {n : ℕ} (x : FVec Ideal ⟨1, ![n]⟩ .f32) (hb : Shape.BroadcastsInDim S_ ⟨1, ![n]⟩ ![])
    (h : cmpf .olt x (broadcastInDim ⟨1, ![n]⟩ ![] hb (constant (F := Ideal) S_ .f32 0x7F800000#32)) = fun _ => 1#1) (i : Fin n) :
    x (ix1 i) ≠ (⊤ : EReal) := by
  have e : Ideal.cmp .olt (x (ix1 i) : EReal) (Ideal.ofBits .f32 0x7F800000#32) = 1#1 := by
    have := congrFun h (ix1 i)
    revert this
    pointwise
    intro this
    exact this
  rw [Cert.Pre_finite_qk.ofBits_top] at e
  intro ht
  rw [ht] at e
  simp [Ideal.cmp] at e

/-- The precondition's four tests. -/
theorem real_of_pre [Facts] (a0 : FVec Ideal S2x16384x12x64 .f32) (a1 a2 : FVec Ideal S2x16384x4x64 .f32)
    (a3 a4 : FVec Ideal S2x256x4x64 .f32) (a5 : FVec Ideal S12 .f32)
    (h : (fn a0 a1 a2 a3 a4 a5).1 = (fun _ => 1#1) ∧ (fn a0 a1 a2 a3 a4 a5).2.1 = (fun _ => 1#1)
      ∧ (fn a0 a1 a2 a3 a4 a5).2.2.1 = (fun _ => 1#1) ∧ (fn a0 a1 a2 a3 a4 a5).2.2.2 = (fun _ => 1#1)) :
    (∀ b n h d, ∃ r : ℝ, a0 (ix4 b n h d) = ((r : ℝ) : EReal)) ∧ (∀ b n h d, ∃ r : ℝ, a1 (ix4 b n h d) = ((r : ℝ) : EReal))
      ∧ (∀ b n h d, ∃ r : ℝ, a3 (ix4 b n h d) = ((r : ℝ) : EReal)) ∧ ∀ h, a5 (ix1 h) ≠ (⊤ : EReal) :=
  ⟨Cert.Pre_finite_qk.real_of_test a0 _ h.1, Cert.Pre_finite_qk.real_of_test a1 _ h.2.1,
    Cert.Pre_finite_qk.real_of_test a3 _ h.2.2.1, sink_of_test a5 _ h.2.2.2⟩

end Cert.Pre_finite_scores
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result
public import proofs.«01_k».proof.Proof.Pre
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.ExpertsPre
public import proofs.«01_k».proof.Proof.ExpertsResult
public import proofs.«01_k».proof.Proof.Final
public import proofs.«01_k».proof.Proof.WindowResult
public import proofs.«01_k».proof.Proof.WindowPre
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Kernel3Ideal.Points
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Points
public import Idealize.ShloMosaic.Lib.Quiescent
public import Idealize.ShloMosaic.Adequacy
public import Idealize.ShloMosaic.Init

@[expose] public section

noncomputable section

namespace Cert.Proof

open Idealize.ShloMosaic Idealize.SL.Sem

/-- The shapes' relations the precondition states. -/
theorem pre_facts : Cert.Pre_finite_qk.Facts where
  bcast_S_S2x16384x8x96 := by decide
  bcast_S_S2x256x8x96 := by decide

instance : Cert.Pre_finite_qk.Facts := pre_facts

/-- The two programs' body tables have one text. -/
theorem body_table : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So do their tables of procedures. -/
theorem table : Cert.Kernel.defs (F := Bits) = Cert.KernelIdeal.defs (F := Bits) :=
  congrArg (Pipeline.defs Cert.KernelIdeal.pcfgs) body_table

/-- The kernel's frame at the machine's own floats: the run over any values, the two programs having one text. -/
theorem frame_kernel : Cert.quiescent_Kernel := by
  intro m ρ _
  rw [table]
  exact Cert.KernelIdeal.Latent.frame_run (F := Bits) m ρ

/-- The kernel's frame at the ideal values. -/
theorem frame_ideal : Cert.quiescent_KernelIdeal := fun m ρ _ => Cert.KernelIdeal.Latent.frame_run (F := Ideal) m ρ

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The equation of the results, where the queries and the keys are finite. -/
theorem equal : Cert.algebraic_KernelIdeal_ReferenceIdeal_pre_finite_qk := fun m g m' g' hp ha => by
  have hr := fun c => Cert.Pre_finite_qk.real_of_pre _ _ _ _ _ (hp c)
  refine ⟨fun c => Cert.ReferenceIdeal.Latent.out (Cert.KernelIdeal.Latent.arg0 m c) (Cert.KernelIdeal.Latent.arg1 m c)
    (Cert.KernelIdeal.Latent.arg2 m c) (Cert.KernelIdeal.Latent.arg3 m c) (Cert.KernelIdeal.Latent.arg4 m c),
    Cert.KernelIdeal.Latent.value_run m g (fun c => (hr c).1) (fun c => (hr c).2.1) (fun c => (hr c).2.2),
    (θ_run _ _ _).mono (fun r h c => ⟨(h c).1.trans ?_, (h c).2⟩) (Cert.ReferenceIdeal.Latent.run m' g')⟩
  obtain ⟨e0, e1, e2, e3, e4⟩ := ha c
  rw [e0, e1, e2, e3, e4]
  rfl

/-- The shapes' relations the experts' preconditions state. -/
theorem exist_facts : Cert.Pre_experts_exist.Facts where
  bcast_S_S154 := by decide
theorem routed_facts : Cert.Pre_routed.Facts where
  bcast_S_S154 := by decide
  bcast_S_S39424x2 := by decide

instance : Cert.Pre_experts_exist.Facts := exist_facts
instance : Cert.Pre_routed.Facts := routed_facts

/-- The experts' two programs have one text too. -/
theorem body_table2 : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl

theorem table2 : Cert.Kernel2.defs (F := Bits) = Cert.Kernel2Ideal.defs (F := Bits) :=
  congrArg (Pipeline.defs Cert.Kernel2Ideal.pcfgs) body_table2

set_option maxHeartbeats 2000000 in
/-- The experts' frame at the machine's own floats, the tables naming experts that exist. -/
theorem frame_kernel2 : Cert.quiescent_Kernel2 := by
  intro m ρ hp
  have h := Cert.Routing.experts_of_pre _ _ _ _ _ _ _ _ (hp 0)
  have hO : Cert.Kernel2Ideal.Experts.Ok (F := Bits) m := Cert.Kernel2Ideal.Experts.ok_of_args (F := Bits) m h.1 h.2
  rw [table2]
  exact Cert.Kernel2Ideal.Experts.frame_run (F := Bits) m ρ hO

/-- The same at the ideal values. -/
theorem frame_ideal2 : Cert.quiescent_Kernel2Ideal := fun m ρ hp =>
  have h := Cert.Routing.experts_of_pre _ _ _ _ _ _ _ _ (hp 0)
  Cert.Kernel2Ideal.Experts.frame_run (F := Ideal) m ρ (Cert.Kernel2Ideal.Experts.ok_of_args (F := Ideal) m h.1 h.2)

/-- The same under the equality's precondition. -/
theorem frame_routed2 : Cert.quiescent_Kernel2Ideal_pre_routed := fun m ρ hp =>
  have h := Cert.Routing.routed_of_pre _ _ _ _ _ _ _ _ (hp 0)
  Cert.Kernel2Ideal.Experts.frame_run (F := Ideal) m ρ (Cert.Kernel2Ideal.Experts.ok_of_args (F := Ideal) m h.1 h.2.1)

/-- The experts' reference's frame. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Experts.run m ρ)

/-- The equation of the experts' results. -/
theorem equal2 : Cert.algebraic_Kernel2Ideal_Reference2Ideal_pre_routed := fun m g m' g' hp ha => by
  have hr := fun c => Cert.Routing.routed_of_pre _ _ _ _ _ _ _ _ (hp c)
  refine ⟨fun c => Cert.Kernel2Ideal.Experts.want m c,
    Cert.Kernel2Ideal.Experts.value_run m g (fun c => (hr c).1) (fun c => (hr c).2.1) (fun c => (hr c).2.2),
    (θ_run _ _ _).mono (fun r h c => ⟨(h c).1.trans ?_, (h c).2⟩) (Cert.Reference2Ideal.Experts.run m' g')⟩
  obtain ⟨e0, e1, e2, e3, e4, e5, e6, e7⟩ := ha c
  rw [e0, e1, e2, e3, e4, e5, e6, e7]
  rfl

/-- The residual sum's two programs have one text too. -/
theorem body_table3 : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl

theorem table3 : Cert.Kernel3.defs (F := Bits) = Cert.Kernel3Ideal.defs (F := Bits) :=
  congrArg (Pipeline.defs Cert.Kernel3Ideal.pcfgs) body_table3

/-- The residual sum's frame at the machine's own floats. -/
theorem frame_kernel3 : Cert.quiescent_Kernel3 := by
  intro m ρ _
  rw [table3]
  exact Cert.Kernel3Ideal.Gen.frame (F := Bits) m ρ

/-- The same at the ideal values. -/
theorem frame_ideal3 : Cert.quiescent_Kernel3Ideal := fun m ρ _ => Cert.Kernel3Ideal.Gen.frame (F := Ideal) m ρ

/-- The residual sum's reference's frame. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The equation of the residual sums. -/
theorem equal3 : Cert.algebraic_Kernel3Ideal_Reference3Ideal := fun m g m' g' _ ha => by
  refine ⟨fun c => Cert.Reference3Ideal.Final.out (Cert.Kernel3Ideal.Final.arg0 m c) (Cert.Kernel3Ideal.Final.arg1 m c)
    (Cert.Kernel3Ideal.Final.arg2 m c), Cert.Kernel3Ideal.Final.value_run m g,
    (θ_run _ _ _).mono (fun r h c => ⟨(h c).1.trans ?_, (h c).2⟩) (Cert.Reference3Ideal.Value.run (F := Ideal) m' g')⟩
  obtain ⟨e0, e1, e2⟩ := ha c
  rw [e0, e1, e2]
  rfl

/-- The shapes' relations the windowed attention's precondition states. -/
theorem scores_facts : Cert.Pre_finite_scores.Facts where
  bcast_S_S2x16384x12x64 := by decide
  bcast_S_S2x16384x4x64 := by decide
  bcast_S_S2x256x4x64 := by decide
  bcast_S_S12 := by decide

instance : Cert.Pre_finite_scores.Facts := scores_facts

/-- The windowed attention's two programs have one text too. -/
theorem body_table4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl

theorem table4 : Cert.Kernel4.defs (F := Bits) = Cert.Kernel4Ideal.defs (F := Bits) :=
  congrArg (Pipeline.defs Cert.Kernel4Ideal.pcfgs) body_table4

set_option maxHeartbeats 4000000 in
/-- The windowed attention's frame at the machine's own floats. -/
theorem frame_kernel4 : Cert.quiescent_Kernel4 := by
  intro m ρ _
  rw [table4]
  exact Cert.Kernel4Ideal.Gen.frame (F := Bits) m ρ

/-- The same at the ideal values. -/
theorem frame_ideal4 : Cert.quiescent_Kernel4Ideal := fun m ρ _ => Cert.Kernel4Ideal.Gen.frame (F := Ideal) m ρ

/-- The windowed attention's reference's frame. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Window.run m ρ)

/-- The equation of the windowed attention's results. -/
theorem equal4 : Cert.algebraic_Kernel4Ideal_Reference4Ideal_pre_finite_scores := fun m g m' g' hp ha => by
  have hr := fun c => Cert.Pre_finite_scores.real_of_pre _ _ _ _ _ _ (hp c)
  refine ⟨fun c => Cert.Reference4Ideal.Window.out (Cert.Kernel4Ideal.Window.arg0 m c) (Cert.Kernel4Ideal.Window.arg1 m c)
    (Cert.Kernel4Ideal.Window.arg2 m c) (Cert.Kernel4Ideal.Window.arg3 m c) (Cert.Kernel4Ideal.Window.arg4 m c)
    (Cert.Kernel4Ideal.Window.arg5 m c),
    Cert.Kernel4Ideal.Window.value_run m g (fun c => (hr c).1) (fun c => (hr c).2.1) (fun c => (hr c).2.2.1) (fun c => (hr c).2.2.2),
    (θ_run _ _ _).mono (fun r h c => ⟨(h c).1.trans ?_, (h c).2⟩) (Cert.Reference4Ideal.Window.run m' g')⟩
  obtain ⟨e0, e1, e2, e3, e4, e5⟩ := ha c
  rw [e0, e1, e2, e3, e4, e5]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, pre_facts, exist_facts, routed_facts, scores_facts,
  frame_kernel, frame_ideal, fun m ρ _ => frame_ideal m ρ trivial, frame_reference, fun m ρ _ => frame_reference m ρ trivial,
  frame_kernel2, frame_ideal2, frame_routed2, frame_reference2, fun m ρ _ => frame_reference2 m ρ trivial,
  frame_kernel3, frame_ideal3, frame_reference3,
  frame_kernel4, frame_ideal4, fun m ρ _ => frame_ideal4 m ρ trivial, frame_reference4, fun m ρ _ => frame_reference4 m ρ trivial,
  trivial, equal, trivial, equal2, trivial, equal3, trivial, equal4⟩

end Cert.Proof

end
